-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4096x11100 : Shape := ⟨2, ![4096, 11100]⟩
abbrev S4096 : Shape := ⟨1, ![4096]⟩
abbrev S4096x3 : Shape := ⟨2, ![4096, 3]⟩
abbrev S4096x1 : Shape := ⟨2, ![4096, 1]⟩
abbrev S_ : Shape := ⟨0, ![]⟩

class Facts : Prop where
  slices_S4096x3_S4096x1_0_0 : S4096x3.Slices ![0, 0] S4096x1
  slices_S4096x3_S4096x1_0_1 : S4096x3.Slices ![0, 1] S4096x1
  bcast_S_S4096x1 : S_.BroadcastsInDim S4096x1 (![] : Fin 0 → Fin S4096x1.rank)
  slices_S4096x3_S4096x1_0_2 : S4096x3.Slices ![0, 2] S4096x1
  bcast_S_S4096x11100 : S_.BroadcastsInDim S4096x11100 (![] : Fin 0 → Fin S4096x11100.rank)
  bcast_S4096x1_S4096x11100_0_1 : S4096x1.BroadcastsInDim S4096x11100 (![0, 1] : Fin 2 → Fin S4096x11100.rank)

variable [Facts]

def fn_part1 {F : FTy → Type} [FloatOps F] (main_arg0 : FVec F S4096x11100 .f32) (main_v4 : IVec S4096x1 32) (main_v9 : IVec S4096x1 32) (main_v17 : IVec S4096x1 1) (main_c_4 : IVec S_ 32) : IVec S4096x11100 1 :=
  let main_v18 : IVec S4096x1 32 := broadcastInDim S4096x1 ![] bcast_S_S4096x1 main_c_4
  let main_v19 : IVec S4096x1 1 := cmpi .slt main_v4 main_v18
  let main_v20 : IVec S4096x1 1 := andi main_v17 main_v19
  let main_c_5 : IVec S_ 32 := constantI S_ 32 0#32
  let main_v21 : IVec S4096x1 32 := broadcastInDim S4096x1 ![] bcast_S_S4096x1 main_c_5
  let main_v22 : IVec S4096x1 1 := cmpi .sge main_v9 main_v21
  let main_v23 : IVec S4096x1 1 := andi main_v20 main_v22
  let main_c_6 : IVec S_ 32 := constantI S_ 32 10#32
  let main_v24 : IVec S4096x1 32 := broadcastInDim S4096x1 ![] bcast_S_S4096x1 main_c_6
  let main_v25 : IVec S4096x1 1 := cmpi .slt main_v9 main_v24
  let main_v26 : IVec S4096x1 1 := andi main_v23 main_v25
  let main_cst : FVec F S_ .f32 := constant S_ .f32 0x7F800000#32
  let main_v27 : FVec F S4096x11100 .f32 := broadcastInDim S4096x11100 ![] bcast_S_S4096x11100 main_cst
  let main_v28 : IVec S4096x11100 1 := cmpf .olt main_arg0 main_v27
  let main_v29 : IVec S4096x11100 1 := broadcastInDim S4096x11100 ![0, 1] bcast_S4096x1_S4096x11100_0_1 main_v26
  let main_v30 : IVec S4096x11100 1 := andi main_v29 main_v28
  main_v30

def fn {F : FTy → Type} [FloatOps F] (main_arg0 : FVec F S4096x11100 .f32) (main_arg1 : IVec S4096 32) (main_arg2 : IVec S4096x3 32) : IVec S4096x11100 1 :=
  let main_v0 : IVec S4096x1 32 := (extractStridedSlice S4096x1 ![0, 0] · slices_S4096x3_S4096x1_0_0) main_arg2
  let main_v1 : IVec S4096x1 32 := (extractStridedSlice S4096x1 ![0, 1] · slices_S4096x3_S4096x1_0_1) main_arg2
  let main_c : IVec S_ 32 := constantI S_ 32 10#32
  let main_v2 : IVec S4096x1 32 := broadcastInDim S4096x1 ![] bcast_S_S4096x1 main_c
  let main_v3 : IVec S4096x1 32 := muli main_v0 main_v2
  let main_v4 : IVec S4096x1 32 := subi main_v1 main_v3
  let main_v5 : IVec S4096x1 32 := (extractStridedSlice S4096x1 ![0, 2] · slices_S4096x3_S4096x1_0_2) main_arg2
  let main_v6 : IVec S4096x1 32 := (extractStridedSlice S4096x1 ![0, 1] · slices_S4096x3_S4096x1_0_1) main_arg2
  let main_c_0 : IVec S_ 32 := constantI S_ 32 10#32
  let main_v7 : IVec S4096x1 32 := broadcastInDim S4096x1 ![] bcast_S_S4096x1 main_c_0
  let main_v8 : IVec S4096x1 32 := muli main_v6 main_v7
  let main_v9 : IVec S4096x1 32 := subi main_v5 main_v8
  let main_c_1 : IVec S_ 32 := constantI S_ 32 0#32
  let main_v10 : IVec S4096x1 32 := broadcastInDim S4096x1 ![] bcast_S_S4096x1 main_c_1
  let main_v11 : IVec S4096x1 1 := cmpi .sge main_v0 main_v10
  let main_c_2 : IVec S_ 32 := constantI S_ 32 100#32
  let main_v12 : IVec S4096x1 32 := broadcastInDim S4096x1 ![] bcast_S_S4096x1 main_c_2
  let main_v13 : IVec S4096x1 1 := cmpi .slt main_v0 main_v12
  let main_v14 : IVec S4096x1 1 := andi main_v11 main_v13
  let main_c_3 : IVec S_ 32 := constantI S_ 32 0#32
  let main_v15 : IVec S4096x1 32 := broadcastInDim S4096x1 ![] bcast_S_S4096x1 main_c_3
  let main_v16 : IVec S4096x1 1 := cmpi .sge main_v4 main_v15
  let main_v17 : IVec S4096x1 1 := andi main_v14 main_v16
  let main_c_4 : IVec S_ 32 := constantI S_ 32 10#32
  fn_part1 (F := F) main_arg0 main_v4 main_v9 main_v17 main_c_4
-- ==== Kernel.lean ====
abbrev S4096x11100 : Shape := ⟨2, ![4096, 11100]⟩
abbrev S4096 : Shape := ⟨1, ![4096]⟩
abbrev S4096x3 : Shape := ⟨2, ![4096, 3]⟩
abbrev S1x1 : Shape := ⟨2, ![1, 1]⟩
abbrev S256x11100 : Shape := ⟨2, ![256, 11100]⟩
abbrev S256x3 : Shape := ⟨2, ![256, 3]⟩
abbrev S256x1 : Shape := ⟨2, ![256, 1]⟩
abbrev S256x1100 : Shape := ⟨2, ![256, 1100]⟩
abbrev S256 : Shape := ⟨1, ![256]⟩
abbrev S256x10076 : Shape := ⟨2, ![256, 10076]⟩
abbrev S256x128 : Shape := ⟨2, ![256, 128]⟩
abbrev S256x9948 : Shape := ⟨2, ![256, 9948]⟩
abbrev S1x256x1 : Shape := ⟨3, ![1, 256, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x11100, .f32⟩
  | .hbm, ⟨1, _⟩ => ⟨S4096, .i32⟩
  | .hbm, ⟨2, _⟩ => ⟨S4096x3, .i32⟩
  | .hbm, ⟨3, _⟩ => ⟨S4096x11100, .f32⟩
  | .hbm, ⟨4, _⟩ => ⟨S1x1, .f32⟩
  | .hbm, ⟨5, _⟩ => ⟨S_, .f32⟩
  | .local _ .vmem, ⟨0, _⟩ => ⟨S256x11100, .f32⟩
  | .local _ .vmem, ⟨1, _⟩ => ⟨S256x11100, .f32⟩
  | .local _ .vmem, ⟨2, _⟩ => ⟨S256x3, .i32⟩
  | .local _ .vmem, ⟨3, _⟩ => ⟨S256x3, .i32⟩
  | .local _ .vmem, ⟨4, _⟩ => ⟨S256x11100, .f32⟩
  | .local _ .vmem, ⟨5, _⟩ => ⟨S256x11100, .f32⟩
  | .local _ .vmem, ⟨6, _⟩ => ⟨S1x1, .f32⟩
  | _, _ => ⟨S4096x11100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x11100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x11100 : Shape := ⟨2, ![4096, 11100]⟩
abbrev S4096 : Shape := ⟨1, ![4096]⟩
abbrev S4096x3 : Shape := ⟨2, ![4096, 3]⟩
abbrev S4096x1 : Shape := ⟨2, ![4096, 1]⟩
abbrev S_ : Shape := ⟨0, ![]⟩
abbrev S10 : Shape := ⟨1, ![10]⟩
abbrev S4096x100 : Shape := ⟨2, ![4096, 100]⟩
abbrev S4096x1x1 : Shape := ⟨3, ![4096, 1, 1]⟩
abbrev S1 : Shape := ⟨1, ![1]⟩
abbrev S1x1x1 : Shape := ⟨3, ![1, 1, 1]⟩
abbrev S1x10 : Shape := ⟨2, ![1, 10]⟩
abbrev S4096x10 : Shape := ⟨2, ![4096, 10]⟩
abbrev S4096x10x1 : Shape := ⟨3, ![4096, 10, 1]⟩
abbrev S4096x1000 : Shape := ⟨2, ![4096, 1000]⟩
abbrev S4096x10000 : Shape := ⟨2, ![4096, 10000]⟩
abbrev S4096x10x2 : Shape := ⟨3, ![4096, 10, 2]⟩

abbrev nBuf : Space → Nat
  | .hbm => 466
  | .vmem => 0
  | .smem => 0
  | _ => 0

abbrev hbmTy0_0 (i : Nat) : BufTy := match i % 128 with
  | 0 => ⟨S4096x11100, .f32⟩
  | 1 => ⟨S4096, .i32⟩
  | 2 => ⟨S4096x3, .i32⟩
  | 3 => ⟨S4096x1, .i32⟩
  | 4 => ⟨S4096, .i32⟩
  | 5 => ⟨S4096x1, .i32⟩
  | 6 => ⟨S4096, .i32⟩
  | 7 => ⟨S4096x1, .i32⟩
  | 8 => ⟨S4096, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096, .i32⟩
  | 17 => ⟨S10, .i32⟩
  | 18 => ⟨S10, .i32⟩
  | 19 => ⟨S4096x100, .f32⟩
  | 20 => ⟨S_, .f32⟩
  | 21 => ⟨S4096, .f32⟩
  | 22 => ⟨S4096, .f32⟩
  | 23 => ⟨S_, .f32⟩
  | 24 => ⟨S4096, .f32⟩
  | 25 => ⟨S4096, .i1⟩
  | 26 => ⟨S_, .f32⟩
  | 27 => ⟨S4096, .f32⟩
  | 28 => ⟨S4096, .f32⟩
  | 29 => ⟨S4096x1, .f32⟩
  | 30 => ⟨S4096x100, .f32⟩
  | 31 => ⟨S4096x100, .f32⟩
  | 32 => ⟨S4096x100, .f32⟩
  | 33 => ⟨S_, .f32⟩
  | 34 => ⟨S4096, .f32⟩
  | 35 => ⟨S4096, .f32⟩
  | 36 => ⟨S4096, .f32⟩
  | 37 => ⟨S4096x1, .i32⟩
  | 38 => ⟨S_, .i32⟩
  | 39 => ⟨S4096x1, .i32⟩
  | 40 => ⟨S4096x1, .i1⟩
  | 41 => ⟨S_, .i32⟩
  | 42 => ⟨S4096x1, .i32⟩
  | 43 => ⟨S4096x1, .i32⟩
  | 44 => ⟨S4096x1, .i32⟩
  | 45 => ⟨S4096x1x1, .i32⟩
  | 46 => ⟨S1, .i32⟩
  | 47 => ⟨S_, .i32⟩
  | 48 => ⟨S4096x1x1, .i32⟩
  | 49 => ⟨S4096x1x1, .i1⟩
  | 50 => ⟨S1x1x1, .i32⟩
  | 51 => ⟨S4096x1x1, .i32⟩
  | 52 => ⟨S4096x1x1, .i1⟩
  | 53 => ⟨S4096x1x1, .i1⟩
  | 54 => ⟨S_, .i1⟩
  | 55 => ⟨S4096x1, .i1⟩
  | 56 => ⟨S4096x1, .f32⟩
  | 57 => ⟨S_, .f32⟩
  | 58 => ⟨S4096x1, .f32⟩
  | 59 => ⟨S4096x1, .f32⟩
  | 60 => ⟨S4096, .f32⟩
  | 61 => ⟨S4096, .f32⟩
  | 62 => ⟨S4096x1, .i32⟩
  | 63 => ⟨S_, .i32⟩
  | 64 => ⟨S4096x1, .i32⟩
  | 65 => ⟨S4096x1, .i32⟩
  | 66 => ⟨S1x10, .i32⟩
  | 67 => ⟨S4096x10, .i32⟩
  | 68 => ⟨S4096x10, .i32⟩
  | 69 => ⟨S4096x10, .i32⟩
  | 70 => ⟨S_, .i32⟩
  | 71 => ⟨S4096x10, .i32⟩
  | 72 => ⟨S4096x10, .i32⟩
  | 73 => ⟨S_, .i32⟩
  | 74 => ⟨S4096x10, .i32⟩
  | 75 => ⟨S4096x10, .i1⟩
  | 76 => ⟨S_, .i32⟩
  | 77 => ⟨S4096x10, .i32⟩
  | 78 => ⟨S4096x10, .i32⟩
  | 79 => ⟨S4096x10, .i32⟩
  | 80 => ⟨S4096x10x1, .i32⟩
  | 81 => ⟨S1, .i32⟩
  | 82 => ⟨S_, .i32⟩
  | 83 => ⟨S4096x10x1, .i32⟩
  | 84 => ⟨S4096x10x1, .i1⟩
  | 85 => ⟨S1x1x1, .i32⟩
  | 86 => ⟨S4096x10x1, .i32⟩
  | 87 => ⟨S4096x10x1, .i1⟩
  | 88 => ⟨S4096x10x1, .i1⟩
  | 89 => ⟨S_, .i1⟩
  | 90 => ⟨S4096x10, .i1⟩
  | 91 => ⟨S4096x10, .f32⟩
  | 92 => ⟨S_, .f32⟩
  | 93 => ⟨S4096x10, .f32⟩
  | 94 => ⟨S4096x10, .f32⟩
  | 95 => ⟨S_, .f32⟩
  | 96 => ⟨S4096, .f32⟩
  | 97 => ⟨S4096, .f32⟩
  | 98 => ⟨S_, .f32⟩
  | 99 => ⟨S4096, .f32⟩
  | 100 => ⟨S4096, .i1⟩
  | 101 => ⟨S_, .f32⟩
  | 102 => ⟨S4096, .f32⟩
  | 103 => ⟨S4096, .f32⟩
  | 104 => ⟨S4096x1, .f32⟩
  | 105 => ⟨S4096x10, .f32⟩
  | 106 => ⟨S4096x10, .f32⟩
  | 107 => ⟨S4096x10, .f32⟩
  | 108 => ⟨S_, .f32⟩
  | 109 => ⟨S4096, .f32⟩
  | 110 => ⟨S4096, .f32⟩
  | 111 => ⟨S4096, .f32⟩
  | 112 => ⟨S4096x1, .i32⟩
  | 113 => ⟨S_, .i32⟩
  | 114 => ⟨S4096x1, .i32⟩
  | 115 => ⟨S4096x1, .i1⟩
  | 116 => ⟨S_, .i32⟩
  | 117 => ⟨S4096x1, .i32⟩
  | 118 => ⟨S4096x1, .i32⟩
  | 119 => ⟨S4096x1, .i32⟩
  | 120 => ⟨S4096x1x1, .i32⟩
  | 121 => ⟨S1, .i32⟩
  | 122 => ⟨S_, .i32⟩
  | 123 => ⟨S4096x1x1, .i32⟩
  | 124 => ⟨S4096x1x1, .i1⟩
  | 125 => ⟨S1x1x1, .i32⟩
  | 126 => ⟨S4096x1x1, .i32⟩
  | 127 => ⟨S4096x1x1, .i1⟩
  | _ => ⟨S4096x11100, .f32⟩

abbrev hbmTy0_1 (i : Nat) : BufTy := match i % 128 with
  | 0 => ⟨S4096x1x1, .i1⟩
  | 1 => ⟨S_, .i1⟩
  | 2 => ⟨S4096x1, .i1⟩
  | 3 => ⟨S4096x1, .f32⟩
  | 4 => ⟨S_, .f32⟩
  | 5 => ⟨S4096x1, .f32⟩
  | 6 => ⟨S4096x1, .f32⟩
  | 7 => ⟨S4096, .f32⟩
  | 8 => ⟨S4096, .f32⟩
  | 9 => ⟨S4096x1, .i32⟩
  | 10 => ⟨S_, .i32⟩
  | 11 => ⟨S4096x1, .i32⟩
  | 12 => ⟨S4096x1, .i32⟩
  | 13 => ⟨S1x10, .i32⟩
  | 14 => ⟨S4096x10, .i32⟩
  | 15 => ⟨S4096x10, .i32⟩
  | 16 => ⟨S4096x10, .i32⟩
  | 17 => ⟨S_, .i32⟩
  | 18 => ⟨S4096x10, .i32⟩
  | 19 => ⟨S4096x10, .i32⟩
  | 20 => ⟨S_, .i32⟩
  | 21 => ⟨S4096x10, .i32⟩
  | 22 => ⟨S4096x10, .i1⟩
  | 23 => ⟨S_, .i32⟩
  | 24 => ⟨S4096x10, .i32⟩
  | 25 => ⟨S4096x10, .i32⟩
  | 26 => ⟨S4096x10, .i32⟩
  | 27 => ⟨S4096x10x1, .i32⟩
  | 28 => ⟨S1, .i32⟩
  | 29 => ⟨S_, .i32⟩
  | 30 => ⟨S4096x10x1, .i32⟩
  | 31 => ⟨S4096x10x1, .i1⟩
  | 32 => ⟨S1x1x1, .i32⟩
  | 33 => ⟨S4096x10x1, .i32⟩
  | 34 => ⟨S4096x10x1, .i1⟩
  | 35 => ⟨S4096x10x1, .i1⟩
  | 36 => ⟨S_, .i1⟩
  | 37 => ⟨S4096x10, .i1⟩
  | 38 => ⟨S4096x10, .f32⟩
  | 39 => ⟨S_, .f32⟩
  | 40 => ⟨S4096x10, .f32⟩
  | 41 => ⟨S4096x10, .f32⟩
  | 42 => ⟨S_, .f32⟩
  | 43 => ⟨S4096, .f32⟩
  | 44 => ⟨S4096, .f32⟩
  | 45 => ⟨S_, .f32⟩
  | 46 => ⟨S4096, .f32⟩
  | 47 => ⟨S4096, .i1⟩
  | 48 => ⟨S_, .f32⟩
  | 49 => ⟨S4096, .f32⟩
  | 50 => ⟨S4096, .f32⟩
  | 51 => ⟨S4096x1, .f32⟩
  | 52 => ⟨S4096x10, .f32⟩
  | 53 => ⟨S4096x10, .f32⟩
  | 54 => ⟨S4096x10, .f32⟩
  | 55 => ⟨S_, .f32⟩
  | 56 => ⟨S4096, .f32⟩
  | 57 => ⟨S4096, .f32⟩
  | 58 => ⟨S4096, .f32⟩
  | 59 => ⟨S4096x1, .i32⟩
  | 60 => ⟨S_, .i32⟩
  | 61 => ⟨S4096x1, .i32⟩
  | 62 => ⟨S4096x1, .i1⟩
  | 63 => ⟨S_, .i32⟩
  | 64 => ⟨S4096x1, .i32⟩
  | 65 => ⟨S4096x1, .i32⟩
  | 66 => ⟨S4096x1, .i32⟩
  | 67 => ⟨S4096x1x1, .i32⟩
  | 68 => ⟨S1, .i32⟩
  | 69 => ⟨S_, .i32⟩
  | 70 => ⟨S4096x1x1, .i32⟩
  | 71 => ⟨S4096x1x1, .i1⟩
  | 72 => ⟨S1x1x1, .i32⟩
  | 73 => ⟨S4096x1x1, .i32⟩
  | 74 => ⟨S4096x1x1, .i1⟩
  | 75 => ⟨S4096x1x1, .i1⟩
  | 76 => ⟨S_, .i1⟩
  | 77 => ⟨S4096x1, .i1⟩
  | 78 => ⟨S4096x1, .f32⟩
  | 79 => ⟨S_, .f32⟩
  | 80 => ⟨S4096x1, .f32⟩
  | 81 => ⟨S4096x1, .f32⟩
  | 82 => ⟨S4096, .f32⟩
  | 83 => ⟨S4096, .f32⟩
  | 84 => ⟨S4096x1000, .f32⟩
  | 85 => ⟨S_, .f32⟩
  | 86 => ⟨S4096, .f32⟩
  | 87 => ⟨S4096, .f32⟩
  | 88 => ⟨S_, .f32⟩
  | 89 => ⟨S4096, .f32⟩
  | 90 => ⟨S4096, .i1⟩
  | 91 => ⟨S_, .f32⟩
  | 92 => ⟨S4096, .f32⟩
  | 93 => ⟨S4096, .f32⟩
  | 94 => ⟨S4096x1, .f32⟩
  | 95 => ⟨S4096x1000, .f32⟩
  | 96 => ⟨S4096x1000, .f32⟩
  | 97 => ⟨S4096x1000, .f32⟩
  | 98 => ⟨S_, .f32⟩
  | 99 => ⟨S4096, .f32⟩
  | 100 => ⟨S4096, .f32⟩
  | 101 => ⟨S4096, .f32⟩
  | 102 => ⟨S4096x1, .i32⟩
  | 103 => ⟨S_, .i32⟩
  | 104 => ⟨S4096x1, .i32⟩
  | 105 => ⟨S4096x1, .i1⟩
  | 106 => ⟨S_, .i32⟩
  | 107 => ⟨S4096x1, .i32⟩
  | 108 => ⟨S4096x1, .i32⟩
  | 109 => ⟨S4096x1, .i32⟩
  | 110 => ⟨S4096x1x1, .i32⟩
  | 111 => ⟨S1, .i32⟩
  | 112 => ⟨S_, .i32⟩
  | 113 => ⟨S4096x1x1, .i32⟩
  | 114 => ⟨S4096x1x1, .i1⟩
  | 115 => ⟨S1x1x1, .i32⟩
  | 116 => ⟨S4096x1x1, .i32⟩
  | 117 => ⟨S4096x1x1, .i1⟩
  | 118 => ⟨S4096x1x1, .i1⟩
  | 119 => ⟨S_, .i1⟩
  | 120 => ⟨S4096x1, .i1⟩
  | 121 => ⟨S4096x1, .f32⟩
  | 122 => ⟨S_, .f32⟩
  | 123 => ⟨S4096x1, .f32⟩
  | 124 => ⟨S4096x1, .f32⟩
  | 125 => ⟨S4096, .f32⟩
  | 126 => ⟨S4096, .f32⟩
  | 127 => ⟨S4096x10000, .f32⟩
  | _ => ⟨S4096x11100, .f32⟩

abbrev hbmTy0_2 (i : Nat) : BufTy := match i % 128 with
  | 0 => ⟨S_, .f32⟩
  | 1 => ⟨S4096, .f32⟩
  | 2 => ⟨S4096, .f32⟩
  | 3 => ⟨S_, .f32⟩
  | 4 => ⟨S4096, .f32⟩
  | 5 => ⟨S4096, .i1⟩
  | 6 => ⟨S_, .f32⟩
  | 7 => ⟨S4096, .f32⟩
  | 8 => ⟨S4096, .f32⟩
  | 9 => ⟨S4096x1, .f32⟩
  | 10 => ⟨S4096x10000, .f32⟩
  | 11 => ⟨S4096x10000, .f32⟩
  | 12 => ⟨S4096x10000, .f32⟩
  | 13 => ⟨S_, .f32⟩
  | 14 => ⟨S4096, .f32⟩
  | 15 => ⟨S4096, .f32⟩
  | 16 => ⟨S4096, .f32⟩
  | 17 => ⟨S4096x1, .i32⟩
  | 18 => ⟨S_, .i32⟩
  | 19 => ⟨S4096x1, .i32⟩
  | 20 => ⟨S4096x1, .i1⟩
  | 21 => ⟨S_, .i32⟩
  | 22 => ⟨S4096x1, .i32⟩
  | 23 => ⟨S4096x1, .i32⟩
  | 24 => ⟨S4096x1, .i32⟩
  | 25 => ⟨S4096x1x1, .i32⟩
  | 26 => ⟨S1, .i32⟩
  | 27 => ⟨S_, .i32⟩
  | 28 => ⟨S4096x1x1, .i32⟩
  | 29 => ⟨S4096x1x1, .i1⟩
  | 30 => ⟨S1x1x1, .i32⟩
  | 31 => ⟨S4096x1x1, .i32⟩
  | 32 => ⟨S4096x1x1, .i1⟩
  | 33 => ⟨S4096x1x1, .i1⟩
  | 34 => ⟨S_, .i1⟩
  | 35 => ⟨S4096x1, .i1⟩
  | 36 => ⟨S4096x1, .f32⟩
  | 37 => ⟨S_, .f32⟩
  | 38 => ⟨S4096x1, .f32⟩
  | 39 => ⟨S4096x1, .f32⟩
  | 40 => ⟨S4096, .f32⟩
  | 41 => ⟨S4096, .f32⟩
  | 42 => ⟨S4096x100, .f32⟩
  | 43 => ⟨S4096x100, .i32⟩
  | 44 => ⟨S_, .f32⟩
  | 45 => ⟨S_, .i32⟩
  | 46 => ⟨S4096, .f32⟩
  | 47 => ⟨S4096, .i32⟩
  | 48 => ⟨S4096, .i1⟩
  | 49 => ⟨S4096x1, .i32⟩
  | 50 => ⟨S_, .i32⟩
  | 51 => ⟨S4096x1, .i32⟩
  | 52 => ⟨S4096x1, .i32⟩
  | 53 => ⟨S1x10, .i32⟩
  | 54 => ⟨S4096x10, .i32⟩
  | 55 => ⟨S4096x10, .i32⟩
  | 56 => ⟨S4096x10, .i32⟩
  | 57 => ⟨S_, .i32⟩
  | 58 => ⟨S4096x10, .i32⟩
  | 59 => ⟨S4096x10, .i32⟩
  | 60 => ⟨S_, .i32⟩
  | 61 => ⟨S4096x10, .i32⟩
  | 62 => ⟨S4096x10, .i1⟩
  | 63 => ⟨S_, .i32⟩
  | 64 => ⟨S4096x10, .i32⟩
  | 65 => ⟨S4096x10, .i32⟩
  | 66 => ⟨S4096x10, .i32⟩
  | 67 => ⟨S4096x10x1, .i32⟩
  | 68 => ⟨S1, .i32⟩
  | 69 => ⟨S_, .i32⟩
  | 70 => ⟨S4096x10x1, .i32⟩
  | 71 => ⟨S4096x10x1, .i1⟩
  | 72 => ⟨S1x1x1, .i32⟩
  | 73 => ⟨S4096x10x1, .i32⟩
  | 74 => ⟨S4096x10x1, .i1⟩
  | 75 => ⟨S4096x10x1, .i1⟩
  | 76 => ⟨S_, .i1⟩
  | 77 => ⟨S4096x10, .i1⟩
  | 78 => ⟨S4096x10, .f32⟩
  | 79 => ⟨S_, .f32⟩
  | 80 => ⟨S4096x10, .f32⟩
  | 81 => ⟨S4096x10, .f32⟩
  | 82 => ⟨S4096x10, .i32⟩
  | 83 => ⟨S_, .f32⟩
  | 84 => ⟨S_, .i32⟩
  | 85 => ⟨S4096, .f32⟩
  | 86 => ⟨S4096, .i32⟩
  | 87 => ⟨S4096x1, .i32⟩
  | 88 => ⟨S_, .i32⟩
  | 89 => ⟨S4096x1, .i32⟩
  | 90 => ⟨S4096x1, .i1⟩
  | 91 => ⟨S_, .i32⟩
  | 92 => ⟨S4096x1, .i32⟩
  | 93 => ⟨S4096x1, .i32⟩
  | 94 => ⟨S4096x1, .i32⟩
  | 95 => ⟨S4096x1x1, .i32⟩
  | 96 => ⟨S1, .i32⟩
  | 97 => ⟨S_, .i32⟩
  | 98 => ⟨S4096x1x1, .i32⟩
  | 99 => ⟨S4096x1x1, .i1⟩
  | 100 => ⟨S1x1x1, .i32⟩
  | 101 => ⟨S4096x1x1, .i32⟩
  | 102 => ⟨S4096x1x1, .i1⟩
  | 103 => ⟨S4096x1x1, .i1⟩
  | 104 => ⟨S_, .i1⟩
  | 105 => ⟨S4096x1, .i1⟩
  | 106 => ⟨S4096x1, .i32⟩
  | 107 => ⟨S_, .i32⟩
  | 108 => ⟨S4096x1, .i32⟩
  | 109 => ⟨S4096x1, .i32⟩
  | 110 => ⟨S4096, .i32⟩
  | 111 => ⟨S4096, .i1⟩
  | 112 => ⟨S4096, .i1⟩
  | 113 => ⟨S_, .i32⟩
  | 114 => ⟨S4096, .i32⟩
  | 115 => ⟨S4096, .i32⟩
  | 116 => ⟨S4096x1, .i32⟩
  | 117 => ⟨S_, .i32⟩
  | 118 => ⟨S4096x1, .i32⟩
  | 119 => ⟨S4096x1, .i32⟩
  | 120 => ⟨S1x10, .i32⟩
  | 121 => ⟨S4096x10, .i32⟩
  | 122 => ⟨S4096x10, .i32⟩
  | 123 => ⟨S4096x10, .i32⟩
  | 124 => ⟨S_, .i32⟩
  | 125 => ⟨S4096x10, .i32⟩
  | 126 => ⟨S4096x10, .i32⟩
  | 127 => ⟨S_, .i32⟩
  | _ => ⟨S4096x11100, .f32⟩

abbrev hbmTy0_3 (i : Nat) : BufTy := match i % 128 with
  | 0 => ⟨S4096x10, .i32⟩
  | 1 => ⟨S4096x10, .i1⟩
  | 2 => ⟨S_, .i32⟩
  | 3 => ⟨S4096x10, .i32⟩
  | 4 => ⟨S4096x10, .i32⟩
  | 5 => ⟨S4096x10, .i32⟩
  | 6 => ⟨S4096x10x1, .i32⟩
  | 7 => ⟨S1, .i32⟩
  | 8 => ⟨S_, .i32⟩
  | 9 => ⟨S4096x10x1, .i32⟩
  | 10 => ⟨S4096x10x1, .i1⟩
  | 11 => ⟨S1x1x1, .i32⟩
  | 12 => ⟨S4096x10x1, .i32⟩
  | 13 => ⟨S4096x10x1, .i1⟩
  | 14 => ⟨S4096x10x1, .i1⟩
  | 15 => ⟨S_, .i1⟩
  | 16 => ⟨S4096x10, .i1⟩
  | 17 => ⟨S4096x10, .f32⟩
  | 18 => ⟨S_, .f32⟩
  | 19 => ⟨S4096x10, .f32⟩
  | 20 => ⟨S4096x10, .f32⟩
  | 21 => ⟨S_, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096, .f32⟩
  | 34 => ⟨S_, .f32⟩
  | 35 => ⟨S_, .f32⟩
  | 36 => ⟨S_, .f32⟩
  | 37 => ⟨S4096x11100, .f32⟩
  | 38 => ⟨S4096x100, .f32⟩
  | 39 => ⟨S_, .i32⟩
  | 40 => ⟨S1, .i32⟩
  | 41 => ⟨S4096x11100, .f32⟩
  | 42 => ⟨S4096, .i32⟩
  | 43 => ⟨S4096x1, .i32⟩
  | 44 => ⟨S_, .i32⟩
  | 45 => ⟨S4096x1, .i32⟩
  | 46 => ⟨S4096x1, .i1⟩
  | 47 => ⟨S_, .i32⟩
  | 48 => ⟨S4096x1, .i32⟩
  | 49 => ⟨S4096x1, .i32⟩
  | 50 => ⟨S4096x1, .i32⟩
  | 51 => ⟨S_, .i32⟩
  | 52 => ⟨S4096x10, .i32⟩
  | 53 => ⟨S4096x10, .i1⟩
  | 54 => ⟨S_, .i32⟩
  | 55 => ⟨S4096x10, .i32⟩
  | 56 => ⟨S4096x10, .i32⟩
  | 57 => ⟨S4096x10, .i32⟩
  | 58 => ⟨S4096x10, .i32⟩
  | 59 => ⟨S4096x10x1, .i32⟩
  | 60 => ⟨S4096x10x1, .i32⟩
  | 61 => ⟨S4096x10x2, .i32⟩
  | 62 => ⟨S4096x11100, .f32⟩
  | 63 => ⟨S_, .i32⟩
  | 64 => ⟨S4096x1, .i32⟩
  | 65 => ⟨S4096x1, .i1⟩
  | 66 => ⟨S_, .i32⟩
  | 67 => ⟨S4096x1, .i32⟩
  | 68 => ⟨S4096x1, .i32⟩
  | 69 => ⟨S4096x1, .i32⟩
  | 70 => ⟨S_, .i32⟩
  | 71 => ⟨S4096x10, .i32⟩
  | 72 => ⟨S4096x10, .i1⟩
  | 73 => ⟨S_, .i32⟩
  | 74 => ⟨S4096x10, .i32⟩
  | 75 => ⟨S4096x10, .i32⟩
  | 76 => ⟨S4096x10, .i32⟩
  | 77 => ⟨S4096x10, .i32⟩
  | 78 => ⟨S4096x10x1, .i32⟩
  | 79 => ⟨S4096x10x1, .i32⟩
  | 80 => ⟨S4096x10x2, .i32⟩
  | 81 => ⟨S4096x11100, .f32⟩
  | _ => ⟨S4096x11100, .f32⟩

abbrev hbmTy (i : Nat) : BufTy := match i / 128 with
  | 0 => hbmTy0_0 i
  | 1 => hbmTy0_1 i
  | 2 => hbmTy0_2 i
  | 3 => hbmTy0_3 i
  | _ => ⟨S4096x11100, .f32⟩

abbrev bufTy : (tb : Table) → Fin (tcTables nBuf tb) → BufTy
  | .hbm, ⟨i, _⟩ => hbmTy i
  | _, _ => ⟨S4096x11100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_cst : Ref sig .tc := ⟨.hbm, 57, rfl⟩
abbrev main_call0_v14 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_5 : Ref sig .tc := ⟨.hbm, 70, rfl⟩
abbrev main_v39 : Ref sig .tc := ⟨.hbm, 71, rfl⟩
abbrev main_v40 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_cst : Ref sig .tc := ⟨.hbm, 92, rfl⟩
abbrev main_call1_v14 : Ref sig .tc := ⟨.hbm, 93, rfl⟩
abbrev main_v41 : Ref sig .tc := ⟨.hbm, 94, rfl⟩
abbrev main_cst_6 : Ref sig .tc := ⟨.hbm, 95, rfl⟩
abbrev main_v42 : Ref sig .tc := ⟨.hbm, 96, rfl⟩
abbrev main_v43 : Ref sig .tc := ⟨.hbm, 97, rfl⟩
abbrev main_cst_7 : Ref sig .tc := ⟨.hbm, 98, rfl⟩
abbrev main_v44 : Ref sig .tc := ⟨.hbm, 99, rfl⟩
abbrev main_v45 : Ref sig .tc := ⟨.hbm, 100, rfl⟩
abbrev main_cst_8 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_cst : Ref sig .tc := ⟨.hbm, 132, rfl⟩
abbrev main_call2_v14 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_c_10 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_c_11 : Ref sig .tc := ⟨.hbm, 145, rfl⟩
abbrev main_v66 : Ref sig .tc := ⟨.hbm, 146, rfl⟩
abbrev main_v67 : Ref sig .tc := ⟨.hbm, 147, rfl⟩
abbrev main_call3_c : Ref sig .tc := ⟨.hbm, 148, rfl⟩
abbrev main_call3_v0 : Ref sig .tc := ⟨.hbm, 149, rfl⟩
abbrev main_call3_v1 : Ref sig .tc := ⟨.hbm, 150, rfl⟩
abbrev main_call3_c_0 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_v5 : Ref sig .tc := ⟨.hbm, 155, rfl⟩
abbrev main_call3_c_1 : Ref sig .tc := ⟨.hbm, 156, rfl⟩
abbrev main_call3_c_2 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_call3_v11 : Ref sig .tc := ⟨.hbm, 163, rfl⟩
abbrev main_call3_c_3 : Ref sig .tc := ⟨.hbm, 164, rfl⟩
abbrev main_call3_v12 : Ref sig .tc := ⟨.hbm, 165, rfl⟩
abbrev main_call3_v13 : Ref sig .tc := ⟨.hbm, 166, rfl⟩
abbrev main_call3_cst : Ref sig .tc := ⟨.hbm, 167, rfl⟩
abbrev main_call3_v14 : Ref sig .tc := ⟨.hbm, 168, rfl⟩
abbrev main_v68 : Ref sig .tc := ⟨.hbm, 169, rfl⟩
abbrev main_cst_12 : Ref sig .tc := ⟨.hbm, 170, rfl⟩
abbrev main_v69 : Ref sig .tc := ⟨.hbm, 171, rfl⟩
abbrev main_v70 : Ref sig .tc := ⟨.hbm, 172, rfl⟩
abbrev main_cst_13 : Ref sig .tc := ⟨.hbm, 173, rfl⟩
abbrev main_v71 : Ref sig .tc := ⟨.hbm, 174, rfl⟩
abbrev main_v72 : Ref sig .tc := ⟨.hbm, 175, rfl⟩
abbrev main_cst_14 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_cst_15 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_call4_c : Ref sig .tc := ⟨.hbm, 188, rfl⟩
abbrev main_call4_v0 : Ref sig .tc := ⟨.hbm, 189, rfl⟩
abbrev main_call4_v1 : Ref sig .tc := ⟨.hbm, 190, rfl⟩
abbrev main_call4_c_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_c_1 : Ref sig .tc := ⟨.hbm, 196, rfl⟩
abbrev main_call4_c_2 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_c_3 : Ref sig .tc := ⟨.hbm, 204, rfl⟩
abbrev main_call4_v12 : Ref sig .tc := ⟨.hbm, 205, rfl⟩
abbrev main_call4_v13 : Ref sig .tc := ⟨.hbm, 206, rfl⟩
abbrev main_call4_cst : Ref sig .tc := ⟨.hbm, 207, rfl⟩
abbrev main_call4_v14 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_cst_16 : Ref sig .tc := ⟨.hbm, 213, rfl⟩
abbrev main_v87 : Ref sig .tc := ⟨.hbm, 214, rfl⟩
abbrev main_v88 : Ref sig .tc := ⟨.hbm, 215, rfl⟩
abbrev main_cst_17 : Ref sig .tc := ⟨.hbm, 216, rfl⟩
abbrev main_v89 : Ref sig .tc := ⟨.hbm, 217, rfl⟩
abbrev main_v90 : Ref sig .tc := ⟨.hbm, 218, rfl⟩
abbrev main_cst_18 : Ref sig .tc := ⟨.hbm, 219, rfl⟩
abbrev main_v91 : Ref sig .tc := ⟨.hbm, 220, rfl⟩
abbrev main_v92 : Ref sig .tc := ⟨.hbm, 221, rfl⟩
abbrev main_v93 : Ref sig .tc := ⟨.hbm, 222, rfl⟩
abbrev main_v94 : Ref sig .tc := ⟨.hbm, 223, rfl⟩
abbrev main_v95 : Ref sig .tc := ⟨.hbm, 224, rfl⟩
abbrev main_v96 : Ref sig .tc := ⟨.hbm, 225, rfl⟩
abbrev main_cst_19 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_call5_c : Ref sig .tc := ⟨.hbm, 231, rfl⟩
abbrev main_call5_v0 : Ref sig .tc := ⟨.hbm, 232, rfl⟩
abbrev main_call5_v1 : Ref sig .tc := ⟨.hbm, 233, rfl⟩
abbrev main_call5_c_0 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_c_1 : Ref sig .tc := ⟨.hbm, 239, rfl⟩
abbrev main_call5_c_2 : Ref sig .tc := ⟨.hbm, 240, rfl⟩
abbrev main_call5_v6 : Ref sig .tc := ⟨.hbm, 241, rfl⟩
abbrev main_call5_v7 : Ref sig .tc := ⟨.hbm, 242, rfl⟩
abbrev main_call5_v8 : Ref sig .tc := ⟨.hbm, 243, rfl⟩
abbrev main_call5_v9 : Ref sig .tc := ⟨.hbm, 244, rfl⟩
abbrev main_call5_v10 : Ref sig .tc := ⟨.hbm, 245, rfl⟩
abbrev main_call5_v11 : Ref sig .tc := ⟨.hbm, 246, rfl⟩
abbrev main_call5_c_3 : Ref sig .tc := ⟨.hbm, 247, rfl⟩
abbrev main_call5_v12 : Ref sig .tc := ⟨.hbm, 248, rfl⟩
abbrev main_call5_v13 : Ref sig .tc := ⟨.hbm, 249, rfl⟩
abbrev main_call5_cst : Ref sig .tc := ⟨.hbm, 250, rfl⟩
abbrev main_call5_v14 : Ref sig .tc := ⟨.hbm, 251, rfl⟩
abbrev main_v101 : Ref sig .tc := ⟨.hbm, 252, rfl⟩
abbrev main_v102 : Ref sig .tc := ⟨.hbm, 253, rfl⟩
abbrev main_v103 : Ref sig .tc := ⟨.hbm, 254, rfl⟩
abbrev main_v104 : Ref sig .tc := ⟨.hbm, 255, rfl⟩
abbrev main_cst_20 : Ref sig .tc := ⟨.hbm, 256, rfl⟩
abbrev main_v105 : Ref sig .tc := ⟨.hbm, 257, rfl⟩
abbrev main_v106 : Ref sig .tc := ⟨.hbm, 258, rfl⟩
abbrev main_cst_21 : Ref sig .tc := ⟨.hbm, 259, rfl⟩
abbrev main_v107 : Ref sig .tc := ⟨.hbm, 260, rfl⟩
abbrev main_v108 : Ref sig .tc := ⟨.hbm, 261, rfl⟩
abbrev main_cst_22 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_cst_23 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩
abbrev main_v118 : Ref sig .tc := ⟨.hbm, 273, rfl⟩
abbrev main_call6_c : Ref sig .tc := ⟨.hbm, 274, rfl⟩
abbrev main_call6_v0 : Ref sig .tc := ⟨.hbm, 275, rfl⟩
abbrev main_call6_v1 : Ref sig .tc := ⟨.hbm, 276, rfl⟩
abbrev main_call6_c_0 : Ref sig .tc := ⟨.hbm, 277, rfl⟩
abbrev main_call6_v2 : Ref sig .tc := ⟨.hbm, 278, rfl⟩
abbrev main_call6_v3 : Ref sig .tc := ⟨.hbm, 279, rfl⟩
abbrev main_call6_v4 : Ref sig .tc := ⟨.hbm, 280, rfl⟩
abbrev main_call6_v5 : Ref sig .tc := ⟨.hbm, 281, rfl⟩
abbrev main_call6_c_1 : Ref sig .tc := ⟨.hbm, 282, rfl⟩
abbrev main_call6_c_2 : Ref sig .tc := ⟨.hbm, 283, rfl⟩
abbrev main_call6_v6 : Ref sig .tc := ⟨.hbm, 284, rfl⟩
abbrev main_call6_v7 : Ref sig .tc := ⟨.hbm, 285, rfl⟩
abbrev main_call6_v8 : Ref sig .tc := ⟨.hbm, 286, rfl⟩
abbrev main_call6_v9 : Ref sig .tc := ⟨.hbm, 287, rfl⟩
abbrev main_call6_v10 : Ref sig .tc := ⟨.hbm, 288, rfl⟩
abbrev main_call6_v11 : Ref sig .tc := ⟨.hbm, 289, rfl⟩
abbrev main_call6_c_3 : Ref sig .tc := ⟨.hbm, 290, rfl⟩
abbrev main_call6_v12 : Ref sig .tc := ⟨.hbm, 291, rfl⟩
abbrev main_call6_v13 : Ref sig .tc := ⟨.hbm, 292, rfl⟩
abbrev main_call6_cst : Ref sig .tc := ⟨.hbm, 293, rfl⟩
abbrev main_call6_v14 : Ref sig .tc := ⟨.hbm, 294, rfl⟩
abbrev main_v119 : Ref sig .tc := ⟨.hbm, 295, rfl⟩
abbrev main_v120 : Ref sig .tc := ⟨.hbm, 296, rfl⟩
abbrev main_v121 : Ref sig .tc := ⟨.hbm, 297, rfl⟩
abbrev main_v122 : Ref sig .tc := ⟨.hbm, 298, rfl⟩
abbrev main_call7_v0 : Ref sig .tc := ⟨.hbm, 299, rfl⟩
abbrev main_call7_cst : Ref sig .tc := ⟨.hbm, 300, rfl⟩
abbrev main_call7_c : Ref sig .tc := ⟨.hbm, 301, rfl⟩
abbrev main_call7_v1_0 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_c_24 : Ref sig .tc := ⟨.hbm, 306, rfl⟩
abbrev main_v126 : Ref sig .tc := ⟨.hbm, 307, rfl⟩
abbrev main_v127 : Ref sig .tc := ⟨.hbm, 308, rfl⟩
abbrev main_v128 : Ref sig .tc := ⟨.hbm, 309, rfl⟩
abbrev main_v129 : Ref sig .tc := ⟨.hbm, 310, rfl⟩
abbrev main_v130 : Ref sig .tc := ⟨.hbm, 311, rfl⟩
abbrev main_v131 : Ref sig .tc := ⟨.hbm, 312, rfl⟩
abbrev main_c_25 : Ref sig .tc := ⟨.hbm, 313, rfl⟩
abbrev main_v132 : Ref sig .tc := ⟨.hbm, 314, rfl⟩
abbrev main_v133 : Ref sig .tc := ⟨.hbm, 315, rfl⟩
abbrev main_call8_c : Ref sig .tc := ⟨.hbm, 316, rfl⟩
abbrev main_call8_v0 : Ref sig .tc := ⟨.hbm, 317, rfl⟩
abbrev main_call8_v1 : Ref sig .tc := ⟨.hbm, 318, rfl⟩
abbrev main_call8_c_0 : Ref sig .tc := ⟨.hbm, 319, rfl⟩
abbrev main_call8_v2 : Ref sig .tc := ⟨.hbm, 320, rfl⟩
abbrev main_call8_v3 : Ref sig .tc := ⟨.hbm, 321, rfl⟩
abbrev main_call8_v4 : Ref sig .tc := ⟨.hbm, 322, rfl⟩
abbrev main_call8_v5 : Ref sig .tc := ⟨.hbm, 323, rfl⟩
abbrev main_call8_c_1 : Ref sig .tc := ⟨.hbm, 324, rfl⟩
abbrev main_call8_c_2 : Ref sig .tc := ⟨.hbm, 325, rfl⟩
abbrev main_call8_v6 : Ref sig .tc := ⟨.hbm, 326, rfl⟩
abbrev main_call8_v7 : Ref sig .tc := ⟨.hbm, 327, rfl⟩
abbrev main_call8_v8 : Ref sig .tc := ⟨.hbm, 328, rfl⟩
abbrev main_call8_v9 : Ref sig .tc := ⟨.hbm, 329, rfl⟩
abbrev main_call8_v10 : Ref sig .tc := ⟨.hbm, 330, rfl⟩
abbrev main_call8_v11 : Ref sig .tc := ⟨.hbm, 331, rfl⟩
abbrev main_call8_c_3 : Ref sig .tc := ⟨.hbm, 332, rfl⟩
abbrev main_call8_v12 : Ref sig .tc := ⟨.hbm, 333, rfl⟩
abbrev main_call8_v13 : Ref sig .tc := ⟨.hbm, 334, rfl⟩
abbrev main_call8_cst : Ref sig .tc := ⟨.hbm, 335, rfl⟩
abbrev main_call8_v14 : Ref sig .tc := ⟨.hbm, 336, rfl⟩
abbrev main_v134 : Ref sig .tc := ⟨.hbm, 337, rfl⟩
abbrev main_call9_v0 : Ref sig .tc := ⟨.hbm, 338, rfl⟩
abbrev main_call9_cst : Ref sig .tc := ⟨.hbm, 339, rfl⟩
abbrev main_call9_c : Ref sig .tc := ⟨.hbm, 340, rfl⟩
abbrev main_call9_v1_0 : Ref sig .tc := ⟨.hbm, 341, rfl⟩
abbrev main_v135 : Ref sig .tc := ⟨.hbm, 342, rfl⟩
abbrev main_v136 : Ref sig .tc := ⟨.hbm, 343, rfl⟩
abbrev main_call10_c : Ref sig .tc := ⟨.hbm, 344, rfl⟩
abbrev main_call10_v0 : Ref sig .tc := ⟨.hbm, 345, rfl⟩
abbrev main_call10_v1 : Ref sig .tc := ⟨.hbm, 346, rfl⟩
abbrev main_call10_c_0 : Ref sig .tc := ⟨.hbm, 347, rfl⟩
abbrev main_call10_v2 : Ref sig .tc := ⟨.hbm, 348, rfl⟩
abbrev main_call10_v3 : Ref sig .tc := ⟨.hbm, 349, rfl⟩
abbrev main_call10_v4 : Ref sig .tc := ⟨.hbm, 350, rfl⟩
abbrev main_call10_v5 : Ref sig .tc := ⟨.hbm, 351, rfl⟩
abbrev main_call10_c_1 : Ref sig .tc := ⟨.hbm, 352, rfl⟩
abbrev main_call10_c_2 : Ref sig .tc := ⟨.hbm, 353, rfl⟩
abbrev main_call10_v6 : Ref sig .tc := ⟨.hbm, 354, rfl⟩
abbrev main_call10_v7 : Ref sig .tc := ⟨.hbm, 355, rfl⟩
abbrev main_call10_v8 : Ref sig .tc := ⟨.hbm, 356, rfl⟩
abbrev main_call10_v9 : Ref sig .tc := ⟨.hbm, 357, rfl⟩
abbrev main_call10_v10 : Ref sig .tc := ⟨.hbm, 358, rfl⟩
abbrev main_call10_v11 : Ref sig .tc := ⟨.hbm, 359, rfl⟩
abbrev main_call10_c_3 : Ref sig .tc := ⟨.hbm, 360, rfl⟩
abbrev main_call10_v12 : Ref sig .tc := ⟨.hbm, 361, rfl⟩
abbrev main_call10_v13 : Ref sig .tc := ⟨.hbm, 362, rfl⟩
abbrev main_call10_c_4 : Ref sig .tc := ⟨.hbm, 363, rfl⟩
abbrev main_call10_v14 : Ref sig .tc := ⟨.hbm, 364, rfl⟩
abbrev main_v137 : Ref sig .tc := ⟨.hbm, 365, rfl⟩
abbrev main_v138 : Ref sig .tc := ⟨.hbm, 366, rfl⟩
abbrev main_v139 : Ref sig .tc := ⟨.hbm, 367, rfl⟩
abbrev main_v140 : Ref sig .tc := ⟨.hbm, 368, rfl⟩
abbrev main_c_26 : Ref sig .tc := ⟨.hbm, 369, rfl⟩
abbrev main_v141 : Ref sig .tc := ⟨.hbm, 370, rfl⟩
abbrev main_v142 : Ref sig .tc := ⟨.hbm, 371, rfl⟩
abbrev main_v143 : Ref sig .tc := ⟨.hbm, 372, rfl⟩
abbrev main_c_27 : Ref sig .tc := ⟨.hbm, 373, rfl⟩
abbrev main_v144 : Ref sig .tc := ⟨.hbm, 374, rfl⟩
abbrev main_v145 : Ref sig .tc := ⟨.hbm, 375, rfl⟩
abbrev main_v146 : Ref sig .tc := ⟨.hbm, 376, rfl⟩
abbrev main_v147 : Ref sig .tc := ⟨.hbm, 377, rfl⟩
abbrev main_v148 : Ref sig .tc := ⟨.hbm, 378, rfl⟩
abbrev main_v149 : Ref sig .tc := ⟨.hbm, 379, rfl⟩
abbrev main_c_28 : Ref sig .tc := ⟨.hbm, 380, rfl⟩
abbrev main_v150 : Ref sig .tc := ⟨.hbm, 381, rfl⟩
abbrev main_v151 : Ref sig .tc := ⟨.hbm, 382, rfl⟩
abbrev main_call11_c : Ref sig .tc := ⟨.hbm, 383, rfl⟩
abbrev main_call11_v0 : Ref sig .tc := ⟨.hbm, 384, rfl⟩
abbrev main_call11_v1 : Ref sig .tc := ⟨.hbm, 385, rfl⟩
abbrev main_call11_c_0 : Ref sig .tc := ⟨.hbm, 386, rfl⟩
abbrev main_call11_v2 : Ref sig .tc := ⟨.hbm, 387, rfl⟩
abbrev main_call11_v3 : Ref sig .tc := ⟨.hbm, 388, rfl⟩
abbrev main_call11_v4 : Ref sig .tc := ⟨.hbm, 389, rfl⟩
abbrev main_call11_v5 : Ref sig .tc := ⟨.hbm, 390, rfl⟩
abbrev main_call11_c_1 : Ref sig .tc := ⟨.hbm, 391, rfl⟩
abbrev main_call11_c_2 : Ref sig .tc := ⟨.hbm, 392, rfl⟩
abbrev main_call11_v6 : Ref sig .tc := ⟨.hbm, 393, rfl⟩
abbrev main_call11_v7 : Ref sig .tc := ⟨.hbm, 394, rfl⟩
abbrev main_call11_v8 : Ref sig .tc := ⟨.hbm, 395, rfl⟩
abbrev main_call11_v9 : Ref sig .tc := ⟨.hbm, 396, rfl⟩
abbrev main_call11_v10 : Ref sig .tc := ⟨.hbm, 397, rfl⟩
abbrev main_call11_v11 : Ref sig .tc := ⟨.hbm, 398, rfl⟩
abbrev main_call11_c_3 : Ref sig .tc := ⟨.hbm, 399, rfl⟩
abbrev main_call11_v12 : Ref sig .tc := ⟨.hbm, 400, rfl⟩
abbrev main_call11_v13 : Ref sig .tc := ⟨.hbm, 401, rfl⟩
abbrev main_call11_cst : Ref sig .tc := ⟨.hbm, 402, rfl⟩
abbrev main_call11_v14 : Ref sig .tc := ⟨.hbm, 403, rfl⟩
abbrev main_v152 : Ref sig .tc := ⟨.hbm, 404, rfl⟩
abbrev main_cst_29 : Ref sig .tc := ⟨.hbm, 405, rfl⟩
abbrev main_v153 : Ref sig .tc := ⟨.hbm, 406, rfl⟩
abbrev main_v154 : Ref sig .tc := ⟨.hbm, 407, rfl⟩
abbrev main_v155 : Ref sig .tc := ⟨.hbm, 408, rfl⟩
abbrev main_cst_30 : Ref sig .tc := ⟨.hbm, 409, rfl⟩
abbrev main_v156 : Ref sig .tc := ⟨.hbm, 410, rfl⟩
abbrev main_v157 : Ref sig .tc := ⟨.hbm, 411, rfl⟩
abbrev main_v158 : Ref sig .tc := ⟨.hbm, 412, rfl⟩
abbrev main_v159 : Ref sig .tc := ⟨.hbm, 413, rfl⟩
abbrev main_cst_31 : Ref sig .tc := ⟨.hbm, 414, rfl⟩
abbrev main_v160 : Ref sig .tc := ⟨.hbm, 415, rfl⟩
abbrev main_v161 : Ref sig .tc := ⟨.hbm, 416, rfl⟩
abbrev main_v162 : Ref sig .tc := ⟨.hbm, 417, rfl⟩
abbrev main_cst_32 : Ref sig .tc := ⟨.hbm, 418, rfl⟩
abbrev main_v163 : Ref sig .tc := ⟨.hbm, 419, rfl⟩
abbrev main_cst_33 : Ref sig .tc := ⟨.hbm, 420, rfl⟩
abbrev main_v164 : Ref sig .tc := ⟨.hbm, 421, rfl⟩
abbrev main_v165 : Ref sig .tc := ⟨.hbm, 422, rfl⟩
abbrev main_c_34 : Ref sig .tc := ⟨.hbm, 423, rfl⟩
abbrev main_v166 : Ref sig .tc := ⟨.hbm, 424, rfl⟩
abbrev main_v167 : Ref sig .tc := ⟨.hbm, 425, rfl⟩
abbrev main_v168 : Ref sig .tc := ⟨.hbm, 426, rfl⟩
abbrev main_v169 : Ref sig .tc := ⟨.hbm, 427, rfl⟩
abbrev main_c_35 : Ref sig .tc := ⟨.hbm, 428, rfl⟩
abbrev main_v170 : Ref sig .tc := ⟨.hbm, 429, rfl⟩
abbrev main_v171 : Ref sig .tc := ⟨.hbm, 430, rfl⟩
abbrev main_c_36 : Ref sig .tc := ⟨.hbm, 431, rfl⟩
abbrev main_v172 : Ref sig .tc := ⟨.hbm, 432, rfl⟩
abbrev main_v173 : Ref sig .tc := ⟨.hbm, 433, rfl⟩
abbrev main_v174 : Ref sig .tc := ⟨.hbm, 434, rfl⟩
abbrev main_c_37 : Ref sig .tc := ⟨.hbm, 435, rfl⟩
abbrev main_v175 : Ref sig .tc := ⟨.hbm, 436, rfl⟩
abbrev main_v176 : Ref sig .tc := ⟨.hbm, 437, rfl⟩
abbrev main_c_38 : Ref sig .tc := ⟨.hbm, 438, rfl⟩
abbrev main_v177 : Ref sig .tc := ⟨.hbm, 439, rfl⟩
abbrev main_v178 : Ref sig .tc := ⟨.hbm, 440, rfl⟩
abbrev main_v179 : Ref sig .tc := ⟨.hbm, 441, rfl⟩
abbrev main_v180 : Ref sig .tc := ⟨.hbm, 442, rfl⟩
abbrev main_v181 : Ref sig .tc := ⟨.hbm, 443, rfl⟩
abbrev main_v182 : Ref sig .tc := ⟨.hbm, 444, rfl⟩
abbrev main_v183 : Ref sig .tc := ⟨.hbm, 445, rfl⟩
abbrev main_v184 : Ref sig .tc := ⟨.hbm, 446, rfl⟩
abbrev main_c_39 : Ref sig .tc := ⟨.hbm, 447, rfl⟩
abbrev main_v185 : Ref sig .tc := ⟨.hbm, 448, rfl⟩
abbrev main_v186 : Ref sig .tc := ⟨.hbm, 449, rfl⟩
abbrev main_c_40 : Ref sig .tc := ⟨.hbm, 450, rfl⟩
abbrev main_v187 : Ref sig .tc := ⟨.hbm, 451, rfl⟩
abbrev main_v188 : Ref sig .tc := ⟨.hbm, 452, rfl⟩
abbrev main_v189 : Ref sig .tc := ⟨.hbm, 453, rfl⟩
abbrev main_c_41 : Ref sig .tc := ⟨.hbm, 454, rfl⟩
abbrev main_v190 : Ref sig .tc := ⟨.hbm, 455, rfl⟩
abbrev main_v191 : Ref sig .tc := ⟨.hbm, 456, rfl⟩
abbrev main_c_42 : Ref sig .tc := ⟨.hbm, 457, rfl⟩
abbrev main_v192 : Ref sig .tc := ⟨.hbm, 458, rfl⟩
abbrev main_v193 : Ref sig .tc := ⟨.hbm, 459, rfl⟩
abbrev main_v194 : Ref sig .tc := ⟨.hbm, 460, rfl⟩
abbrev main_v195 : Ref sig .tc := ⟨.hbm, 461, rfl⟩
abbrev main_v196 : Ref sig .tc := ⟨.hbm, 462, rfl⟩
abbrev main_v197 : Ref sig .tc := ⟨.hbm, 463, rfl⟩
abbrev main_v198 : Ref sig .tc := ⟨.hbm, 464, rfl⟩
abbrev main_v199 : Ref sig .tc := ⟨.hbm, 465, rfl⟩

abbrev nD : Nat := 1
abbrev τ : Topo := Topo.v7x

variable {F : FTy → Type} [FloatOps F]
-- ==== Proof.RowMath.lean ====
/-
  The mathematics of one sample. A row of logits is a function `x` of the column; the hierarchy has 100 classes at
  columns 0 to 99, 1000 at columns 100 to 1099 and 10000 at columns 1100 to 11099, and the children of class `i` of one
  level are the classes `10 i` to `10 i + 9` of the next. What the sample contributes to the loss and to the output is
  defined here, and the identities by which the kernel computes it are proved: a sum over a window of columns as a
  masked sum, a sum over the rest of the columns as a difference of two sums, the first largest entry as the smallest
  column that attains the maximum, and the logarithm of a sum of exponentials with and without the shift by the maximum.
-/
module

public import Idealize.ShloMosaic.PureOps.Ideal
public import Idealize.ShloMosaic.PureOps.Ideal.Laws

@[expose] public section

noncomputable section

namespace Cert.Hier

open Idealize.ShloMosaic

/-! ## The sample's contribution -/

/-- `k` is the first of the `d` columns from `w` on whose logit is largest. -/
def IsTop (x : ℕ → EReal) (w d k : ℕ) : Prop :=
  k < d ∧ (∀ j < d, x (w + j) ≤ x (w + k)) ∧ ∀ j < k, x (w + j) < x (w + k)

/-- Such a column exists. -/
theorem exists_isTop (x : ℕ → EReal) (w : ℕ) {d : ℕ} (hd : 0 < d) : ∃ k, IsTop x w d k := by
  induction d with
  | zero => exact absurd hd (lt_irrefl _)
  | succ n ih =>
    rcases Nat.eq_zero_or_pos n with rfl | hn
    · exact ⟨0, by omega, fun j hj => by rw [show j = 0 by omega], fun j hj => absurd hj (by omega)⟩
    · obtain ⟨k, hk, hle, hlt⟩ := ih hn
      rcases le_or_gt (x (w + n)) (x (w + k)) with h | h
      · refine ⟨k, by omega, fun j hj => ?_, hlt⟩
        rcases Nat.lt_succ_iff_lt_or_eq.mp hj with hj | rfl
        · exact hle j hj
        · exact h
      · refine ⟨n, by omega, fun j hj => ?_, fun j hj => (hle j hj).trans_lt h⟩
        rcases Nat.lt_succ_iff_lt_or_eq.mp hj with hj | rfl
        · exact ((hle j hj).trans_lt h).le
        · exact le_rfl

/-- There is only one. -/
theorem IsTop.unique {x : ℕ → EReal} {w d k k' : ℕ} (h : IsTop x w d k) (h' : IsTop x w d k') : k = k' := by
  rcases lt_trichotomy k k' with hlt | he | hlt
  · exact absurd (h'.2.2 k hlt) (not_lt.mpr (h.2.1 k' h'.1))
  · exact he
  · exact absurd (h.2.2 k' hlt) (not_lt.mpr (h'.2.1 k h.1))

/-- The first of the `d` columns from `w` on whose logit is largest, counted from `w`. -/
def top (x : ℕ → EReal) (w d : ℕ) : ℕ := if h : 0 < d then (exists_isTop x w h).choose else 0

theorem isTop_top (x : ℕ → EReal) (w : ℕ) {d : ℕ} (hd : 0 < d) : IsTop x w d (top x w d) := by
  unfold top; rw [dif_pos hd]; exact (exists_isTop x w hd).choose_spec

theorem top_lt (x : ℕ → EReal) (w : ℕ) {d : ℕ} (hd : 0 < d) : top x w d < d := (isTop_top x w hd).1

theorem IsTop.eq_top {x : ℕ → EReal} {w d k : ℕ} (h : IsTop x w d k) : k = top x w d :=
  h.unique (isTop_top x w (Nat.zero_lt_of_lt h.1))

/-- The predicted class of level 0. -/
def pred0 (x : ℕ → EReal) : ℕ := top x 0 100
/-- The predicted class of level 1: the best child of the predicted class of level 0. -/
def pred1 (x : ℕ → EReal) : ℕ := 10 * pred0 x + top x (100 + 10 * pred0 x) 10

theorem pred0_lt (x : ℕ → EReal) : pred0 x < 100 := top_lt x 0 (by decide)
theorem pred1_lt (x : ℕ → EReal) : pred1 x < 1000 := by
  have h0 := pred0_lt x
  have h1 : top x (100 + 10 * pred0 x) 10 < 10 := top_lt x _ (by decide)
  unfold pred1; omega

/-- The columns that survive in the output: level 0, the children of the predicted class of level 0 and the children of
    the predicted class of level 1. -/
def Kept (x : ℕ → EReal) (j : ℕ) : Prop :=
  j < 100 ∨ (100 + 10 * pred0 x ≤ j ∧ j < 100 + 10 * pred0 x + 10) ∨ (1100 + 10 * pred1 x ≤ j ∧ j < 1100 + 10 * pred1 x + 10)

open Classical in
/-- The sample's output: its logits where they survive, and minus one hundred million elsewhere. -/
def outRow (x : ℕ → EReal) (j : ℕ) : EReal := if Kept x j then x j else Ideal.ofBits .f32 0xCCBEBC20#32

/-- The output, by any condition that says whether the column survives. -/
theorem outRow_of (x : ℕ → EReal) (j : ℕ) {P : Prop} [Decidable P] (h : P ↔ Kept x j) :
    (if P then x j else Ideal.ofBits .f32 0xCCBEBC20#32) = outRow x j := by
  unfold outRow
  by_cases hp : P
  · rw [if_pos hp, if_pos (h.mp hp)]
  · rw [if_neg hp, if_neg (fun hk => hp (h.mpr hk))]

/-- The logarithm of the sum of the exponentials of the `d` logits from column `w` on. -/
def lse (x : ℕ → EReal) (w d : ℕ) : EReal := Ideal.log (∑ k ∈ Finset.range d, Ideal.exp (x (w + k)))

/-- The sample's contribution to the loss, at the labels `l0`, `l1`, `l2`. -/
def perRow (x : ℕ → EReal) (l0 l1 l2 : ℕ) : EReal :=
  ((lse x 0 100 - x l0)
    + ((if pred0 x ≠ l0 then lse x 100 1000 else lse x (100 + 10 * l0) 10) - x (100 + l1)))
    + ((if pred0 x ≠ l0 ∨ pred1 x ≠ l1 then lse x 1100 10000 else lse x (1100 + 10 * l1) 10) - x (1100 + l2))

/-! ## Sums -/

/-- A sum over a window of columns is the sum of all columns with those outside the window masked. -/
theorem sum_window {M : Type} [AddCommMonoid M] (f : ℕ → M) (w d n : ℕ) (h : w + d ≤ n) :
    ∑ j ∈ Finset.range n, (if w ≤ j ∧ j < w + d then f j else 0) = ∑ k ∈ Finset.range d, f (w + k) := by
  rw [← Finset.sum_filter]
  refine (Finset.sum_bij' (fun k _ => w + k) (fun j _ => j - w) ?_ ?_ ?_ ?_ ?_).symm
  · intro k hk; simp only [Finset.mem_range, Finset.mem_filter] at hk ⊢; omega
  · intro j hj; simp only [Finset.mem_range, Finset.mem_filter] at hj ⊢; omega
  · intro k _; simp
  · intro j hj; simp only [Finset.mem_range, Finset.mem_filter] at hj; show w + (j - w) = j; omega
  · intro k _; rfl

/-- The exponential of anything but plus infinity is a nonnegative real number. -/
theorem exp_real {v : EReal} (h : v ≠ ⊤) : ∃ r : ℝ, 0 ≤ r ∧ Ideal.exp v = (r : EReal) := by
  induction v using EReal.rec with
  | bot => exact ⟨0, le_rfl, rfl⟩
  | top => exact absurd rfl h
  | coe r => exact ⟨Real.exp r, (Real.exp_pos r).le, rfl⟩

/-- A finite sum of real numbers, taken as extended reals. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- The exponentials of a row without plus infinity, as real numbers. -/
theorem exists_exp (x : ℕ → EReal) (hx : ∀ j, x j ≠ ⊤) : ∃ e : ℕ → ℝ, ∀ j, Ideal.exp (x j) = (e j : EReal) := by
  choose e _ he using fun j => exp_real (hx j)
  exact ⟨e, he⟩

/-- The sum of the first `a + b` exponentials less the sum of the first `a` is the sum of the other `b`. -/
theorem exp_sum_sub (x : ℕ → EReal) (hx : ∀ j, x j ≠ ⊤) (w a b : ℕ) :
    (∑ j ∈ Finset.range (a + b), Ideal.exp (x (w + j))) - ∑ k ∈ Finset.range a, Ideal.exp (x (w + k))
      = ∑ k ∈ Finset.range b, Ideal.exp (x (w + a + k)) := by
  obtain ⟨e, he⟩ := exists_exp x hx
  simp only [he, ← coe_sum, ← EReal.coe_sub]
  rw [Finset.sum_range_add]
  simp only [Nat.add_assoc]
  congr 1; ring

/-! ## The shift by the maximum -/

/-- The logarithm of a sum of exponentials may be computed after a shift of all exponents by a real number. -/
theorem log_sum_shift (d : ℕ) (y : ℕ → EReal) (hy : ∀ j < d, y j ≠ ⊤) (r : ℝ) (hr : ∃ j < d, y j ≠ ⊥) :
    Ideal.log (∑ k ∈ Finset.range d, Ideal.exp (y k - (r : EReal))) + (r : EReal) = Ideal.log (∑ k ∈ Finset.range d, Ideal.exp (y k)) := by
  have key : ∀ v : EReal, v ≠ ⊤ → ∃ e : ℝ, 0 ≤ e ∧ (v ≠ ⊥ → 0 < e) ∧ Ideal.exp v = (e : EReal) ∧ Ideal.exp (v - (r : EReal)) = ((e * Real.exp (-r) : ℝ) : EReal) := by
    intro v hv
    induction v using EReal.rec with
    | bot => exact ⟨0, le_rfl, fun h => absurd rfl h, rfl, by rw [EReal.bot_sub]; simp⟩
    | top => exact absurd rfl hv
    | coe s =>
      refine ⟨Real.exp s, (Real.exp_pos s).le, fun _ => Real.exp_pos s, rfl, ?_⟩
      rw [← EReal.coe_sub, Ideal.exp_coe, sub_eq_add_neg, Real.exp_add]
  have key' : ∀ j, ∃ e : ℝ, j < d → 0 ≤ e ∧ (y j ≠ ⊥ → 0 < e) ∧ Ideal.exp (y j) = (e : EReal) ∧ Ideal.exp (y j - (r : EReal)) = ((e * Real.exp (-r) : ℝ) : EReal) := by
    intro j
    by_cases hj : j < d
    · obtain ⟨e, he⟩ := key (y j) (hy j hj); exact ⟨e, fun _ => he⟩
    · exact ⟨0, fun h => absurd h hj⟩
  choose e he using key'
  rw [Finset.sum_congr rfl (fun k hk => (he k (Finset.mem_range.mp hk)).2.2.2),
    Finset.sum_congr rfl (fun k hk => (he k (Finset.mem_range.mp hk)).2.2.1), ← coe_sum, ← coe_sum, ← Finset.sum_mul]
  obtain ⟨j, hj, hb⟩ := hr
  have hpos : 0 < ∑ k ∈ Finset.range d, e k :=
    Finset.sum_pos' (fun k hk => (he k (Finset.mem_range.mp hk)).1) ⟨j, Finset.mem_range.mpr hj, (he j hj).2.1 hb⟩
  rw [Ideal.log_coe, Ideal.log_coe, if_neg (not_le.mpr (mul_pos hpos (Real.exp_pos _))), if_neg (not_le.mpr hpos), ← EReal.coe_add,
    Real.log_mul hpos.ne' (Real.exp_pos _).ne', Real.log_exp]
  congr 1; ring

/-- So also after a shift by the largest exponent, or by nothing where that is not a real number. -/
theorem log_sum_shift_top (d : ℕ) (y : ℕ → EReal) (hy : ∀ j < d, y j ≠ ⊤) (hd : 0 < d) (m : EReal) (hm : ∃ k < d, y k = m ∧ ∀ j < d, y j ≤ m) (t : EReal)
    (ht : t = if m = ⊥ then 0 else m) :
    Ideal.log (∑ k ∈ Finset.range d, Ideal.exp (y k - t)) + t = Ideal.log (∑ k ∈ Finset.range d, Ideal.exp (y k)) := by
  obtain ⟨k, hk, hkm, hle⟩ := hm
  by_cases hb : m = ⊥
  · rw [if_pos hb] at ht; subst ht; simp
  · rw [if_neg hb] at ht; subst ht
    have hmt : t ≠ ⊤ := hkm ▸ hy k hk
    lift t to ℝ using ⟨hmt, hb⟩
    exact log_sum_shift d y hy t ⟨k, hk, by rw [hkm]; exact EReal.coe_ne_bot t⟩

/-! ## The first largest entry as a smallest column -/

/-- The maximum of the row with all but the window masked is the window's largest entry. -/
theorem fold_max_window (n : ℕ) (x : ℕ → EReal) (w d k : ℕ) (h : IsTop x w d k) (hn : w + d ≤ n) :
    (Finset.univ : Finset (Fin n)).fold max ⊥ (fun j : Fin n => if w ≤ j.val ∧ j.val < w + d then x j.val else ⊥) = x (w + k) := by
  obtain ⟨hk, hle, _⟩ := h
  refine le_antisymm ((Finset.fold_max_le _).mpr ⟨bot_le, fun j _ => ?_⟩) ((Finset.le_fold_max _).mpr (Or.inr ⟨⟨w + k, by omega⟩, Finset.mem_univ _, ?_⟩))
  · split
    · have := hle (j.val - w) (by omega)
      rwa [show w + (j.val - w) = j.val by omega] at this
    · exact bot_le
  · rw [if_pos (by constructor <;> simp <;> omega)]

/-- A minimum of signed words is the word that is among them and below them all. -/
theorem fold_minsi (n : ℕ) (f : Fin n → BitVec 32) (p : BitVec 32) (hp : ∃ k, f k = p) (hle : ∀ k, p.toInt ≤ (f k).toInt) :
    (Finset.univ : Finset (Fin n)).fold IntOp.minsi 2147483647#32 f = p := by
  classical
  have hmin : ∀ a b : BitVec 32, (IntOp.minsi a b).toInt = min a.toInt b.toInt := by
    intro a b; unfold IntOp.minsi; rw [BitVec.slt]
    by_cases h : a.toInt < b.toInt
    · rw [if_pos (by simpa using h), min_eq_left h.le]
    · rw [if_neg (by simpa using h), min_eq_right (not_lt.mp h)]
  have hs : ∀ s : Finset (Fin n), (s.fold IntOp.minsi 2147483647#32 f).toInt = s.fold min (2147483647#32 : BitVec 32).toInt (fun k => (f k).toInt) := by
    intro s
    induction s using Finset.induction_on with
    | empty => rfl
    | insert a s ha ih => rw [Finset.fold_insert ha, Finset.fold_insert ha, hmin, ih]
  apply BitVec.eq_of_toInt_eq
  rw [hs]
  refine le_antisymm ?_ ?_
  · obtain ⟨k, hk⟩ := hp
    exact (Finset.fold_min_le _).mpr (Or.inr ⟨k, Finset.mem_univ _, by rw [hk]⟩)
  · refine (Finset.le_fold_min _).mpr ⟨?_, fun k _ => hle k⟩
    have := BitVec.toInt_lt (x := p)
    have h2 : (2147483647#32 : BitVec 32).toInt = 2147483647 := by decide
    rw [h2]; norm_num at this; omega

/-- The smallest column of the window that attains the window's maximum is its first largest entry. -/
theorem fold_minsi_window (n : ℕ) (x : ℕ → EReal) (w d k : ℕ) (h : IsTop x w d k) (hn : w + d ≤ n) (hN : n < 2 ^ 31) (big : ℕ) (hbig : w + k ≤ big) (hB : big < 2 ^ 31) :
    (Finset.univ : Finset (Fin n)).fold IntOp.minsi 2147483647#32
      (fun j : Fin n => if (w ≤ j.val ∧ j.val < w + d) ∧ x j.val = x (w + k) then BitVec.ofNat 32 j.val else BitVec.ofNat 32 big) = BitVec.ofNat 32 (w + k) := by
  obtain ⟨hk, hle, hlt⟩ := h
  have hi : ∀ a : ℕ, a < 2 ^ 31 → (BitVec.ofNat 32 a).toInt = a := by
    intro a ha
    rw [BitVec.toInt_eq_toNat_cond, BitVec.toNat_ofNat, Nat.mod_eq_of_lt (by omega), if_pos (by omega)]
  refine fold_minsi n _ _ ⟨⟨w + k, by omega⟩, if_pos ⟨by constructor <;> simp <;> omega, rfl⟩⟩ fun j => ?_
  split
  · rename_i hj
    rw [hi _ (by omega), hi _ (by omega)]
    by_contra hc
    have hjk : j.val - w < k := by omega
    have := hlt _ hjk
    rw [show w + (j.val - w) = j.val by omega, hj.2] at this
    exact lt_irrefl _ this
  · rw [hi _ (by omega), hi _ (by omega)]; omega

end Cert.Hier

end
-- ==== Proof.Spec.lean ====
/-
  The two results as functions of the logits and the labels of all 4096 samples.
-/
module

public import proofs.«01_k».proof.Proof.RowMath
public import Idealize.ShloMosaic.Lib.Pointwise

@[expose] public section

noncomputable section

namespace Cert.Hier

open Idealize.ShloMosaic

/-- The logits of all samples. -/
abbrev Logits : Type := (⟨2, ![4096, 11100]⟩ : Shape).Idx → EReal
/-- The labels of all samples, one per level. -/
abbrev Labels : Type := (⟨2, ![4096, 3]⟩ : Shape).Idx → BitVec 32

/-- The logits of one sample, as a function of the column. -/
def row (X : Logits) (i : Fin 4096) : ℕ → EReal := fun j => X (ix2 i ⟨j % 11100, Nat.mod_lt _ (by decide)⟩)

theorem row_of (X : Logits) (i : Fin 4096) (j : Fin 11100) : row X i j.val = X (ix2 i j) := by
  unfold row
  congr 2
  exact Fin.ext (Nat.mod_eq_of_lt j.isLt)

/-- The label of one sample at one level. -/
def lab (L : Labels) (i : Fin 4096) (o : Fin 3) : ℕ := (L (ix2 i o)).toNat

/-- The first result. -/
def outs (X : Logits) : Logits := fun i => outRow (row X (i 0)) (i 1).val

/-- The second result. -/
def total (X : Logits) (L : Labels) : EReal := ∑ i : Fin 4096, perRow (row X i) (lab L i 0) (lab L i 1) (lab L i 2)

/-- What is asked of the arguments: no logit is plus infinity, and the labels of a sample name a class of level 0, one
    of its children and one of that class's children. -/
structure Good (X : Logits) (L : Labels) : Prop where
  logit : ∀ i, X i ≠ ⊤
  lab0 : ∀ i, lab L i 0 < 100
  lab1 : ∀ i, 10 * lab L i 0 ≤ lab L i 1 ∧ lab L i 1 < 10 * lab L i 0 + 10
  lab2 : ∀ i, 10 * lab L i 1 ≤ lab L i 2 ∧ lab L i 2 < 10 * lab L i 1 + 10

theorem Good.row {X : Logits} {L : Labels} (h : Good X L) (i : Fin 4096) (j : ℕ) : row X i j ≠ ⊤ := h.logit _

theorem Good.lab1_lt {X : Logits} {L : Labels} (h : Good X L) (i : Fin 4096) : lab L i 1 < 1000 := by
  have := h.lab0 i; have := h.lab1 i; omega

theorem Good.lab2_lt {X : Logits} {L : Labels} (h : Good X L) (i : Fin 4096) : lab L i 2 < 10000 := by
  have := h.lab1_lt i; have := h.lab2 i; omega

/-- A label's word is the word of its number. -/
theorem lab_word (L : Labels) (i : Fin 4096) (o : Fin 3) : L (ix2 i o) = BitVec.ofNat 32 (lab L i o) := by
  unfold lab; rw [BitVec.ofNat_toNat, BitVec.setWidth_eq]

end Cert.Hier

end
-- ==== Proof.Words.lean ====
/-
  Comparisons and arithmetic of 32-bit words that hold small numbers, as comparisons and arithmetic of the numbers.
-/
module

public import Idealize.ShloMosaic.PureOps.Ideal
public import Idealize.ShloMosaic.Lib.Pointwise

@[expose] public section

namespace Cert.Words

open Idealize.ShloMosaic

/-- A choice by a bit that says whether `P` holds. -/
theorem select_iff {α : Type} {c : BitVec 1} {P : Prop} [Decidable P] (h : c = 1#1 ↔ P) (a b : α) : Scalar.select c a b = if P then a else b := by
  unfold Scalar.select
  by_cases hp : P
  · rw [if_pos hp]; exact if_pos (h.mpr hp)
  · rw [if_neg hp]; exact if_neg (fun hc => hp (h.mp hc))

theorem toInt_small {a : ℕ} (h : a < 2 ^ 31) : (BitVec.ofNat 32 a).toInt = a := by
  rw [BitVec.toInt_eq_toNat_cond, BitVec.toNat_ofNat, Nat.mod_eq_of_lt (by omega), if_pos (by omega)]

theorem toNat_small {a : ℕ} (h : a < 2 ^ 31) : (BitVec.ofNat 32 a).toNat = a := by
  rw [BitVec.toNat_ofNat, Nat.mod_eq_of_lt (by omega)]

theorem ofBool_one (b : Bool) : BitVec.ofBool b = 1#1 ↔ b = true := by cases b <;> decide

theorem slt_iff {a b : ℕ} (ha : a < 2 ^ 31) (hb : b < 2 ^ 31) : IntOp.cmpi .slt (BitVec.ofNat 32 a) (BitVec.ofNat 32 b) = 1#1 ↔ a < b := by
  show BitVec.ofBool _ = 1#1 ↔ _
  rw [ofBool_one, BitVec.slt, toInt_small ha, toInt_small hb]; simp

theorem sge_iff {a b : ℕ} (ha : a < 2 ^ 31) (hb : b < 2 ^ 31) : IntOp.cmpi .sge (BitVec.ofNat 32 a) (BitVec.ofNat 32 b) = 1#1 ↔ b ≤ a := by
  show BitVec.ofBool ((BitVec.ofNat 32 b).sle (BitVec.ofNat 32 a)) = 1#1 ↔ _
  rw [ofBool_one, BitVec.sle, toInt_small ha, toInt_small hb]; simp

theorem sle_iff {a b : ℕ} (ha : a < 2 ^ 31) (hb : b < 2 ^ 31) : IntOp.cmpi .sle (BitVec.ofNat 32 a) (BitVec.ofNat 32 b) = 1#1 ↔ a ≤ b := by
  show BitVec.ofBool _ = 1#1 ↔ _
  rw [ofBool_one, BitVec.sle, toInt_small ha, toInt_small hb]; simp

theorem ofNat_inj {a b : ℕ} (ha : a < 2 ^ 31) (hb : b < 2 ^ 31) : BitVec.ofNat 32 a = BitVec.ofNat 32 b ↔ a = b :=
  ⟨fun h => by have := congrArg BitVec.toNat h; rwa [toNat_small ha, toNat_small hb] at this, fun h => by rw [h]⟩

theorem eq_iff {a b : ℕ} (ha : a < 2 ^ 31) (hb : b < 2 ^ 31) : IntOp.cmpi .eq (BitVec.ofNat 32 a) (BitVec.ofNat 32 b) = 1#1 ↔ a = b := by
  show BitVec.ofBool _ = 1#1 ↔ _
  rw [ofBool_one, beq_iff_eq, ofNat_inj ha hb]

theorem ne_iff {a b : ℕ} (ha : a < 2 ^ 31) (hb : b < 2 ^ 31) : IntOp.cmpi .ne (BitVec.ofNat 32 a) (BitVec.ofNat 32 b) = 1#1 ↔ a ≠ b := by
  show BitVec.ofBool _ = 1#1 ↔ _
  rw [ofBool_one, bne_iff_ne, ne_eq, ofNat_inj ha hb]

/-- Whether `k` lies in the ten columns from `w` on: one unsigned comparison of the difference. -/
theorem window_iff {k w : ℕ} (hk : k < 2 ^ 30) (hw : w < 2 ^ 30) :
    IntOp.cmpi .ult (IntOp.subi (BitVec.ofNat 32 k) (BitVec.ofNat 32 w)) 10#32 = 1#1 ↔ (w ≤ k ∧ k < w + 10) := by
  show BitVec.ofBool _ = 1#1 ↔ _
  rw [ofBool_one, BitVec.ult]
  show decide ((BitVec.ofNat 32 k - BitVec.ofNat 32 w).toNat < (10#32).toNat) = true ↔ _
  rw [decide_eq_true_iff, BitVec.toNat_sub, toNat_small (by omega), toNat_small (by omega)]
  show (2 ^ 32 - w + k) % 2 ^ 32 < 10 ↔ _
  omega

/-- `b + 10 l` computed on words. -/
theorem addi_muli (b l : ℕ) : IntOp.addi (BitVec.ofNat 32 b) (IntOp.muli (BitVec.ofNat 32 l) 10#32) = BitVec.ofNat 32 (b + 10 * l) := by
  rw [mul_comm 10 l, BitVec.ofNat_add, BitVec.ofNat_mul]; rfl

theorem addi_eq (a b : ℕ) : IntOp.addi (BitVec.ofNat 32 a) (BitVec.ofNat 32 b) = BitVec.ofNat 32 (a + b) := (BitVec.ofNat_add a b).symm

theorem muli_eq (a b : ℕ) : IntOp.muli (BitVec.ofNat 32 a) (BitVec.ofNat 32 b) = BitVec.ofNat 32 (a * b) := (BitVec.ofNat_mul a b).symm

theorem subi_eq {a b : ℕ} (h : b ≤ a) : IntOp.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [BitVec.ofNat_add, Nat.add_sub_cancel_left, BitVec.add_comm, BitVec.add_sub_cancel]

theorem andi_iff {a b : BitVec 1} {P Q : Prop} (ha : a = 1#1 ↔ P) (hb : b = 1#1 ↔ Q) : IntOp.andi a b = 1#1 ↔ P ∧ Q := by
  rw [← ha, ← hb]
  clear ha hb
  show a &&& b = 1#1 ↔ _
  revert a b; decide

theorem ori_iff {a b : BitVec 1} {P Q : Prop} (ha : a = 1#1 ↔ P) (hb : b = 1#1 ↔ Q) : IntOp.ori a b = 1#1 ↔ P ∨ Q := by
  rw [← ha, ← hb]
  clear ha hb
  show a ||| b = 1#1 ↔ _
  revert a b; decide

end Cert.Words
-- ==== Proof.Domain.lean ====
/-
  What the precondition says of the arguments.
-/
module

public import proofs.«01_k».proof.Defs
public import proofs.«01_k».proof.Proof.Spec
public import proofs.«01_k».proof.Proof.Words
public import Idealize.ShloMosaic.Lib.Pointwise

@[expose] public section

noncomputable section

namespace Cert.Domain

open Idealize.ShloMosaic Idealize.ShloMosaic.TcCoe Idealize.SL.Sem Cert.Words Cert.Hier
open Cert.Pre_in_domain (S4096x11100 S4096 S4096x3 S4096x1 S_)

/-- The shapes that the precondition's operations ask for fit. -/
theorem facts : Cert.Pre_in_domain.Facts where
  slices_S4096x3_S4096x1_0_0 := by decide
  slices_S4096x3_S4096x1_0_1 := by decide
  bcast_S_S4096x1 := by decide
  slices_S4096x3_S4096x1_0_2 := by decide
  bcast_S_S4096x11100 := by decide
  bcast_S4096x1_S4096x11100_0_1 := by decide

/-- A word from zero up to `n` is a number below `n`. -/
theorem small {w : BitVec 32} {n : ℕ} (hn : n < 2 ^ 31) (h0 : IntOp.cmpi .sge w 0#32 = 1#1) (h1 : IntOp.cmpi .slt w (BitVec.ofNat 32 n) = 1#1) : w.toNat < n := by
  have h0' : BitVec.ofBool ((0#32 : BitVec 32).sle w) = 1#1 := h0
  have h1' : BitVec.ofBool (w.slt (BitVec.ofNat 32 n)) = 1#1 := h1
  rw [ofBool_one, BitVec.sle, decide_eq_true_iff] at h0'
  rw [ofBool_one, BitVec.slt, decide_eq_true_iff, toInt_small hn] at h1'
  have e := BitVec.toInt_eq_toNat_cond w
  have h32 := w.isLt
  rw [show ((0#32 : BitVec 32).toInt) = 0 from rfl] at h0'
  split at e <;> omega

/-- A word that exceeds ten times a small word by less than ten. -/
theorem child {u v : BitVec 32} {n : ℕ} (hn : n ≤ 100000) (hu : u.toNat < n) (h : (IntOp.subi v (IntOp.muli u 10#32)).toNat < 10) :
    10 * u.toNat ≤ v.toNat ∧ v.toNat < 10 * u.toNat + 10 := by
  have h' : (v - u * 10#32).toNat < 10 := h
  rw [BitVec.toNat_sub, BitVec.toNat_mul, show (10#32 : BitVec 32).toNat = 10 from rfl] at h'
  have := v.isLt
  omega

/-- A logit below plus infinity is not plus infinity. -/
theorem below {x : EReal} (h : Ideal.cmp .olt x (Ideal.ofBits .f32 0x7F800000#32) = 1#1) : x ≠ ⊤ := by
  rw [show Ideal.ofBits .f32 0x7F800000#32 = ⊤ by simp [Ideal.ofBits, Ideal.ieee]] at h
  have h' : BitVec.ofBool (decide (x < ⊤)) = 1#1 := h
  rw [ofBool_one, decide_eq_true_iff] at h'
  exact h'.ne

attribute [local instance] facts

/-- Arguments that satisfy the precondition are good. -/
theorem good (x : FVec Ideal S4096x11100 .f32) (y : IVec S4096 32) (l : IVec S4096x3 32)
    (h : Cert.Pre_in_domain.fn (F := Ideal) x y l = fun _ => 1#1) : Good x l := by
  have key : ∀ (i : Fin 4096) (j : Fin 11100),
      (((((((IntOp.cmpi .sge (l (ix2 i 0)) 0#32 = 1#1 ∧ IntOp.cmpi .slt (l (ix2 i 0)) 100#32 = 1#1)
        ∧ IntOp.cmpi .sge (IntOp.subi (l (ix2 i 1)) (IntOp.muli (l (ix2 i 0)) 10#32)) 0#32 = 1#1)
        ∧ IntOp.cmpi .slt (IntOp.subi (l (ix2 i 1)) (IntOp.muli (l (ix2 i 0)) 10#32)) 10#32 = 1#1)
        ∧ IntOp.cmpi .sge (IntOp.subi (l (ix2 i 2)) (IntOp.muli (l (ix2 i 1)) 10#32)) 0#32 = 1#1)
        ∧ IntOp.cmpi .slt (IntOp.subi (l (ix2 i 2)) (IntOp.muli (l (ix2 i 1)) 10#32)) 10#32 = 1#1)
        ∧ Ideal.cmp .olt (x (ix2 i j)) (Ideal.ofBits .f32 0x7F800000#32) = 1#1)) := by
    intro i j
    have e := congrFun h (ix2 i j)
    simp only [← andi_iff Iff.rfl Iff.rfl]
    refine Eq.trans ?_ e
    unfold Cert.Pre_in_domain.fn Cert.Pre_in_domain.fn_part1
    pointwise
  refine ⟨fun p => ?_, fun i => ?_, fun i => ?_, fun i => ?_⟩
  · rw [eq_ix2 p]
    exact below (key (p 0) (p 1)).2
  · have k := key i 0
    exact small (n := 100) (by decide) k.1.1.1.1.1.1 k.1.1.1.1.1.2
  · have k := key i 0
    exact child (n := 100) (by decide) (small (n := 100) (by decide) k.1.1.1.1.1.1 k.1.1.1.1.1.2) (small (n := 10) (by decide) k.1.1.1.1.2 k.1.1.1.2)
  · have k := key i 0
    have h0 := small (n := 100) (by decide) k.1.1.1.1.1.1 k.1.1.1.1.1.2
    have h1 := child (n := 100) (by decide) h0 (small (n := 10) (by decide) k.1.1.1.1.2 k.1.1.1.2)
    exact child (n := 1000) (by decide) (by omega) (small (n := 10) (by decide) k.1.1.2 k.1.2)

end Cert.Domain

end
-- ==== Proof.RefOps.lean ====
/-
  The reference as a list of array operations. `main` of the reference has no loop and no kernel call: it is a straight
  line of operations, each of which writes one buffer of its own. Here that line is cut into the steps the
  problem has (labels, five cross entropies, two predictions, the sum, the three copies into the output), and
  it is shown that `main` performs these steps one after the other.
-/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Two index arrays side by side along their last axis. -/
def pairUp : (⟨S4096x10x1, .i32⟩ : BufTy).Contents (Elt F) → (⟨S4096x10x1, .i32⟩ : BufTy).Contents (Elt F) → (⟨S4096x10x2, .i32⟩ : BufTy).Contents (Elt F) :=
  fun a b => concatenate S4096x10x2 2 [⟨S4096x10x1, a⟩, ⟨S4096x10x1, b⟩] concatenates_S4096x10x1_S4096x10x1_S4096x10x2_d2

/-- The operations that compute the three label columns, the two relative labels and the two counters. -/
abbrev opsLab : List (HloOp τ sig (Elt F)) :=
  [ unary main_arg2 main_v0 ((extractStridedSlice S4096x1 ![0, 0] · slices_S4096x3_S4096x1_0_0) : (⟨S4096x3, .i32⟩ : BufTy).Contents (Elt F) → (⟨S4096x1, .i32⟩ : BufTy).Contents (Elt F)),
    reshape main_v0 main_v1 (rfl : (.i32 : EltTy) = .i32) shapeCasts_S4096x1_S4096,
    unary main_arg2 main_v2 ((extractStridedSlice S4096x1 ![0, 1] · slices_S4096x3_S4096x1_0_1) : (⟨S4096x3, .i32⟩ : BufTy).Contents (Elt F) → (⟨S4096x1, .i32⟩ : BufTy).Contents (Elt F)),
    reshape main_v2 main_v3 (rfl : (.i32 : EltTy) = .i32) shapeCasts_S4096x1_S4096,
    unary main_arg2 main_v4 ((extractStridedSlice S4096x1 ![0, 2] · slices_S4096x3_S4096x1_0_2) : (⟨S4096x3, .i32⟩ : BufTy).Contents (Elt F) → (⟨S4096x1, .i32⟩ : BufTy).Contents (Elt F)),
    reshape main_v4 main_v5 (rfl : (.i32 : EltTy) = .i32) shapeCasts_S4096x1_S4096,
    nullary main_c (constantI S_ 32 10#32),
    unary main_c main_v6 (broadcastInDim S4096 ![] bcast_S_S4096 : (⟨S_, .i32⟩ : BufTy).Contents (Elt F) → (⟨S4096, .i32⟩ : BufTy).Contents (Elt F)),
    binary main_v1 main_v6 main_v7 (muli : (⟨S4096, .i32⟩ : BufTy).Contents (Elt F) → (⟨S4096, .i32⟩ : BufTy).Contents (Elt F) → (⟨S4096, .i32⟩ : BufTy).Contents (Elt F)),
    binary main_v3 main_v7 main_v8 (subi : (⟨S4096, .i32⟩ : BufTy).Contents (Elt F) → (⟨S4096, .i32⟩ : BufTy).Contents (Elt F) → (⟨S4096, .i32⟩ : BufTy).Contents (Elt F)),
    nullary main_c_0 (constantI S_ 32 10#32),
    unary main_c_0 main_v9 (broadcastInDim S4096 ![] bcast_S_S4096 : (⟨S_, .i32⟩ : BufTy).Contents (Elt F) → (⟨S4096, .i32⟩ : BufTy).Contents (Elt F)),
    binary main_v3 main_v9 main_v10 (muli : (⟨S4096, .i32⟩ : BufTy).Contents (Elt F) → (⟨S4096, .i32⟩ : BufTy).Contents (Elt F) → (⟨S4096, .i32⟩ : BufTy).Contents (Elt F)),
    binary main_v5 main_v10 main_v11 (subi : (⟨S4096, .i32⟩ : BufTy).Contents (Elt F) → (⟨S4096, .i32⟩ : BufTy).Contents (Elt F) → (⟨S4096, .i32⟩ : BufTy).Contents (Elt F)),
    nullary main_v12 (iotaInDim S10 32 0),
    nullary main_v13 (iotaInDim S10 32 0)]

/-- The operations that compute the cross entropy of the hundred logits of level 0. -/
abbrev opsCe0 : List (HloOp τ sig (Elt F)) :=
  [ unary main_arg0 main_v14 ((extractStridedSlice S4096x100 ![0, 0] · slices_S4096x11100_S4096x100_0_0) : (⟨S4096x11100, .f32⟩ : BufTy).Contents (Elt F) → (⟨S4096x100, .f32⟩ : BufTy).Contents (Elt F)),
    nullary main_cst (constant S_ .f32 0xFF800000#32),
    binary main_v14 main_cst main_v15 ((fun x v => Host.reduce FloatOps.maximumf x v reducesTo_S4096x100_S4096_d1 h_S_) : (⟨S4096x100, .f32⟩ : BufTy).Contents (Elt F) → (⟨S_, .f32⟩ : BufTy).Contents (Elt F) → (⟨S4096, .f32⟩ : BufTy).Contents (Elt F)),
    unary main_v15 main_v16 (Host.absf : (⟨S4096, .f32⟩ : BufTy).Contents (Elt F) → (⟨S4096, .f32⟩ : BufTy).Contents (Elt F)),
    nullary main_cst_1 (constant S_ .f32 0x7F800000#32),
    unary main_cst_1 main_v17 (broadcastInDim S4096 ![] bcast_S_S4096 : (⟨S_, .f32⟩ : BufTy).Contents (Elt F) → (⟨S4096, .f32⟩ : BufTy).Contents (Elt F)),
    binary main_v16 main_v17 main_v18 (cmpf .olt : (⟨S4096, .f32⟩ : BufTy).Contents (Elt F) → (⟨S4096, .f32⟩ : BufTy).Contents (Elt F) → (⟨S4096, .i1⟩ : BufTy).Contents (Elt F)),
    nullary main_cst_2 (constant S_ .f32 0x00000000#32),
    unary main_cst_2 main_v19 (broadcastInDim S4096 ![] bcast_S_S4096 : (⟨S_, .f32⟩ : BufTy).Contents (Elt F) → (⟨S4096, .f32⟩ : BufTy).Contents (Elt F)),
    ternary main_v18 main_v15 main_v19 main_v20 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    unary main_v21 main_v22 (broadcastInDim S4096x100 ![0, 1] bcast_S4096x1_S4096x100_0_1 : (⟨S4096x1, .f32⟩ : BufTy).Contents (Elt F) → (⟨S4096x100, .f32⟩ : BufTy).Contents (Elt F)),
    binary main_v14 main_v22 main_v23 (subf : (⟨S4096x100, .f32⟩ : BufTy).Contents (Elt F) → (⟨S4096x100, .f32⟩ : BufTy).Contents (Elt F) → (⟨S4096x100, .f32⟩ : BufTy).Contents (Elt F)),
    unary main_v23 main_v24 (Host.exp : (⟨S4096x100, .f32⟩ : BufTy).Contents (Elt F) → (⟨S4096x100, .f32⟩ : BufTy).Contents (Elt F)),
    nullary main_cst_3 (constant S_ .f32 0x00000000#32),
    binary main_v24 main_cst_3 main_v25 ((fun x v => Host.reduceAdd x v reducesTo_S4096x100_S4096_d1 h_S_) : (⟨S4096x100, .f32⟩ : BufTy).Contents (Elt F) → (⟨S_, .f32⟩ : BufTy).Contents (Elt F) → (⟨S4096, .f32⟩ : BufTy).Contents (Elt F)),
    unary main_v25 main_v26 (Host.log : (⟨S4096, .f32⟩ : BufTy).Contents (Elt F) → (⟨S4096, .f32⟩ : BufTy).Contents (Elt F)),
    binary main_v26 main_v20 main_v27 (addf : (⟨S4096, .f32⟩ : BufTy).Contents (Elt F) → (⟨S4096, .f32⟩ : BufTy).Contents (Elt F) → (⟨S4096, .f32⟩ : BufTy).Contents (Elt F)),
    unary main_v1 main_v28 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4096x1, .i32⟩) main_call0_v0) (broadcastInDim S4096x1 ![] bcast_S_S4096x1),
    TRef.binary (TRef.of (T := ⟨S4096x1, .i32⟩) main_v28) (TRef.of (T := ⟨S4096x1, .i32⟩) main_call0_v0) (TRef.of (T := ⟨S4096x1, .i1⟩) main_call0_v1) (cmpi .slt),
    TRef.nullary (TRef.of (T := ⟨S_, .i32⟩) main_call0_c_0) (constantI S_ 32 100#32),
    TRef.unary (TRef.of (T := ⟨S_, .i32⟩) main_call0_c_0) (TRef.of (T := ⟨S4096x1, .i32⟩) main_call0_v2) (broadcastInDim S4096x1 ![] bcast_S_S4096x1),
    TRef.binary (TRef.of (T := ⟨S4096x1, .i32⟩) main_v28) (TRef.of (T := ⟨S4096x1, .i32⟩) main_call0_v2) (TRef.of (T := ⟨S4096x1, .i32⟩) main_call0_v3) addi,
    TRef.ternary (TRef.of (T := ⟨S4096x1, .i1⟩) main_call0_v1) (TRef.of (T := ⟨S4096x1, .i32⟩) main_call0_v3) (TRef.of (T := ⟨S4096x1, .i32⟩) main_v28) (TRef.of (T := ⟨S4096x1, .i32⟩) main_call0_v4) select,
    TRef.reshape (TRef.of (T := ⟨S4096x1, .i32⟩) main_call0_v4) (TRef.of (T := ⟨S4096x1x1, .i32⟩) main_call0_v5) (rfl : (.i32 : EltTy) = .i32) shapeCasts_S4096x1_S4096x1x1,
    TRef.nullary (TRef.of (T := ⟨S1, .i32⟩) main_call0_c_1) (constantI S1 32 99#32),
    TRef.nullary (TRef.of (T := ⟨S_, .i32⟩) main_call0_c_2) (constantI S_ 32 0#32),
    TRef.unary (TRef.of (T := ⟨S_, .i32⟩) main_call0_c_2) (TRef.of (T := ⟨S4096x1x1, .i32⟩) main_call0_v6) (broadcastInDim S4096x1x1 ![] bcast_S_S4096x1x1),
    TRef.binary (TRef.of (T := ⟨S4096x1x1, .i32⟩) main_call0_v5) (TRef.of (T := ⟨S4096x1x1, .i32⟩) main_call0_v6) (TRef.of (T := ⟨S4096x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4096x1x1, .i32⟩) main_call0_v9) (broadcastInDim S4096x1x1 ![0, 1, 2] bcast_S1x1x1_S4096x1x1_0_1_2),
    TRef.binary (TRef.of (T := ⟨S4096x1x1, .i32⟩) main_call0_v5) (TRef.of (T := ⟨S4096x1x1, .i32⟩) main_call0_v9) (TRef.of (T := ⟨S4096x1x1, .i1⟩) main_call0_v10) (cmpi .sle),
    TRef.binary (TRef.of (T := ⟨S4096x1x1, .i1⟩) main_call0_v7) (TRef.of (T := ⟨S4096x1x1, .i1⟩) main_call0_v10) (TRef.of (T := ⟨S4096x1x1, .i1⟩) main_call0_v11) andi,
    TRef.nullary (TRef.of (T := ⟨S_, .i1⟩) main_call0_c_3) (constantI S_ 1 1#1),
    TRef.binary (TRef.of (T := ⟨S4096x1x1, .i1⟩) main_call0_v11) (TRef.of (T := ⟨S_, .i1⟩) main_call0_c_3) (TRef.of (T := ⟨S4096x1, .i1⟩) main_call0_v12) (fun x v => Host.reduce IntOp.andi x v reducesTo_S4096x1x1_S4096x1_d2 h_S_),
    TRef.binary (TRef.of (T := ⟨S4096x100, .f32⟩) main_v14) (TRef.of (T := ⟨S4096x1x1, .i32⟩) main_call0_v5) (TRef.of (T := ⟨S4096x1, .f32⟩) main_call0_v13) (fun x i => Host.gather gather_S4096x100_S4096x1x1_S4096x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4096x1, .f32⟩) main_call0_v14) (broadcastInDim S4096x1 ![] bcast_S_S4096x1),
    TRef.ternary (TRef.of (T := ⟨S4096x1, .i1⟩) main_call0_v12) (TRef.of (T := ⟨S4096x1, .f32⟩) main_call0_v13) (TRef.of (T := ⟨S4096x1, .f32⟩) main_call0_v14) (TRef.of (T := ⟨S4096x1, .f32⟩) main_v29) select,
    reshape main_v29 main_v30 (rfl : (.f32 : EltTy) = .f32) shapeCasts_S4096x1_S4096,
    binary main_v27 main_v30 main_v31 (subf : (⟨S4096, .f32⟩ : BufTy).Contents (Elt F) → (⟨S4096, .f32⟩ : BufTy).Contents (Elt F) → (⟨S4096, .f32⟩ : BufTy).Contents (Elt F))]

/-- The operations that compute the columns of the ten children of the level 0 label. -/
abbrev opsIx1 : List (HloOp τ sig (Elt F)) :=
  [ unary main_v1 main_v32 (broadcastInDim S4096x1 ![0] bcast_S4096_S4096x1_0 : (⟨S4096, .i32⟩ : BufTy).Contents (Elt F) → (⟨S4096x1, .i32⟩ : BufTy).Contents (Elt F)),
    nullary main_c_4 (constantI S_ 32 10#32),
    unary main_c_4 main_v33 (broadcastInDim S4096x1 ![] bcast_S_S4096x1 : (⟨S_, .i32⟩ : BufTy).Contents (Elt F) → (⟨S4096x1, .i32⟩ : BufTy).Contents (Elt F)),
    binary main_v32 main_v33 main_v34 (muli : (⟨S4096x1, .i32⟩ : BufTy).Contents (Elt F) → (⟨S4096x1, .i32⟩ : BufTy).Contents (Elt F) → (⟨S4096x1, .i32⟩ : BufTy).Contents (Elt F)),
    unary main_v12 main_v35 (broadcastInDim S1x10 ![1] bcast_S10_S1x10_1 : (⟨S10, .i32⟩ : BufTy).Contents (Elt F) → (⟨S1x10, .i32⟩ : BufTy).Contents (Elt F)),
    unary main_v34 main_v36 (broadcastInDim S4096x10 ![0, 1] bcast_S4096x1_S4096x10_0_1 : (⟨S4096x1, .i32⟩ : BufTy).Contents (Elt F) → (⟨S4096x10, .i32⟩ : BufTy).Contents (Elt F)),
    unary main_v35 main_v37 (broadcastInDim S4096x10 ![0, 1] bcast_S1x10_S4096x10_0_1 : (⟨S1x10, .i32⟩ : BufTy).Contents (Elt F) → (⟨S4096x10, .i32⟩ : BufTy).Contents (Elt F)),
    binary main_v36 main_v37 main_v38 (addi : (⟨S4096x10, .i32⟩ : BufTy).Contents (Elt F) → (⟨S4096x10, .i32⟩ : BufTy).Contents (Elt F) → (⟨S4096x10, .i32⟩ : BufTy).Contents (Elt F)),
    nullary main_c_5 (constantI S_ 32 100#32),
    unary main_c_5 main_v39 (broadcastInDim S4096x10 ![] bcast_S_S4096x10 : (⟨S_, .i32⟩ : BufTy).Contents (Elt F) → (⟨S4096x10, .i32⟩ : BufTy).Contents (Elt F)),
    binary main_v38 main_v39 main_v40 (addi : (⟨S4096x10, .i32⟩ : BufTy).Contents (Elt F) → (⟨S4096x10, .i32⟩ : BufTy).Contents (Elt F) → (⟨S4096x10, .i32⟩ : BufTy).Contents (Elt F))]

/-- The operations that compute the logits of those children. -/
abbrev opsTk1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S4096x10, .i32⟩) main_call1_v0) (broadcastInDim S4096x10 ![] bcast_S_S4096x10),
    TRef.binary (TRef.of (T := ⟨S4096x10, .i32⟩) main_v40) (TRef.of (T := ⟨S4096x10, .i32⟩) main_call1_v0) (TRef.of (T := ⟨S4096x10, .i1⟩) main_call1_v1) (cmpi .slt),
    TRef.nullary (TRef.of (T := ⟨S_, .i32⟩) main_call1_c_0) (constantI S_ 32 11100#32),
    TRef.unary (TRef.of (T := ⟨S_, .i32⟩) main_call1_c_0) (TRef.of (T := ⟨S4096x10, .i32⟩) main_call1_v2) (broadcastInDim S4096x10 ![] bcast_S_S4096x10),
    TRef.binary (TRef.of (T := ⟨S4096x10, .i32⟩) main_v40) (TRef.of (T := ⟨S4096x10, .i32⟩) main_call1_v2) (TRef.of (T := ⟨S4096x10, .i32⟩) main_call1_v3) addi,
    TRef.ternary (TRef.of (T := ⟨S4096x10, .i1⟩) main_call1_v1) (TRef.of (T := ⟨S4096x10, .i32⟩) main_call1_v3) (TRef.of (T := ⟨S4096x10, .i32⟩) main_v40) (TRef.of (T := ⟨S4096x10, .i32⟩) main_call1_v4) select,
    TRef.reshape (TRef.of (T := ⟨S4096x10, .i32⟩) main_call1_v4) (TRef.of (T := ⟨S4096x10x1, .i32⟩) main_call1_v5) (rfl : (.i32 : EltTy) = .i32) shapeCasts_S4096x10_S4096x10x1,
    TRef.nullary (TRef.of (T := ⟨S1, .i32⟩) main_call1_c_1) (constantI S1 32 11099#32),
    TRef.nullary (TRef.of (T := ⟨S_, .i32⟩) main_call1_c_2) (constantI S_ 32 0#32),
    TRef.unary (TRef.of (T := ⟨S_, .i32⟩) main_call1_c_2) (TRef.of (T := ⟨S4096x10x1, .i32⟩) main_call1_v6) (broadcastInDim S4096x10x1 ![] bcast_S_S4096x10x1),
    TRef.binary (TRef.of (T := ⟨S4096x10x1, .i32⟩) main_call1_v5) (TRef.of (T := ⟨S4096x10x1, .i32⟩) main_call1_v6) (TRef.of (T := ⟨S4096x10x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x10x1, .i32⟩) main_call1_v9) (broadcastInDim S4096x10x1 ![0, 1, 2] bcast_S1x1x1_S4096x10x1_0_1_2),
    TRef.binary (TRef.of (T := ⟨S4096x10x1, .i32⟩) main_call1_v5) (TRef.of (T := ⟨S4096x10x1, .i32⟩) main_call1_v9) (TRef.of (T := ⟨S4096x10x1, .i1⟩) main_call1_v10) (cmpi .sle),
    TRef.binary (TRef.of (T := ⟨S4096x10x1, .i1⟩) main_call1_v7) (TRef.of (T := ⟨S4096x10x1, .i1⟩) main_call1_v10) (TRef.of (T := ⟨S4096x10x1, .i1⟩) main_call1_v11) andi,
    TRef.nullary (TRef.of (T := ⟨S_, .i1⟩) main_call1_c_3) (constantI S_ 1 1#1),
    TRef.binary (TRef.of (T := ⟨S4096x10x1, .i1⟩) main_call1_v11) (TRef.of (T := ⟨S_, .i1⟩) main_call1_c_3) (TRef.of (T := ⟨S4096x10, .i1⟩) main_call1_v12) (fun x v => Host.reduce IntOp.andi x v reducesTo_S4096x10x1_S4096x10_d2 h_S_),
    TRef.binary (TRef.of (T := ⟨S4096x11100, .f32⟩) main_arg0) (TRef.of (T := ⟨S4096x10x1, .i32⟩) main_call1_v5) (TRef.of (T := ⟨S4096x10, .f32⟩) main_call1_v13) (fun x i => Host.gather gather_S4096x11100_S4096x10x1_S4096x10_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x10, .f32⟩) main_call1_v14) (broadcastInDim S4096x10 ![] bcast_S_S4096x10),
    TRef.ternary (TRef.of (T := ⟨S4096x10, .i1⟩) main_call1_v12) (TRef.of (T := ⟨S4096x10, .f32⟩) main_call1_v13) (TRef.of (T := ⟨S4096x10, .f32⟩) main_call1_v14) (TRef.of (T := ⟨S4096x10, .f32⟩) main_v41) select]

/-- The operations that compute the cross entropy of those ten logits, first stretch. -/
abbrev opsCe1a : List (HloOp τ sig (Elt F)) :=
  [ nullary main_cst_6 (constant S_ .f32 0xFF800000#32),
    binary main_v41 main_cst_6 main_v42 ((fun x v => Host.reduce FloatOps.maximumf x v reducesTo_S4096x10_S4096_d1 h_S_) : (⟨S4096x10, .f32⟩ : BufTy).Contents (Elt F) → (⟨S_, .f32⟩ : BufTy).Contents (Elt F) → (⟨S4096, .f32⟩ : BufTy).Contents (Elt F)),
    unary main_v42 main_v43 (Host.absf : (⟨S4096, .f32⟩ : BufTy).Contents (Elt F) → (⟨S4096, .f32⟩ : BufTy).Contents (Elt F)),
    nullary main_cst_7 (constant S_ .f32 0x7F800000#32),
    unary main_cst_7 main_v44 (broadcastInDim S4096 ![] bcast_S_S4096 : (⟨S_, .f32⟩ : BufTy).Contents (Elt F) → (⟨S4096, .f32⟩ : BufTy).Contents (Elt F)),
    binary main_v43 main_v44 main_v45 (cmpf .olt : (⟨S4096, .f32⟩ : BufTy).Contents (Elt F) → (⟨S4096, .f32⟩ : BufTy).Contents (Elt F) → (⟨S4096, .i1⟩ : BufTy).Contents (Elt F)),
    nullary main_cst_8 (constant S_ .f32 0x00000000#32),
    unary main_cst_8 main_v46 (broadcastInDim S4096 ![] bcast_S_S4096 : (⟨S_, .f32⟩ : BufTy).Contents (Elt F) → (⟨S4096, .f32⟩ : BufTy).Contents (Elt F)),
    ternary main_v45 main_v42 main_v46 main_v47 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F))]

/-- The operations that compute the cross entropy of those ten logits, second stretch. -/
abbrev opsCe1b : List (HloOp τ sig (Elt F)) :=
  [ unary main_v48 main_v49 (broadcastInDim S4096x10 ![0, 1] bcast_S4096x1_S4096x10_0_1 : (⟨S4096x1, .f32⟩ : BufTy).Contents (Elt F) → (⟨S4096x10, .f32⟩ : BufTy).Contents (Elt F)),
    binary main_v41 main_v49 main_v50 (subf : (⟨S4096x10, .f32⟩ : BufTy).Contents (Elt F) → (⟨S4096x10, .f32⟩ : BufTy).Contents (Elt F) → (⟨S4096x10, .f32⟩ : BufTy).Contents (Elt F)),
    unary main_v50 main_v51 (Host.exp : (⟨S4096x10, .f32⟩ : BufTy).Contents (Elt F) → (⟨S4096x10, .f32⟩ : BufTy).Contents (Elt F)),
    nullary main_cst_9 (constant S_ .f32 0x00000000#32),
    binary main_v51 main_cst_9 main_v52 ((fun x v => Host.reduceAdd x v reducesTo_S4096x10_S4096_d1 h_S_) : (⟨S4096x10, .f32⟩ : BufTy).Contents (Elt F) → (⟨S_, .f32⟩ : BufTy).Contents (Elt F) → (⟨S4096, .f32⟩ : BufTy).Contents (Elt F)),
    unary main_v52 main_v53 (Host.log : (⟨S4096, .f32⟩ : BufTy).Contents (Elt F) → (⟨S4096, .f32⟩ : BufTy).Contents (Elt F)),
    binary main_v53 main_v47 main_v54 (addf : (⟨S4096, .f32⟩ : BufTy).Contents (Elt F) → (⟨S4096, .f32⟩ : BufTy).Contents (Elt F) → (⟨S4096, .f32⟩ : BufTy).Contents (Elt F)),
    unary main_v8 main_v55 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4096x1, .i32⟩) main_call2_v0) (broadcastInDim S4096x1 ![] bcast_S_S4096x1),
    TRef.binary (TRef.of (T := ⟨S4096x1, .i32⟩) main_v55) (TRef.of (T := ⟨S4096x1, .i32⟩) main_call2_v0) (TRef.of (T := ⟨S4096x1, .i1⟩) main_call2_v1) (cmpi .slt),
    TRef.nullary (TRef.of (T := ⟨S_, .i32⟩) main_call2_c_0) (constantI S_ 32 10#32),
    TRef.unary (TRef.of (T := ⟨S_, .i32⟩) main_call2_c_0) (TRef.of (T := ⟨S4096x1, .i32⟩) main_call2_v2) (broadcastInDim S4096x1 ![] bcast_S_S4096x1),
    TRef.binary (TRef.of (T := ⟨S4096x1, .i32⟩) main_v55) (TRef.of (T := ⟨S4096x1, .i32⟩) main_call2_v2) (TRef.of (T := ⟨S4096x1, .i32⟩) main_call2_v3) addi,
    TRef.ternary (TRef.of (T := ⟨S4096x1, .i1⟩) main_call2_v1) (TRef.of (T := ⟨S4096x1, .i32⟩) main_call2_v3) (TRef.of (T := ⟨S4096x1, .i32⟩) main_v55) (TRef.of (T := ⟨S4096x1, .i32⟩) main_call2_v4) select,
    TRef.reshape (TRef.of (T := ⟨S4096x1, .i32⟩) main_call2_v4) (TRef.of (T := ⟨S4096x1x1, .i32⟩) main_call2_v5) (rfl : (.i32 : EltTy) = .i32) shapeCasts_S4096x1_S4096x1x1,
    TRef.nullary (TRef.of (T := ⟨S1, .i32⟩) main_call2_c_1) (constantI S1 32 9#32),
    TRef.nullary (TRef.of (T := ⟨S_, .i32⟩) main_call2_c_2) (constantI S_ 32 0#32),
    TRef.unary (TRef.of (T := ⟨S_, .i32⟩) main_call2_c_2) (TRef.of (T := ⟨S4096x1x1, .i32⟩) main_call2_v6) (broadcastInDim S4096x1x1 ![] bcast_S_S4096x1x1),
    TRef.binary (TRef.of (T := ⟨S4096x1x1, .i32⟩) main_call2_v5) (TRef.of (T := ⟨S4096x1x1, .i32⟩) main_call2_v6) (TRef.of (T := ⟨S4096x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4096x1x1, .i32⟩) main_call2_v9) (broadcastInDim S4096x1x1 ![0, 1, 2] bcast_S1x1x1_S4096x1x1_0_1_2),
    TRef.binary (TRef.of (T := ⟨S4096x1x1, .i32⟩) main_call2_v5) (TRef.of (T := ⟨S4096x1x1, .i32⟩) main_call2_v9) (TRef.of (T := ⟨S4096x1x1, .i1⟩) main_call2_v10) (cmpi .sle),
    TRef.binary (TRef.of (T := ⟨S4096x1x1, .i1⟩) main_call2_v7) (TRef.of (T := ⟨S4096x1x1, .i1⟩) main_call2_v10) (TRef.of (T := ⟨S4096x1x1, .i1⟩) main_call2_v11) andi,
    TRef.nullary (TRef.of (T := ⟨S_, .i1⟩) main_call2_c_3) (constantI S_ 1 1#1),
    TRef.binary (TRef.of (T := ⟨S4096x1x1, .i1⟩) main_call2_v11) (TRef.of (T := ⟨S_, .i1⟩) main_call2_c_3) (TRef.of (T := ⟨S4096x1, .i1⟩) main_call2_v12) (fun x v => Host.reduce IntOp.andi x v reducesTo_S4096x1x1_S4096x1_d2 h_S_),
    TRef.binary (TRef.of (T := ⟨S4096x10, .f32⟩) main_v41) (TRef.of (T := ⟨S4096x1x1, .i32⟩) main_call2_v5) (TRef.of (T := ⟨S4096x1, .f32⟩) main_call2_v13) (fun x i => Host.gather gather_S4096x10_S4096x1x1_S4096x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4096x1, .f32⟩) main_call2_v14) (broadcastInDim S4096x1 ![] bcast_S_S4096x1),
    TRef.ternary (TRef.of (T := ⟨S4096x1, .i1⟩) main_call2_v12) (TRef.of (T := ⟨S4096x1, .f32⟩) main_call2_v13) (TRef.of (T := ⟨S4096x1, .f32⟩) main_call2_v14) (TRef.of (T := ⟨S4096x1, .f32⟩) main_v56) select,
    reshape main_v56 main_v57 (rfl : (.f32 : EltTy) = .f32) shapeCasts_S4096x1_S4096,
    binary main_v54 main_v57 main_v58 (subf : (⟨S4096, .f32⟩ : BufTy).Contents (Elt F) → (⟨S4096, .f32⟩ : BufTy).Contents (Elt F) → (⟨S4096, .f32⟩ : BufTy).Contents (Elt F))]

/-- The operations that compute the cross entropy of those ten logits. -/
abbrev opsCe1 : List (HloOp τ sig (Elt F)) := opsCe1a ++ opsCe1b

/-- The operations that compute the columns of the ten children of the level 1 label. -/
abbrev opsIx2 : List (HloOp τ sig (Elt F)) :=
  [ unary main_v3 main_v59 (broadcastInDim S4096x1 ![0] bcast_S4096_S4096x1_0 : (⟨S4096, .i32⟩ : BufTy).Contents (Elt F) → (⟨S4096x1, .i32⟩ : BufTy).Contents (Elt F)),
    nullary main_c_10 (constantI S_ 32 10#32),
    unary main_c_10 main_v60 (broadcastInDim S4096x1 ![] bcast_S_S4096x1 : (⟨S_, .i32⟩ : BufTy).Contents (Elt F) → (⟨S4096x1, .i32⟩ : BufTy).Contents (Elt F)),
    binary main_v59 main_v60 main_v61 (muli : (⟨S4096x1, .i32⟩ : BufTy).Contents (Elt F) → (⟨S4096x1, .i32⟩ : BufTy).Contents (Elt F) → (⟨S4096x1, .i32⟩ : BufTy).Contents (Elt F)),
    unary main_v13 main_v62 (broadcastInDim S1x10 ![1] bcast_S10_S1x10_1 : (⟨S10, .i32⟩ : BufTy).Contents (Elt F) → (⟨S1x10, .i32⟩ : BufTy).Contents (Elt F)),
    unary main_v61 main_v63 (broadcastInDim S4096x10 ![0, 1] bcast_S4096x1_S4096x10_0_1 : (⟨S4096x1, .i32⟩ : BufTy).Contents (Elt F) → (⟨S4096x10, .i32⟩ : BufTy).Contents (Elt F)),
    unary main_v62 main_v64 (broadcastInDim S4096x10 ![0, 1] bcast_S1x10_S4096x10_0_1 : (⟨S1x10, .i32⟩ : BufTy).Contents (Elt F) → (⟨S4096x10, .i32⟩ : BufTy).Contents (Elt F)),
    binary main_v63 main_v64 main_v65 (addi : (⟨S4096x10, .i32⟩ : BufTy).Contents (Elt F) → (⟨S4096x10, .i32⟩ : BufTy).Contents (Elt F) → (⟨S4096x10, .i32⟩ : BufTy).Contents (Elt F)),
    nullary main_c_11 (constantI S_ 32 1100#32),
    unary main_c_11 main_v66 (broadcastInDim S4096x10 ![] bcast_S_S4096x10 : (⟨S_, .i32⟩ : BufTy).Contents (Elt F) → (⟨S4096x10, .i32⟩ : BufTy).Contents (Elt F)),
    binary main_v65 main_v66 main_v67 (addi : (⟨S4096x10, .i32⟩ : BufTy).Contents (Elt F) → (⟨S4096x10, .i32⟩ : BufTy).Contents (Elt F) → (⟨S4096x10, .i32⟩ : BufTy).Contents (Elt F))]

/-- The operations that compute the logits of those children. -/
abbrev opsTk2 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S4096x10, .i32⟩) main_call3_v0) (broadcastInDim S4096x10 ![] bcast_S_S4096x10),
    TRef.binary (TRef.of (T := ⟨S4096x10, .i32⟩) main_v67) (TRef.of (T := ⟨S4096x10, .i32⟩) main_call3_v0) (TRef.of (T := ⟨S4096x10, .i1⟩) main_call3_v1) (cmpi .slt),
    TRef.nullary (TRef.of (T := ⟨S_, .i32⟩) main_call3_c_0) (constantI S_ 32 11100#32),
    TRef.unary (TRef.of (T := ⟨S_, .i32⟩) main_call3_c_0) (TRef.of (T := ⟨S4096x10, .i32⟩) main_call3_v2) (broadcastInDim S4096x10 ![] bcast_S_S4096x10),
    TRef.binary (TRef.of (T := ⟨S4096x10, .i32⟩) main_v67) (TRef.of (T := ⟨S4096x10, .i32⟩) main_call3_v2) (TRef.of (T := ⟨S4096x10, .i32⟩) main_call3_v3) addi,
    TRef.ternary (TRef.of (T := ⟨S4096x10, .i1⟩) main_call3_v1) (TRef.of (T := ⟨S4096x10, .i32⟩) main_call3_v3) (TRef.of (T := ⟨S4096x10, .i32⟩) main_v67) (TRef.of (T := ⟨S4096x10, .i32⟩) main_call3_v4) select,
    TRef.reshape (TRef.of (T := ⟨S4096x10, .i32⟩) main_call3_v4) (TRef.of (T := ⟨S4096x10x1, .i32⟩) main_call3_v5) (rfl : (.i32 : EltTy) = .i32) shapeCasts_S4096x10_S4096x10x1,
    TRef.nullary (TRef.of (T := ⟨S1, .i32⟩) main_call3_c_1) (constantI S1 32 11099#32),
    TRef.nullary (TRef.of (T := ⟨S_, .i32⟩) main_call3_c_2) (constantI S_ 32 0#32),
    TRef.unary (TRef.of (T := ⟨S_, .i32⟩) main_call3_c_2) (TRef.of (T := ⟨S4096x10x1, .i32⟩) main_call3_v6) (broadcastInDim S4096x10x1 ![] bcast_S_S4096x10x1),
    TRef.binary (TRef.of (T := ⟨S4096x10x1, .i32⟩) main_call3_v5) (TRef.of (T := ⟨S4096x10x1, .i32⟩) main_call3_v6) (TRef.of (T := ⟨S4096x10x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4096x10x1, .i32⟩) main_call3_v9) (broadcastInDim S4096x10x1 ![0, 1, 2] bcast_S1x1x1_S4096x10x1_0_1_2),
    TRef.binary (TRef.of (T := ⟨S4096x10x1, .i32⟩) main_call3_v5) (TRef.of (T := ⟨S4096x10x1, .i32⟩) main_call3_v9) (TRef.of (T := ⟨S4096x10x1, .i1⟩) main_call3_v10) (cmpi .sle),
    TRef.binary (TRef.of (T := ⟨S4096x10x1, .i1⟩) main_call3_v7) (TRef.of (T := ⟨S4096x10x1, .i1⟩) main_call3_v10) (TRef.of (T := ⟨S4096x10x1, .i1⟩) main_call3_v11) andi,
    TRef.nullary (TRef.of (T := ⟨S_, .i1⟩) main_call3_c_3) (constantI S_ 1 1#1),
    TRef.binary (TRef.of (T := ⟨S4096x10x1, .i1⟩) main_call3_v11) (TRef.of (T := ⟨S_, .i1⟩) main_call3_c_3) (TRef.of (T := ⟨S4096x10, .i1⟩) main_call3_v12) (fun x v => Host.reduce IntOp.andi x v reducesTo_S4096x10x1_S4096x10_d2 h_S_),
    TRef.binary (TRef.of (T := ⟨S4096x11100, .f32⟩) main_arg0) (TRef.of (T := ⟨S4096x10x1, .i32⟩) main_call3_v5) (TRef.of (T := ⟨S4096x10, .f32⟩) main_call3_v13) (fun x i => Host.gather gather_S4096x11100_S4096x10x1_S4096x10_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S4096x10, .f32⟩) main_call3_v14) (broadcastInDim S4096x10 ![] bcast_S_S4096x10),
    TRef.ternary (TRef.of (T := ⟨S4096x10, .i1⟩) main_call3_v12) (TRef.of (T := ⟨S4096x10, .f32⟩) main_call3_v13) (TRef.of (T := ⟨S4096x10, .f32⟩) main_call3_v14) (TRef.of (T := ⟨S4096x10, .f32⟩) main_v68) select]

/-- The operations that compute the cross entropy of those ten logits. -/
abbrev opsCe2 : List (HloOp τ sig (Elt F)) :=
  [ nullary main_cst_12 (constant S_ .f32 0xFF800000#32),
    binary main_v68 main_cst_12 main_v69 ((fun x v => Host.reduce FloatOps.maximumf x v reducesTo_S4096x10_S4096_d1 h_S_) : (⟨S4096x10, .f32⟩ : BufTy).Contents (Elt F) → (⟨S_, .f32⟩ : BufTy).Contents (Elt F) → (⟨S4096, .f32⟩ : BufTy).Contents (Elt F)),
    unary main_v69 main_v70 (Host.absf : (⟨S4096, .f32⟩ : BufTy).Contents (Elt F) → (⟨S4096, .f32⟩ : BufTy).Contents (Elt F)),
    nullary main_cst_13 (constant S_ .f32 0x7F800000#32),
    unary main_cst_13 main_v71 (broadcastInDim S4096 ![] bcast_S_S4096 : (⟨S_, .f32⟩ : BufTy).Contents (Elt F) → (⟨S4096, .f32⟩ : BufTy).Contents (Elt F)),
    binary main_v70 main_v71 main_v72 (cmpf .olt : (⟨S4096, .f32⟩ : BufTy).Contents (Elt F) → (⟨S4096, .f32⟩ : BufTy).Contents (Elt F) → (⟨S4096, .i1⟩ : BufTy).Contents (Elt F)),
    nullary main_cst_14 (constant S_ .f32 0x00000000#32),
    unary main_cst_14 main_v73 (broadcastInDim S4096 ![] bcast_S_S4096 : (⟨S_, .f32⟩ : BufTy).Contents (Elt F) → (⟨S4096, .f32⟩ : BufTy).Contents (Elt F)),
    ternary main_v72 main_v69 main_v73 main_v74 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v74 main_v75 (broadcastInDim S4096x1 ![0] bcast_S4096_S4096x1_0 : (⟨S4096, .f32⟩ : BufTy).Contents (Elt F) → (⟨S4096x1, .f32⟩ : BufTy).Contents (Elt F)),
    unary main_v75 main_v76 (broadcastInDim S4096x10 ![0, 1] bcast_S4096x1_S4096x10_0_1 : (⟨S4096x1, .f32⟩ : BufTy).Contents (Elt F) → (⟨S4096x10, .f32⟩ : BufTy).Contents (Elt F)),
    binary main_v68 main_v76 main_v77 (subf : (⟨S4096x10, .f32⟩ : BufTy).Contents (Elt F) → (⟨S4096x10, .f32⟩ : BufTy).Contents (Elt F) → (⟨S4096x10, .f32⟩ : BufTy).Contents (Elt F)),
    unary main_v77 main_v78 (Host.exp : (⟨S4096x10, .f32⟩ : BufTy).Contents (Elt F) → (⟨S4096x10, .f32⟩ : BufTy).Contents (Elt F)),
    nullary main_cst_15 (constant S_ .f32 0x00000000#32),
    binary main_v78 main_cst_15 main_v79 ((fun x v => Host.reduceAdd x v reducesTo_S4096x10_S4096_d1 h_S_) : (⟨S4096x10, .f32⟩ : BufTy).Contents (Elt F) → (⟨S_, .f32⟩ : BufTy).Contents (Elt F) → (⟨S4096, .f32⟩ : BufTy).Contents (Elt F)),
    unary main_v79 main_v80 (Host.log : (⟨S4096, .f32⟩ : BufTy).Contents (Elt F) → (⟨S4096, .f32⟩ : BufTy).Contents (Elt F)),
    binary main_v80 main_v74 main_v81 (addf : (⟨S4096, .f32⟩ : BufTy).Contents (Elt F) → (⟨S4096, .f32⟩ : BufTy).Contents (Elt F) → (⟨S4096, .f32⟩ : BufTy).Contents (Elt F)),
    unary main_v11 main_v82 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S4096x1, .i32⟩) main_call4_v0) (broadcastInDim S4096x1 ![] bcast_S_S4096x1),
    TRef.binary (TRef.of (T := ⟨S4096x1, .i32⟩) main_v82) (TRef.of (T := ⟨S4096x1, .i32⟩) main_call4_v0) (TRef.of (T := ⟨S4096x1, .i1⟩) main_call4_v1) (cmpi .slt),
    TRef.nullary (TRef.of (T := ⟨S_, .i32⟩) main_call4_c_0) (constantI S_ 32 10#32),
    TRef.unary (TRef.of (T := ⟨S_, .i32⟩) main_call4_c_0) (TRef.of (T := ⟨S4096x1, .i32⟩) main_call4_v2) (broadcastInDim S4096x1 ![] bcast_S_S4096x1),
    TRef.binary (TRef.of (T := ⟨S4096x1, .i32⟩) main_v82) (TRef.of (T := ⟨S4096x1, .i32⟩) main_call4_v2) (TRef.of (T := ⟨S4096x1, .i32⟩) main_call4_v3) addi,
    TRef.ternary (TRef.of (T := ⟨S4096x1, .i1⟩) main_call4_v1) (TRef.of (T := ⟨S4096x1, .i32⟩) main_call4_v3) (TRef.of (T := ⟨S4096x1, .i32⟩) main_v82) (TRef.of (T := ⟨S4096x1, .i32⟩) main_call4_v4) select,
    TRef.reshape (TRef.of (T := ⟨S4096x1, .i32⟩) main_call4_v4) (TRef.of (T := ⟨S4096x1x1, .i32⟩) main_call4_v5) (rfl : (.i32 : EltTy) = .i32) shapeCasts_S4096x1_S4096x1x1,
    TRef.nullary (TRef.of (T := ⟨S1, .i32⟩) main_call4_c_1) (constantI S1 32 9#32),
    TRef.nullary (TRef.of (T := ⟨S_, .i32⟩) main_call4_c_2) (constantI S_ 32 0#32),
    TRef.unary (TRef.of (T := ⟨S_, .i32⟩) main_call4_c_2) (TRef.of (T := ⟨S4096x1x1, .i32⟩) main_call4_v6) (broadcastInDim S4096x1x1 ![] bcast_S_S4096x1x1),
    TRef.binary (TRef.of (T := ⟨S4096x1x1, .i32⟩) main_call4_v5) (TRef.of (T := ⟨S4096x1x1, .i32⟩) main_call4_v6) (TRef.of (T := ⟨S4096x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S4096x1x1, .i32⟩) main_call4_v9) (broadcastInDim S4096x1x1 ![0, 1, 2] bcast_S1x1x1_S4096x1x1_0_1_2),
    TRef.binary (TRef.of (T := ⟨S4096x1x1, .i32⟩) main_call4_v5) (TRef.of (T := ⟨S4096x1x1, .i32⟩) main_call4_v9) (TRef.of (T := ⟨S4096x1x1, .i1⟩) main_call4_v10) (cmpi .sle),
    TRef.binary (TRef.of (T := ⟨S4096x1x1, .i1⟩) main_call4_v7) (TRef.of (T := ⟨S4096x1x1, .i1⟩) main_call4_v10) (TRef.of (T := ⟨S4096x1x1, .i1⟩) main_call4_v11) andi,
    TRef.nullary (TRef.of (T := ⟨S_, .i1⟩) main_call4_c_3) (constantI S_ 1 1#1),
    TRef.binary (TRef.of (T := ⟨S4096x1x1, .i1⟩) main_call4_v11) (TRef.of (T := ⟨S_, .i1⟩) main_call4_c_3) (TRef.of (T := ⟨S4096x1, .i1⟩) main_call4_v12) (fun x v => Host.reduce IntOp.andi x v reducesTo_S4096x1x1_S4096x1_d2 h_S_),
    TRef.binary (TRef.of (T := ⟨S4096x10, .f32⟩) main_v68) (TRef.of (T := ⟨S4096x1x1, .i32⟩) main_call4_v5) (TRef.of (T := ⟨S4096x1, .f32⟩) main_call4_v13) (fun x i => Host.gather gather_S4096x10_S4096x1x1_S4096x1_n_1_0_0_1_2_11 x i),
    TRef.nullary (TRef.of (T := ⟨S_, .f32⟩) main_call4_cst) (constant S_ .f32 0x7FC00000#32),
    TRef.unary (TRef.of (T := ⟨S_, .f32⟩) main_call4_cst) (TRef.of (T := ⟨S4096x1, .f32⟩) main_call4_v14) (broadcastInDim S4096x1 ![] bcast_S_S4096x1),
    TRef.ternary (TRef.of (T := ⟨S4096x1, .i1⟩) main_call4_v12) (TRef.of (T := ⟨S4096x1, .f32⟩) main_call4_v13) (TRef.of (T := ⟨S4096x1, .f32⟩) main_call4_v14) (TRef.of (T := ⟨S4096x1, .f32⟩) main_v83) select,
    reshape main_v83 main_v84 (rfl : (.f32 : EltTy) = .f32) shapeCasts_S4096x1_S4096,
    binary main_v81 main_v84 main_v85 (subf : (⟨S4096, .f32⟩ : BufTy).Contents (Elt F) → (⟨S4096, .f32⟩ : BufTy).Contents (Elt F) → (⟨S4096, .f32⟩ : BufTy).Contents (Elt F))]

/-- The operations that compute the cross entropy of all logits of level 1, first stretch. -/
abbrev opsCe3a : List (HloOp τ sig (Elt F)) :=
  [ unary main_arg0 main_v86 ((extractStridedSlice S4096x1000 ![0, 100] · slices_S4096x11100_S4096x1000_0_100) : (⟨S4096x11100, .f32⟩ : BufTy).Contents (Elt F) → (⟨S4096x1000, .f32⟩ : BufTy).Contents (Elt F)),
    nullary main_cst_16 (constant S_ .f32 0xFF800000#32),
    binary main_v86 main_cst_16 main_v87 ((fun x v => Host.reduce FloatOps.maximumf x v reducesTo_S4096x1000_S4096_d1 h_S_) : (⟨S4096x1000, .f32⟩ : BufTy).Contents (Elt F) → (⟨S_, .f32⟩ : BufTy).Contents (Elt F) → (⟨S4096, .f32⟩ : BufTy).Contents (Elt F)),
    unary main_v87 main_v88 (Host.absf : (⟨S4096, .f32⟩ : BufTy).Contents (Elt F) → (⟨S4096, .f32⟩ : BufTy).Contents (Elt F)),
    nullary main_cst_17 (constant S_ .f32 0x7F800000#32),
    unary main_cst_17 main_v89 (broadcastInDim S4096 ![] bcast_S_S4096 : (⟨S_, .f32⟩ : BufTy).Contents (Elt F) → (⟨S4096, .f32⟩ : BufTy).Contents (Elt F)),
    binary main_v88 main_v89 main_v90 (cmpf .olt : (⟨S4096, .f32⟩ : BufTy).Contents (Elt F) → (⟨S4096, .f32⟩ : BufTy).Contents (Elt F) → (⟨S4096, .i1⟩ : BufTy).Contents (Elt F)),
    nullary main_cst_18 (constant S_ .f32 0x00000000#32),
    unary main_cst_18 main_v91 (broadcastInDim S4096 ![] bcast_S_S4096 : (⟨S_, .f32⟩ : BufTy).Contents (Elt F) → (⟨S4096, .f32⟩ : BufTy).Contents (Elt F)),
    ternary main_v90 main_v87 main_v91 main_v92 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v92 main_v93 (broadcastInDim S4096x1 ![0] bcast_S4096_S4096x1_0 : (⟨S4096, .f32⟩ : BufTy).Contents (Elt F) → (⟨S4096x1, .f32⟩ : BufTy).Contents (Elt F)),
    unary main_v93 main_v94 (broadcastInDim S4096x1000 ![0, 1] bcast_S4096x1_S4096x1000_0_1 : (⟨S4096x1, .f32⟩ : BufTy).Contents (Elt F) → (⟨S4096x1000, .f32⟩ : BufTy).Contents (Elt F)),
    binary main_v86 main_v94 main_v95 (subf : (⟨S4096x1000, .f32⟩ : BufTy).Contents (Elt F) → (⟨S4096x1000, .f32⟩ : BufTy).Contents (Elt F) → (⟨S4096x1000, .f32⟩ : BufTy).Contents (Elt F)),
    unary main_v95 main_v96 (Host.exp : (⟨S4096x1000, .f32⟩ : BufTy).Contents (Elt F) → (⟨S4096x1000, .f32⟩ : BufTy).Contents (Elt F)),
    nullary main_cst_19 (constant S_ .f32 0x00000000#32),
    binary main_v96 main_cst_19 main_v97 ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F))]

/-- The operations that compute the cross entropy of all logits of level 1, second stretch. -/
abbrev opsCe3b : List (HloOp τ sig (Elt F)) :=
  [ unary main_v97 main_v98 (Host.log : (⟨S4096, .f32⟩ : BufTy).Contents (Elt F) → (⟨S4096, .f32⟩ : BufTy).Contents (Elt F)),
    binary main_v98 main_v92 main_v99 (addf : (⟨S4096, .f32⟩ : BufTy).Contents (Elt F) → (⟨S4096, .f32⟩ : BufTy).Contents (Elt F) → (⟨S4096, .f32⟩ : BufTy).Contents (Elt F)),
    unary main_v3 main_v100 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S4096x1, .i32⟩) main_call5_v0) (broadcastInDim S4096x1 ![] bcast_S_S4096x1),
    TRef.binary (TRef.of (T := ⟨S4096x1, .i32⟩) main_v100) (TRef.of (T := ⟨S4096x1, .i32⟩) main_call5_v0) (TRef.of (T := ⟨S4096x1, .i1⟩) main_call5_v1) (cmpi .slt),
    TRef.nullary (TRef.of (T := ⟨S_, .i32⟩) main_call5_c_0) (constantI S_ 32 1000#32),
    TRef.unary (TRef.of (T := ⟨S_, .i32⟩) main_call5_c_0) (TRef.of (T := ⟨S4096x1, .i32⟩) main_call5_v2) (broadcastInDim S4096x1 ![] bcast_S_S4096x1),
    TRef.binary (TRef.of (T := ⟨S4096x1, .i32⟩) main_v100) (TRef.of (T := ⟨S4096x1, .i32⟩) main_call5_v2) (TRef.of (T := ⟨S4096x1, .i32⟩) main_call5_v3) addi,
    TRef.ternary (TRef.of (T := ⟨S4096x1, .i1⟩) main_call5_v1) (TRef.of (T := ⟨S4096x1, .i32⟩) main_call5_v3) (TRef.of (T := ⟨S4096x1, .i32⟩) main_v100) (TRef.of (T := ⟨S4096x1, .i32⟩) main_call5_v4) select,
    TRef.reshape (TRef.of (T := ⟨S4096x1, .i32⟩) main_call5_v4) (TRef.of (T := ⟨S4096x1x1, .i32⟩) main_call5_v5) (rfl : (.i32 : EltTy) = .i32) shapeCasts_S4096x1_S4096x1x1,
    TRef.nullary (TRef.of (T := ⟨S1, .i32⟩) main_call5_c_1) (constantI S1 32 999#32),
    TRef.nullary (TRef.of (T := ⟨S_, .i32⟩) main_call5_c_2) (constantI S_ 32 0#32),
    TRef.unary (TRef.of (T := ⟨S_, .i32⟩) main_call5_c_2) (TRef.of (T := ⟨S4096x1x1, .i32⟩) main_call5_v6) (broadcastInDim S4096x1x1 ![] bcast_S_S4096x1x1),
    TRef.binary (TRef.of (T := ⟨S4096x1x1, .i32⟩) main_call5_v5) (TRef.of (T := ⟨S4096x1x1, .i32⟩) main_call5_v6) (TRef.of (T := ⟨S4096x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S4096x1x1, .i32⟩) main_call5_v9) (broadcastInDim S4096x1x1 ![0, 1, 2] bcast_S1x1x1_S4096x1x1_0_1_2),
    TRef.binary (TRef.of (T := ⟨S4096x1x1, .i32⟩) main_call5_v5) (TRef.of (T := ⟨S4096x1x1, .i32⟩) main_call5_v9) (TRef.of (T := ⟨S4096x1x1, .i1⟩) main_call5_v10) (cmpi .sle),
    TRef.binary (TRef.of (T := ⟨S4096x1x1, .i1⟩) main_call5_v7) (TRef.of (T := ⟨S4096x1x1, .i1⟩) main_call5_v10) (TRef.of (T := ⟨S4096x1x1, .i1⟩) main_call5_v11) andi,
    TRef.nullary (TRef.of (T := ⟨S_, .i1⟩) main_call5_c_3) (constantI S_ 1 1#1),
    TRef.binary (TRef.of (T := ⟨S4096x1x1, .i1⟩) main_call5_v11) (TRef.of (T := ⟨S_, .i1⟩) main_call5_c_3) (TRef.of (T := ⟨S4096x1, .i1⟩) main_call5_v12) (fun x v => Host.reduce IntOp.andi x v reducesTo_S4096x1x1_S4096x1_d2 h_S_),
    TRef.binary (TRef.of (T := ⟨S4096x1000, .f32⟩) main_v86) (TRef.of (T := ⟨S4096x1x1, .i32⟩) main_call5_v5) (TRef.of (T := ⟨S4096x1, .f32⟩) main_call5_v13) (fun x i => Host.gather gather_S4096x1000_S4096x1x1_S4096x1_n_1_0_0_1_2_11 x i),
    TRef.nullary (TRef.of (T := ⟨S_, .f32⟩) main_call5_cst) (constant S_ .f32 0x7FC00000#32),
    TRef.unary (TRef.of (T := ⟨S_, .f32⟩) main_call5_cst) (TRef.of (T := ⟨S4096x1, .f32⟩) main_call5_v14) (broadcastInDim S4096x1 ![] bcast_S_S4096x1),
    TRef.ternary (TRef.of (T := ⟨S4096x1, .i1⟩) main_call5_v12) (TRef.of (T := ⟨S4096x1, .f32⟩) main_call5_v13) (TRef.of (T := ⟨S4096x1, .f32⟩) main_call5_v14) (TRef.of (T := ⟨S4096x1, .f32⟩) main_v101) select,
    reshape main_v101 main_v102 (rfl : (.f32 : EltTy) = .f32) shapeCasts_S4096x1_S4096,
    binary main_v99 main_v102 main_v103 (subf : (⟨S4096, .f32⟩ : BufTy).Contents (Elt F) → (⟨S4096, .f32⟩ : BufTy).Contents (Elt F) → (⟨S4096, .f32⟩ : BufTy).Contents (Elt F))]

/-- The operations that compute the cross entropy of all logits of level 1. -/
abbrev opsCe3 : List (HloOp τ sig (Elt F)) := opsCe3a ++ opsCe3b

/-- The operations that compute the cross entropy of all logits of level 2. -/
abbrev opsCe4 : List (HloOp τ sig (Elt F)) :=
  [ unary main_arg0 main_v104 ((extractStridedSlice S4096x10000 ![0, 1100] · slices_S4096x11100_S4096x10000_0_1100) : (⟨S4096x11100, .f32⟩ : BufTy).Contents (Elt F) → (⟨S4096x10000, .f32⟩ : BufTy).Contents (Elt F)),
    nullary main_cst_20 (constant S_ .f32 0xFF800000#32),
    binary main_v104 main_cst_20 main_v105 ((fun x v => Host.reduce FloatOps.maximumf x v reducesTo_S4096x10000_S4096_d1 h_S_) : (⟨S4096x10000, .f32⟩ : BufTy).Contents (Elt F) → (⟨S_, .f32⟩ : BufTy).Contents (Elt F) → (⟨S4096, .f32⟩ : BufTy).Contents (Elt F)),
    unary main_v105 main_v106 (Host.absf : (⟨S4096, .f32⟩ : BufTy).Contents (Elt F) → (⟨S4096, .f32⟩ : BufTy).Contents (Elt F)),
    nullary main_cst_21 (constant S_ .f32 0x7F800000#32),
    unary main_cst_21 main_v107 (broadcastInDim S4096 ![] bcast_S_S4096 : (⟨S_, .f32⟩ : BufTy).Contents (Elt F) → (⟨S4096, .f32⟩ : BufTy).Contents (Elt F)),
    binary main_v106 main_v107 main_v108 (cmpf .olt : (⟨S4096, .f32⟩ : BufTy).Contents (Elt F) → (⟨S4096, .f32⟩ : BufTy).Contents (Elt F) → (⟨S4096, .i1⟩ : BufTy).Contents (Elt F)),
    nullary main_cst_22 (constant S_ .f32 0x00000000#32),
    unary main_cst_22 main_v109 (broadcastInDim S4096 ![] bcast_S_S4096 : (⟨S_, .f32⟩ : BufTy).Contents (Elt F) → (⟨S4096, .f32⟩ : BufTy).Contents (Elt F)),
    ternary main_v108 main_v105 main_v109 main_v110 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v110 main_v111 (broadcastInDim S4096x1 ![0] bcast_S4096_S4096x1_0 : (⟨S4096, .f32⟩ : BufTy).Contents (Elt F) → (⟨S4096x1, .f32⟩ : BufTy).Contents (Elt F)),
    unary main_v111 main_v112 (broadcastInDim S4096x10000 ![0, 1] bcast_S4096x1_S4096x10000_0_1 : (⟨S4096x1, .f32⟩ : BufTy).Contents (Elt F) → (⟨S4096x10000, .f32⟩ : BufTy).Contents (Elt F)),
    binary main_v104 main_v112 main_v113 (subf : (⟨S4096x10000, .f32⟩ : BufTy).Contents (Elt F) → (⟨S4096x10000, .f32⟩ : BufTy).Contents (Elt F) → (⟨S4096x10000, .f32⟩ : BufTy).Contents (Elt F)),
    unary main_v113 main_v114 (Host.exp : (⟨S4096x10000, .f32⟩ : BufTy).Contents (Elt F) → (⟨S4096x10000, .f32⟩ : BufTy).Contents (Elt F)),
    nullary main_cst_23 (constant S_ .f32 0x00000000#32),
    binary main_v114 main_cst_23 main_v115 ((fun x v => Host.reduceAdd x v reducesTo_S4096x10000_S4096_d1 h_S_) : (⟨S4096x10000, .f32⟩ : BufTy).Contents (Elt F) → (⟨S_, .f32⟩ : BufTy).Contents (Elt F) → (⟨S4096, .f32⟩ : BufTy).Contents (Elt F)),
    unary main_v115 main_v116 (Host.log : (⟨S4096, .f32⟩ : BufTy).Contents (Elt F) → (⟨S4096, .f32⟩ : BufTy).Contents (Elt F)),
    binary main_v116 main_v110 main_v117 (addf : (⟨S4096, .f32⟩ : BufTy).Contents (Elt F) → (⟨S4096, .f32⟩ : BufTy).Contents (Elt F) → (⟨S4096, .f32⟩ : BufTy).Contents (Elt F)),
    unary main_v5 main_v118 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S4096x1, .i32⟩) main_call6_v0) (broadcastInDim S4096x1 ![] bcast_S_S4096x1),
    TRef.binary (TRef.of (T := ⟨S4096x1, .i32⟩) main_v118) (TRef.of (T := ⟨S4096x1, .i32⟩) main_call6_v0) (TRef.of (T := ⟨S4096x1, .i1⟩) main_call6_v1) (cmpi .slt),
    TRef.nullary (TRef.of (T := ⟨S_, .i32⟩) main_call6_c_0) (constantI S_ 32 10000#32),
    TRef.unary (TRef.of (T := ⟨S_, .i32⟩) main_call6_c_0) (TRef.of (T := ⟨S4096x1, .i32⟩) main_call6_v2) (broadcastInDim S4096x1 ![] bcast_S_S4096x1),
    TRef.binary (TRef.of (T := ⟨S4096x1, .i32⟩) main_v118) (TRef.of (T := ⟨S4096x1, .i32⟩) main_call6_v2) (TRef.of (T := ⟨S4096x1, .i32⟩) main_call6_v3) addi,
    TRef.ternary (TRef.of (T := ⟨S4096x1, .i1⟩) main_call6_v1) (TRef.of (T := ⟨S4096x1, .i32⟩) main_call6_v3) (TRef.of (T := ⟨S4096x1, .i32⟩) main_v118) (TRef.of (T := ⟨S4096x1, .i32⟩) main_call6_v4) select,
    TRef.reshape (TRef.of (T := ⟨S4096x1, .i32⟩) main_call6_v4) (TRef.of (T := ⟨S4096x1x1, .i32⟩) main_call6_v5) (rfl : (.i32 : EltTy) = .i32) shapeCasts_S4096x1_S4096x1x1,
    TRef.nullary (TRef.of (T := ⟨S1, .i32⟩) main_call6_c_1) (constantI S1 32 9999#32),
    TRef.nullary (TRef.of (T := ⟨S_, .i32⟩) main_call6_c_2) (constantI S_ 32 0#32),
    TRef.unary (TRef.of (T := ⟨S_, .i32⟩) main_call6_c_2) (TRef.of (T := ⟨S4096x1x1, .i32⟩) main_call6_v6) (broadcastInDim S4096x1x1 ![] bcast_S_S4096x1x1),
    TRef.binary (TRef.of (T := ⟨S4096x1x1, .i32⟩) main_call6_v5) (TRef.of (T := ⟨S4096x1x1, .i32⟩) main_call6_v6) (TRef.of (T := ⟨S4096x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S4096x1x1, .i32⟩) main_call6_v9) (broadcastInDim S4096x1x1 ![0, 1, 2] bcast_S1x1x1_S4096x1x1_0_1_2),
    TRef.binary (TRef.of (T := ⟨S4096x1x1, .i32⟩) main_call6_v5) (TRef.of (T := ⟨S4096x1x1, .i32⟩) main_call6_v9) (TRef.of (T := ⟨S4096x1x1, .i1⟩) main_call6_v10) (cmpi .sle),
    TRef.binary (TRef.of (T := ⟨S4096x1x1, .i1⟩) main_call6_v7) (TRef.of (T := ⟨S4096x1x1, .i1⟩) main_call6_v10) (TRef.of (T := ⟨S4096x1x1, .i1⟩) main_call6_v11) andi,
    TRef.nullary (TRef.of (T := ⟨S_, .i1⟩) main_call6_c_3) (constantI S_ 1 1#1),
    TRef.binary (TRef.of (T := ⟨S4096x1x1, .i1⟩) main_call6_v11) (TRef.of (T := ⟨S_, .i1⟩) main_call6_c_3) (TRef.of (T := ⟨S4096x1, .i1⟩) main_call6_v12) (fun x v => Host.reduce IntOp.andi x v reducesTo_S4096x1x1_S4096x1_d2 h_S_),
    TRef.binary (TRef.of (T := ⟨S4096x10000, .f32⟩) main_v104) (TRef.of (T := ⟨S4096x1x1, .i32⟩) main_call6_v5) (TRef.of (T := ⟨S4096x1, .f32⟩) main_call6_v13) (fun x i => Host.gather gather_S4096x10000_S4096x1x1_S4096x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S4096x1, .f32⟩) main_call6_v14) (broadcastInDim S4096x1 ![] bcast_S_S4096x1),
    TRef.ternary (TRef.of (T := ⟨S4096x1, .i1⟩) main_call6_v12) (TRef.of (T := ⟨S4096x1, .f32⟩) main_call6_v13) (TRef.of (T := ⟨S4096x1, .f32⟩) main_call6_v14) (TRef.of (T := ⟨S4096x1, .f32⟩) main_v119) select,
    reshape main_v119 main_v120 (rfl : (.f32 : EltTy) = .f32) shapeCasts_S4096x1_S4096,
    binary main_v117 main_v120 main_v121 (subf : (⟨S4096, .f32⟩ : BufTy).Contents (Elt F) → (⟨S4096, .f32⟩ : BufTy).Contents (Elt F) → (⟨S4096, .f32⟩ : BufTy).Contents (Elt F))]

/-- The operations that compute the prediction of level 0 and whether it differs from the label. -/
abbrev opsAm0 : List (HloOp τ sig (Elt F)) :=
  [ unary main_arg0 main_v122 ((extractStridedSlice S4096x100 ![0, 0] · slices_S4096x11100_S4096x100_0_0) : (⟨S4096x11100, .f32⟩ : BufTy).Contents (Elt F) → (⟨S4096x100, .f32⟩ : BufTy).Contents (Elt F)),
    TRef.nullary (TRef.of (T := ⟨S4096x100, .i32⟩) main_call7_v0) (iotaInDim S4096x100 32 1),
    TRef.nullary (TRef.of (T := ⟨S_, .f32⟩) main_call7_cst) (constant S_ .f32 0xFF800000#32),
    TRef.nullary (TRef.of (T := ⟨S_, .i32⟩) main_call7_c) (constantI S_ 32 0#32),
    TRef.quaternary (TRef.of (T := ⟨S4096x100, .f32⟩) main_v122) (TRef.of (T := ⟨S4096x100, .i32⟩) main_call7_v0) (TRef.of (T := ⟨S_, .f32⟩) main_call7_cst) (TRef.of (T := ⟨S_, .i32⟩) main_call7_c) (TRef.of (T := ⟨S4096, .f32⟩) main_call7_v1_0) (fun x y u v j => (Host.argReduce reducer_argmax_f32_i32 x y u v reducesTo_S4096x100_S4096_d1 h_S_ j).1),
    TRef.quaternary (TRef.of (T := ⟨S4096x100, .f32⟩) main_v122) (TRef.of (T := ⟨S4096x100, .i32⟩) main_call7_v0) (TRef.of (T := ⟨S_, .f32⟩) main_call7_cst) (TRef.of (T := ⟨S_, .i32⟩) main_call7_c) (TRef.of (T := ⟨S4096, .i32⟩) main_v123) (fun x y u v j => (Host.argReduce reducer_argmax_f32_i32 x y u v reducesTo_S4096x100_S4096_d1 h_S_ j).2),
    binary main_v123 main_v1 main_v124 (cmpi .ne : (⟨S4096, .i32⟩ : BufTy).Contents (Elt F) → (⟨S4096, .i32⟩ : BufTy).Contents (Elt F) → (⟨S4096, .i1⟩ : BufTy).Contents (Elt F))]

/-- The operations that compute the columns of the ten children of the predicted class of level 0. -/
abbrev opsIx3 : List (HloOp τ sig (Elt F)) :=
  [ unary main_v123 main_v125 (broadcastInDim S4096x1 ![0] bcast_S4096_S4096x1_0 : (⟨S4096, .i32⟩ : BufTy).Contents (Elt F) → (⟨S4096x1, .i32⟩ : BufTy).Contents (Elt F)),
    nullary main_c_24 (constantI S_ 32 10#32),
    unary main_c_24 main_v126 (broadcastInDim S4096x1 ![] bcast_S_S4096x1 : (⟨S_, .i32⟩ : BufTy).Contents (Elt F) → (⟨S4096x1, .i32⟩ : BufTy).Contents (Elt F)),
    binary main_v125 main_v126 main_v127 (muli : (⟨S4096x1, .i32⟩ : BufTy).Contents (Elt F) → (⟨S4096x1, .i32⟩ : BufTy).Contents (Elt F) → (⟨S4096x1, .i32⟩ : BufTy).Contents (Elt F)),
    unary main_v12 main_v128 (broadcastInDim S1x10 ![1] bcast_S10_S1x10_1 : (⟨S10, .i32⟩ : BufTy).Contents (Elt F) → (⟨S1x10, .i32⟩ : BufTy).Contents (Elt F)),
    unary main_v127 main_v129 (broadcastInDim S4096x10 ![0, 1] bcast_S4096x1_S4096x10_0_1 : (⟨S4096x1, .i32⟩ : BufTy).Contents (Elt F) → (⟨S4096x10, .i32⟩ : BufTy).Contents (Elt F)),
    unary main_v128 main_v130 (broadcastInDim S4096x10 ![0, 1] bcast_S1x10_S4096x10_0_1 : (⟨S1x10, .i32⟩ : BufTy).Contents (Elt F) → (⟨S4096x10, .i32⟩ : BufTy).Contents (Elt F)),
    binary main_v129 main_v130 main_v131 (addi : (⟨S4096x10, .i32⟩ : BufTy).Contents (Elt F) → (⟨S4096x10, .i32⟩ : BufTy).Contents (Elt F) → (⟨S4096x10, .i32⟩ : BufTy).Contents (Elt F)),
    nullary main_c_25 (constantI S_ 32 100#32),
    unary main_c_25 main_v132 (broadcastInDim S4096x10 ![] bcast_S_S4096x10 : (⟨S_, .i32⟩ : BufTy).Contents (Elt F) → (⟨S4096x10, .i32⟩ : BufTy).Contents (Elt F)),
    binary main_v131 main_v132 main_v133 (addi : (⟨S4096x10, .i32⟩ : BufTy).Contents (Elt F) → (⟨S4096x10, .i32⟩ : BufTy).Contents (Elt F) → (⟨S4096x10, .i32⟩ : BufTy).Contents (Elt F))]

/-- The operations that compute the logits of those children. -/
abbrev opsTk3 : List (HloOp τ sig (Elt F)) :=
  [ TRef.nullary (TRef.of (T := ⟨S_, .i32⟩) main_call8_c) (constantI S_ 32 0#32),
    TRef.unary (TRef.of (T := ⟨S_, .i32⟩) main_call8_c) (TRef.of (T := ⟨S4096x10, .i32⟩) main_call8_v0) (broadcastInDim S4096x10 ![] bcast_S_S4096x10),
    TRef.binary (TRef.of (T := ⟨S4096x10, .i32⟩) main_v133) (TRef.of (T := ⟨S4096x10, .i32⟩) main_call8_v0) (TRef.of (T := ⟨S4096x10, .i1⟩) main_call8_v1) (cmpi .slt),
    TRef.nullary (TRef.of (T := ⟨S_, .i32⟩) main_call8_c_0) (constantI S_ 32 11100#32),
    TRef.unary (TRef.of (T := ⟨S_, .i32⟩) main_call8_c_0) (TRef.of (T := ⟨S4096x10, .i32⟩) main_call8_v2) (broadcastInDim S4096x10 ![] bcast_S_S4096x10),
    TRef.binary (TRef.of (T := ⟨S4096x10, .i32⟩) main_v133) (TRef.of (T := ⟨S4096x10, .i32⟩) main_call8_v2) (TRef.of (T := ⟨S4096x10, .i32⟩) main_call8_v3) addi,
    TRef.ternary (TRef.of (T := ⟨S4096x10, .i1⟩) main_call8_v1) (TRef.of (T := ⟨S4096x10, .i32⟩) main_call8_v3) (TRef.of (T := ⟨S4096x10, .i32⟩) main_v133) (TRef.of (T := ⟨S4096x10, .i32⟩) main_call8_v4) select,
    TRef.reshape (TRef.of (T := ⟨S4096x10, .i32⟩) main_call8_v4) (TRef.of (T := ⟨S4096x10x1, .i32⟩) main_call8_v5) (rfl : (.i32 : EltTy) = .i32) shapeCasts_S4096x10_S4096x10x1,
    TRef.nullary (TRef.of (T := ⟨S1, .i32⟩) main_call8_c_1) (constantI S1 32 11099#32),
    TRef.nullary (TRef.of (T := ⟨S_, .i32⟩) main_call8_c_2) (constantI S_ 32 0#32),
    TRef.unary (TRef.of (T := ⟨S_, .i32⟩) main_call8_c_2) (TRef.of (T := ⟨S4096x10x1, .i32⟩) main_call8_v6) (broadcastInDim S4096x10x1 ![] bcast_S_S4096x10x1),
    TRef.binary (TRef.of (T := ⟨S4096x10x1, .i32⟩) main_call8_v5) (TRef.of (T := ⟨S4096x10x1, .i32⟩) main_call8_v6) (TRef.of (T := ⟨S4096x10x1, .i1⟩) main_call8_v7) (cmpi .sge),
    TRef.unary (TRef.of (T := ⟨S1, .i32⟩) main_call8_c_1) (TRef.of (T := ⟨S1x1x1, .i32⟩) main_call8_v8) (broadcastInDim S1x1x1 ![2] bcast_S1_S1x1x1_2),
    TRef.unary (TRef.of (T := ⟨S1x1x1, .i32⟩) main_call8_v8) (TRef.of (T := ⟨S4096x10x1, .i32⟩) main_call8_v9) (broadcastInDim S4096x10x1 ![0, 1, 2] bcast_S1x1x1_S4096x10x1_0_1_2),
    TRef.binary (TRef.of (T := ⟨S4096x10x1, .i32⟩) main_call8_v5) (TRef.of (T := ⟨S4096x10x1, .i32⟩) main_call8_v9) (TRef.of (T := ⟨S4096x10x1, .i1⟩) main_call8_v10) (cmpi .sle),
    TRef.binary (TRef.of (T := ⟨S4096x10x1, .i1⟩) main_call8_v7) (TRef.of (T := ⟨S4096x10x1, .i1⟩) main_call8_v10) (TRef.of (T := ⟨S4096x10x1, .i1⟩) main_call8_v11) andi,
    TRef.nullary (TRef.of (T := ⟨S_, .i1⟩) main_call8_c_3) (constantI S_ 1 1#1),
    TRef.binary (TRef.of (T := ⟨S4096x10x1, .i1⟩) main_call8_v11) (TRef.of (T := ⟨S_, .i1⟩) main_call8_c_3) (TRef.of (T := ⟨S4096x10, .i1⟩) main_call8_v12) (fun x v => Host.reduce IntOp.andi x v reducesTo_S4096x10x1_S4096x10_d2 h_S_),
    TRef.binary (TRef.of (T := ⟨S4096x11100, .f32⟩) main_arg0) (TRef.of (T := ⟨S4096x10x1, .i32⟩) main_call8_v5) (TRef.of (T := ⟨S4096x10, .f32⟩) main_call8_v13) (fun x i => Host.gather gather_S4096x11100_S4096x10x1_S4096x10_n_1_0_0_1_2_11 x i),
    TRef.nullary (TRef.of (T := ⟨S_, .f32⟩) main_call8_cst) (constant S_ .f32 0x7FC00000#32),
    TRef.unary (TRef.of (T := ⟨S_, .f32⟩) main_call8_cst) (TRef.of (T := ⟨S4096x10, .f32⟩) main_call8_v14) (broadcastInDim S4096x10 ![] bcast_S_S4096x10),
    TRef.ternary (TRef.of (T := ⟨S4096x10, .i1⟩) main_call8_v12) (TRef.of (T := ⟨S4096x10, .f32⟩) main_call8_v13) (TRef.of (T := ⟨S4096x10, .f32⟩) main_call8_v14) (TRef.of (T := ⟨S4096x10, .f32⟩) main_v134) select]

/-- The operations that compute the prediction of level 1 among them. -/
abbrev opsAm1 : List (HloOp τ sig (Elt F)) :=
  [ TRef.nullary (TRef.of (T := ⟨S4096x10, .i32⟩) main_call9_v0) (iotaInDim S4096x10 32 1),
    TRef.nullary (TRef.of (T := ⟨S_, .f32⟩) main_call9_cst) (constant S_ .f32 0xFF800000#32),
    TRef.nullary (TRef.of (T := ⟨S_, .i32⟩) main_call9_c) (constantI S_ 32 0#32),
    TRef.quaternary (TRef.of (T := ⟨S4096x10, .f32⟩) main_v134) (TRef.of (T := ⟨S4096x10, .i32⟩) main_call9_v0) (TRef.of (T := ⟨S_, .f32⟩) main_call9_cst) (TRef.of (T := ⟨S_, .i32⟩) main_call9_c) (TRef.of (T := ⟨S4096, .f32⟩) main_call9_v1_0) (fun x y u v j => (Host.argReduce reducer_argmax_f32_i32 x y u v reducesTo_S4096x10_S4096_d1 h_S_ j).1),
    TRef.quaternary (TRef.of (T := ⟨S4096x10, .f32⟩) main_v134) (TRef.of (T := ⟨S4096x10, .i32⟩) main_call9_v0) (TRef.of (T := ⟨S_, .f32⟩) main_call9_cst) (TRef.of (T := ⟨S_, .i32⟩) main_call9_c) (TRef.of (T := ⟨S4096, .i32⟩) main_v135) (fun x y u v j => (Host.argReduce reducer_argmax_f32_i32 x y u v reducesTo_S4096x10_S4096_d1 h_S_ j).2)]

/-- The operations that compute the column of the predicted class of level 1. -/
abbrev opsPk1 : List (HloOp τ sig (Elt F)) :=
  [ unary main_v135 main_v136 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S4096x1, .i32⟩) main_call10_v0) (broadcastInDim S4096x1 ![] bcast_S_S4096x1),
    TRef.binary (TRef.of (T := ⟨S4096x1, .i32⟩) main_v136) (TRef.of (T := ⟨S4096x1, .i32⟩) main_call10_v0) (TRef.of (T := ⟨S4096x1, .i1⟩) main_call10_v1) (cmpi .slt),
    TRef.nullary (TRef.of (T := ⟨S_, .i32⟩) main_call10_c_0) (constantI S_ 32 10#32),
    TRef.unary (TRef.of (T := ⟨S_, .i32⟩) main_call10_c_0) (TRef.of (T := ⟨S4096x1, .i32⟩) main_call10_v2) (broadcastInDim S4096x1 ![] bcast_S_S4096x1),
    TRef.binary (TRef.of (T := ⟨S4096x1, .i32⟩) main_v136) (TRef.of (T := ⟨S4096x1, .i32⟩) main_call10_v2) (TRef.of (T := ⟨S4096x1, .i32⟩) main_call10_v3) addi,
    TRef.ternary (TRef.of (T := ⟨S4096x1, .i1⟩) main_call10_v1) (TRef.of (T := ⟨S4096x1, .i32⟩) main_call10_v3) (TRef.of (T := ⟨S4096x1, .i32⟩) main_v136) (TRef.of (T := ⟨S4096x1, .i32⟩) main_call10_v4) select,
    TRef.reshape (TRef.of (T := ⟨S4096x1, .i32⟩) main_call10_v4) (TRef.of (T := ⟨S4096x1x1, .i32⟩) main_call10_v5) (rfl : (.i32 : EltTy) = .i32) shapeCasts_S4096x1_S4096x1x1,
    TRef.nullary (TRef.of (T := ⟨S1, .i32⟩) main_call10_c_1) (constantI S1 32 9#32),
    TRef.nullary (TRef.of (T := ⟨S_, .i32⟩) main_call10_c_2) (constantI S_ 32 0#32),
    TRef.unary (TRef.of (T := ⟨S_, .i32⟩) main_call10_c_2) (TRef.of (T := ⟨S4096x1x1, .i32⟩) main_call10_v6) (broadcastInDim S4096x1x1 ![] bcast_S_S4096x1x1),
    TRef.binary (TRef.of (T := ⟨S4096x1x1, .i32⟩) main_call10_v5) (TRef.of (T := ⟨S4096x1x1, .i32⟩) main_call10_v6) (TRef.of (T := ⟨S4096x1x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S4096x1x1, .i32⟩) main_call10_v9) (broadcastInDim S4096x1x1 ![0, 1, 2] bcast_S1x1x1_S4096x1x1_0_1_2),
    TRef.binary (TRef.of (T := ⟨S4096x1x1, .i32⟩) main_call10_v5) (TRef.of (T := ⟨S4096x1x1, .i32⟩) main_call10_v9) (TRef.of (T := ⟨S4096x1x1, .i1⟩) main_call10_v10) (cmpi .sle),
    TRef.binary (TRef.of (T := ⟨S4096x1x1, .i1⟩) main_call10_v7) (TRef.of (T := ⟨S4096x1x1, .i1⟩) main_call10_v10) (TRef.of (T := ⟨S4096x1x1, .i1⟩) main_call10_v11) andi,
    TRef.nullary (TRef.of (T := ⟨S_, .i1⟩) main_call10_c_3) (constantI S_ 1 1#1),
    TRef.binary (TRef.of (T := ⟨S4096x1x1, .i1⟩) main_call10_v11) (TRef.of (T := ⟨S_, .i1⟩) main_call10_c_3) (TRef.of (T := ⟨S4096x1, .i1⟩) main_call10_v12) (fun x v => Host.reduce IntOp.andi x v reducesTo_S4096x1x1_S4096x1_d2 h_S_),
    TRef.binary (TRef.of (T := ⟨S4096x10, .i32⟩) main_v133) (TRef.of (T := ⟨S4096x1x1, .i32⟩) main_call10_v5) (TRef.of (T := ⟨S4096x1, .i32⟩) main_call10_v13) (fun x i => Host.gather gather_S4096x10_S4096x1x1_S4096x1_n_1_0_0_1_2_11 x i),
    TRef.nullary (TRef.of (T := ⟨S_, .i32⟩) main_call10_c_4) (constantI S_ 32 2147483648#32),
    TRef.unary (TRef.of (T := ⟨S_, .i32⟩) main_call10_c_4) (TRef.of (T := ⟨S4096x1, .i32⟩) main_call10_v14) (broadcastInDim S4096x1 ![] bcast_S_S4096x1),
    TRef.ternary (TRef.of (T := ⟨S4096x1, .i1⟩) main_call10_v12) (TRef.of (T := ⟨S4096x1, .i32⟩) main_call10_v13) (TRef.of (T := ⟨S4096x1, .i32⟩) main_call10_v14) (TRef.of (T := ⟨S4096x1, .i32⟩) main_v137) select,
    reshape main_v137 main_v138 (rfl : (.i32 : EltTy) = .i32) shapeCasts_S4096x1_S4096]

/-- The operations that compute whether one of the two predictions differs from its label. -/
abbrev opsWr1 : List (HloOp τ sig (Elt F)) :=
  [ binary main_v135 main_v8 main_v139 (cmpi .ne : (⟨S4096, .i32⟩ : BufTy).Contents (Elt F) → (⟨S4096, .i32⟩ : BufTy).Contents (Elt F) → (⟨S4096, .i1⟩ : BufTy).Contents (Elt F)),
    binary main_v124 main_v139 main_v140 (ori : (⟨S4096, .i1⟩ : BufTy).Contents (Elt F) → (⟨S4096, .i1⟩ : BufTy).Contents (Elt F) → (⟨S4096, .i1⟩ : BufTy).Contents (Elt F))]

/-- The operations that compute the columns of the ten children of the predicted class of level 1, first stretch. -/
abbrev opsIx4a : List (HloOp τ sig (Elt F)) :=
  [ nullary main_c_26 (constantI S_ 32 100#32),
    unary main_c_26 main_v141 (broadcastInDim S4096 ![] bcast_S_S4096 : (⟨S_, .i32⟩ : BufTy).Contents (Elt F) → (⟨S4096, .i32⟩ : BufTy).Contents (Elt F)),
    binary main_v138 main_v141 main_v142 (subi : (⟨S4096, .i32⟩ : BufTy).Contents (Elt F) → (⟨S4096, .i32⟩ : BufTy).Contents (Elt F) → (⟨S4096, .i32⟩ : BufTy).Contents (Elt F)),
    unary main_v142 main_v143 (broadcastInDim S4096x1 ![0] bcast_S4096_S4096x1_0 : (⟨S4096, .i32⟩ : BufTy).Contents (Elt F) → (⟨S4096x1, .i32⟩ : BufTy).Contents (Elt F)),
    nullary main_c_27 (constantI S_ 32 10#32),
    unary main_c_27 main_v144 (broadcastInDim S4096x1 ![] bcast_S_S4096x1 : (⟨S_, .i32⟩ : BufTy).Contents (Elt F) → (⟨S4096x1, .i32⟩ : BufTy).Contents (Elt F)),
    binary main_v143 main_v144 main_v145 (muli : (⟨S4096x1, .i32⟩ : BufTy).Contents (Elt F) → (⟨S4096x1, .i32⟩ : BufTy).Contents (Elt F) → (⟨S4096x1, .i32⟩ : BufTy).Contents (Elt F)),
    unary main_v13 main_v146 (broadcastInDim S1x10 ![1] bcast_S10_S1x10_1 : (⟨S10, .i32⟩ : BufTy).Contents (Elt F) → (⟨S1x10, .i32⟩ : BufTy).Contents (Elt F)),
    unary main_v145 main_v147 (broadcastInDim S4096x10 ![0, 1] bcast_S4096x1_S4096x10_0_1 : (⟨S4096x1, .i32⟩ : BufTy).Contents (Elt F) → (⟨S4096x10, .i32⟩ : BufTy).Contents (Elt F)),
    unary main_v146 main_v148 (broadcastInDim S4096x10 ![0, 1] bcast_S1x10_S4096x10_0_1 : (⟨S1x10, .i32⟩ : BufTy).Contents (Elt F) → (⟨S4096x10, .i32⟩ : BufTy).Contents (Elt F)),
    binary main_v147 main_v148 main_v149 (addi : (⟨S4096x10, .i32⟩ : BufTy).Contents (Elt F) → (⟨S4096x10, .i32⟩ : BufTy).Contents (Elt F) → (⟨S4096x10, .i32⟩ : BufTy).Contents (Elt F))]

/-- The operations that compute the columns of the ten children of the predicted class of level 1, second stretch. -/
abbrev opsIx4b : List (HloOp τ sig (Elt F)) :=
  [ nullary main_c_28 (constantI S_ 32 1100#32),
    unary main_c_28 main_v150 (broadcastInDim S4096x10 ![] bcast_S_S4096x10 : (⟨S_, .i32⟩ : BufTy).Contents (Elt F) → (⟨S4096x10, .i32⟩ : BufTy).Contents (Elt F)),
    binary main_v149 main_v150 main_v151 (addi : (⟨S4096x10, .i32⟩ : BufTy).Contents (Elt F) → (⟨S4096x10, .i32⟩ : BufTy).Contents (Elt F) → (⟨S4096x10, .i32⟩ : BufTy).Contents (Elt F))]

/-- The operations that compute the columns of the ten children of the predicted class of level 1. -/
abbrev opsIx4 : List (HloOp τ sig (Elt F)) := opsIx4a ++ opsIx4b

/-- The operations that compute the logits of those children. -/
abbrev opsTk4 : List (HloOp τ sig (Elt F)) :=
  [ TRef.nullary (TRef.of (T := ⟨S_, .i32⟩) main_call11_c) (constantI S_ 32 0#32),
    TRef.unary (TRef.of (T := ⟨S_, .i32⟩) main_call11_c) (TRef.of (T := ⟨S4096x10, .i32⟩) main_call11_v0) (broadcastInDim S4096x10 ![] bcast_S_S4096x10),
    TRef.binary (TRef.of (T := ⟨S4096x10, .i32⟩) main_v151) (TRef.of (T := ⟨S4096x10, .i32⟩) main_call11_v0) (TRef.of (T := ⟨S4096x10, .i1⟩) main_call11_v1) (cmpi .slt),
    TRef.nullary (TRef.of (T := ⟨S_, .i32⟩) main_call11_c_0) (constantI S_ 32 11100#32),
    TRef.unary (TRef.of (T := ⟨S_, .i32⟩) main_call11_c_0) (TRef.of (T := ⟨S4096x10, .i32⟩) main_call11_v2) (broadcastInDim S4096x10 ![] bcast_S_S4096x10),
    TRef.binary (TRef.of (T := ⟨S4096x10, .i32⟩) main_v151) (TRef.of (T := ⟨S4096x10, .i32⟩) main_call11_v2) (TRef.of (T := ⟨S4096x10, .i32⟩) main_call11_v3) addi,
    TRef.ternary (TRef.of (T := ⟨S4096x10, .i1⟩) main_call11_v1) (TRef.of (T := ⟨S4096x10, .i32⟩) main_call11_v3) (TRef.of (T := ⟨S4096x10, .i32⟩) main_v151) (TRef.of (T := ⟨S4096x10, .i32⟩) main_call11_v4) select,
    TRef.reshape (TRef.of (T := ⟨S4096x10, .i32⟩) main_call11_v4) (TRef.of (T := ⟨S4096x10x1, .i32⟩) main_call11_v5) (rfl : (.i32 : EltTy) = .i32) shapeCasts_S4096x10_S4096x10x1,
    TRef.nullary (TRef.of (T := ⟨S1, .i32⟩) main_call11_c_1) (constantI S1 32 11099#32),
    TRef.nullary (TRef.of (T := ⟨S_, .i32⟩) main_call11_c_2) (constantI S_ 32 0#32),
    TRef.unary (TRef.of (T := ⟨S_, .i32⟩) main_call11_c_2) (TRef.of (T := ⟨S4096x10x1, .i32⟩) main_call11_v6) (broadcastInDim S4096x10x1 ![] bcast_S_S4096x10x1),
    TRef.binary (TRef.of (T := ⟨S4096x10x1, .i32⟩) main_call11_v5) (TRef.of (T := ⟨S4096x10x1, .i32⟩) main_call11_v6) (TRef.of (T := ⟨S4096x10x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S4096x10x1, .i32⟩) main_call11_v9) (broadcastInDim S4096x10x1 ![0, 1, 2] bcast_S1x1x1_S4096x10x1_0_1_2),
    TRef.binary (TRef.of (T := ⟨S4096x10x1, .i32⟩) main_call11_v5) (TRef.of (T := ⟨S4096x10x1, .i32⟩) main_call11_v9) (TRef.of (T := ⟨S4096x10x1, .i1⟩) main_call11_v10) (cmpi .sle),
    TRef.binary (TRef.of (T := ⟨S4096x10x1, .i1⟩) main_call11_v7) (TRef.of (T := ⟨S4096x10x1, .i1⟩) main_call11_v10) (TRef.of (T := ⟨S4096x10x1, .i1⟩) main_call11_v11) andi,
    TRef.nullary (TRef.of (T := ⟨S_, .i1⟩) main_call11_c_3) (constantI S_ 1 1#1),
    TRef.binary (TRef.of (T := ⟨S4096x10x1, .i1⟩) main_call11_v11) (TRef.of (T := ⟨S_, .i1⟩) main_call11_c_3) (TRef.of (T := ⟨S4096x10, .i1⟩) main_call11_v12) (fun x v => Host.reduce IntOp.andi x v reducesTo_S4096x10x1_S4096x10_d2 h_S_),
    TRef.binary (TRef.of (T := ⟨S4096x11100, .f32⟩) main_arg0) (TRef.of (T := ⟨S4096x10x1, .i32⟩) main_call11_v5) (TRef.of (T := ⟨S4096x10, .f32⟩) main_call11_v13) (fun x i => Host.gather gather_S4096x11100_S4096x10x1_S4096x10_n_1_0_0_1_2_11 x i),
    TRef.nullary (TRef.of (T := ⟨S_, .f32⟩) main_call11_cst) (constant S_ .f32 0x7FC00000#32),
    TRef.unary (TRef.of (T := ⟨S_, .f32⟩) main_call11_cst) (TRef.of (T := ⟨S4096x10, .f32⟩) main_call11_v14) (broadcastInDim S4096x10 ![] bcast_S_S4096x10),
    TRef.ternary (TRef.of (T := ⟨S4096x10, .i1⟩) main_call11_v12) (TRef.of (T := ⟨S4096x10, .f32⟩) main_call11_v13) (TRef.of (T := ⟨S4096x10, .f32⟩) main_call11_v14) (TRef.of (T := ⟨S4096x10, .f32⟩) main_v152) select]

/-- The operations that compute the sum of the three terms over all samples. -/
abbrev opsLos : List (HloOp τ sig (Elt F)) :=
  [ nullary main_cst_29 (constant S_ .f32 0x3F800000#32),
    unary main_cst_29 main_v153 (broadcastInDim S4096 ![] bcast_S_S4096 : (⟨S_, .f32⟩ : BufTy).Contents (Elt F) → (⟨S4096, .f32⟩ : BufTy).Contents (Elt F)),
    binary main_v153 main_v31 main_v154 (mulf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v124) (TRef.of (T := ⟨S4096, .f32⟩) main_v103) (TRef.of (T := ⟨S4096, .f32⟩) main_v58) (TRef.of (T := ⟨S4096, .f32⟩) main_v155) select,
    nullary main_cst_30 (constant S_ .f32 0x3F800000#32),
    unary main_cst_30 main_v156 (broadcastInDim S4096 ![] bcast_S_S4096 : (⟨S_, .f32⟩ : BufTy).Contents (Elt F) → (⟨S4096, .f32⟩ : BufTy).Contents (Elt F)),
    binary main_v156 main_v155 main_v157 (mulf : (⟨S4096, .f32⟩ : BufTy).Contents (Elt F) → (⟨S4096, .f32⟩ : BufTy).Contents (Elt F) → (⟨S4096, .f32⟩ : BufTy).Contents (Elt F)),
    binary main_v154 main_v157 main_v158 (addf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v140) (TRef.of (T := ⟨S4096, .f32⟩) main_v121) (TRef.of (T := ⟨S4096, .f32⟩) main_v85) (TRef.of (T := ⟨S4096, .f32⟩) main_v159) select,
    nullary main_cst_31 (constant S_ .f32 0x3F800000#32),
    unary main_cst_31 main_v160 (broadcastInDim S4096 ![] bcast_S_S4096 : (⟨S_, .f32⟩ : BufTy).Contents (Elt F) → (⟨S4096, .f32⟩ : BufTy).Contents (Elt F)),
    binary main_v160 main_v159 main_v161 (mulf : (⟨S4096, .f32⟩ : BufTy).Contents (Elt F) → (⟨S4096, .f32⟩ : BufTy).Contents (Elt F) → (⟨S4096, .f32⟩ : BufTy).Contents (Elt F)),
    binary main_v158 main_v161 main_v162 (addf : (⟨S4096, .f32⟩ : BufTy).Contents (Elt F) → (⟨S4096, .f32⟩ : BufTy).Contents (Elt F) → (⟨S4096, .f32⟩ : BufTy).Contents (Elt F)),
    nullary main_cst_32 (constant S_ .f32 0x00000000#32),
    binary main_v162 main_cst_32 main_v163 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F))]

/-- The operations that compute the output with the logits of level 0 copied in. -/
abbrev opsSc0 : List (HloOp τ sig (Elt F)) :=
  [ nullary main_cst_33 (constant S_ .f32 0xCCBEBC20#32),
    unary main_cst_33 main_v164 (broadcastInDim S4096x11100 ![] bcast_S_S4096x11100 : (⟨S_, .f32⟩ : BufTy).Contents (Elt F) → (⟨S4096x11100, .f32⟩ : BufTy).Contents (Elt F)),
    unary main_arg0 main_v165 ((extractStridedSlice S4096x100 ![0, 0] · slices_S4096x11100_S4096x100_0_0) : (⟨S4096x11100, .f32⟩ : BufTy).Contents (Elt F) → (⟨S4096x100, .f32⟩ : BufTy).Contents (Elt F)),
    nullary main_c_34 (constantI S_ 32 0#32),
    unary main_c_34 main_v166 (broadcastInDim S1 ![] bcast_S_S1 : (⟨S_, .i32⟩ : BufTy).Contents (Elt F) → (⟨S1, .i32⟩ : BufTy).Contents (Elt F)),
    ternary main_v164 main_v166 main_v165 main_v167 ((fun x i u => Host.scatter scatter_S4096x11100_S1_S4096x100_01_n_1_0 (fun _ b => b) x i u) : (⟨S4096x11100, .f32⟩ : BufTy).Contents (Elt F) → (⟨S1, .i32⟩ : BufTy).Contents (Elt F) → (⟨S4096x100, .f32⟩ : BufTy).Contents (Elt F) → (⟨S4096x11100, .f32⟩ : BufTy).Contents (Elt F))]

/-- The operations that compute the output with the children of the level 0 prediction copied in. -/
abbrev opsSc1 : List (HloOp τ sig (Elt F)) :=
  [ nullary main_v168 (iotaInDim S4096 32 0),
    unary main_v168 main_v169 (broadcastInDim S4096x1 ![0] bcast_S4096_S4096x1_0 : (⟨S4096, .i32⟩ : BufTy).Contents (Elt F) → (⟨S4096x1, .i32⟩ : BufTy).Contents (Elt F)),
    nullary main_c_35 (constantI S_ 32 0#32),
    unary main_c_35 main_v170 (broadcastInDim S4096x1 ![] bcast_S_S4096x1 : (⟨S_, .i32⟩ : BufTy).Contents (Elt F) → (⟨S4096x1, .i32⟩ : BufTy).Contents (Elt F)),
    binary main_v169 main_v170 main_v171 (cmpi .slt : (⟨S4096x1, .i32⟩ : BufTy).Contents (Elt F) → (⟨S4096x1, .i32⟩ : BufTy).Contents (Elt F) → (⟨S4096x1, .i1⟩ : BufTy).Contents (Elt F)),
    nullary main_c_36 (constantI S_ 32 4096#32),
    unary main_c_36 main_v172 (broadcastInDim S4096x1 ![] bcast_S_S4096x1 : (⟨S_, .i32⟩ : BufTy).Contents (Elt F) → (⟨S4096x1, .i32⟩ : BufTy).Contents (Elt F)),
    binary main_v169 main_v172 main_v173 (addi : (⟨S4096x1, .i32⟩ : BufTy).Contents (Elt F) → (⟨S4096x1, .i32⟩ : BufTy).Contents (Elt F) → (⟨S4096x1, .i32⟩ : BufTy).Contents (Elt F)),
    ternary main_v171 main_v173 main_v169 main_v174 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_37 (constantI S_ 32 0#32),
    unary main_c_37 main_v175 (broadcastInDim S4096x10 ![] bcast_S_S4096x10 : (⟨S_, .i32⟩ : BufTy).Contents (Elt F) → (⟨S4096x10, .i32⟩ : BufTy).Contents (Elt F)),
    binary main_v133 main_v175 main_v176 (cmpi .slt : (⟨S4096x10, .i32⟩ : BufTy).Contents (Elt F) → (⟨S4096x10, .i32⟩ : BufTy).Contents (Elt F) → (⟨S4096x10, .i1⟩ : BufTy).Contents (Elt F)),
    nullary main_c_38 (constantI S_ 32 11100#32),
    unary main_c_38 main_v177 (broadcastInDim S4096x10 ![] bcast_S_S4096x10 : (⟨S_, .i32⟩ : BufTy).Contents (Elt F) → (⟨S4096x10, .i32⟩ : BufTy).Contents (Elt F)),
    binary main_v133 main_v177 main_v178 (addi : (⟨S4096x10, .i32⟩ : BufTy).Contents (Elt F) → (⟨S4096x10, .i32⟩ : BufTy).Contents (Elt F) → (⟨S4096x10, .i32⟩ : BufTy).Contents (Elt F)),
    ternary main_v176 main_v178 main_v133 main_v179 (select : (⟨S4096x10, .i1⟩ : BufTy).Contents (Elt F) → (⟨S4096x10, .i32⟩ : BufTy).Contents (Elt F) → (⟨S4096x10, .i32⟩ : BufTy).Contents (Elt F) → (⟨S4096x10, .i32⟩ : BufTy).Contents (Elt F)),
    unary main_v174 main_v180 (broadcastInDim S4096x10 ![0, 1] bcast_S4096x1_S4096x10_0_1 : (⟨S4096x1, .i32⟩ : BufTy).Contents (Elt F) → (⟨S4096x10, .i32⟩ : BufTy).Contents (Elt F)),
    unary main_v180 main_v181 (broadcastInDim S4096x10x1 ![0, 1] bcast_S4096x10_S4096x10x1_0_1 : (⟨S4096x10, .i32⟩ : BufTy).Contents (Elt F) → (⟨S4096x10x1, .i32⟩ : BufTy).Contents (Elt F)),
    unary main_v179 main_v182 (broadcastInDim S4096x10x1 ![0, 1] bcast_S4096x10_S4096x10x1_0_1 : (⟨S4096x10, .i32⟩ : BufTy).Contents (Elt F) → (⟨S4096x10x1, .i32⟩ : BufTy).Contents (Elt F)),
    binary main_v181 main_v182 main_v183 (pairUp (F := F)),
    ternary main_v167 main_v183 main_v134 main_v184 ((fun x i u => Host.scatter scatter_S4096x11100_S4096x10x2_S4096x10_n_01_01_2 (fun _ b => b) x i u) : (⟨S4096x11100, .f32⟩ : BufTy).Contents (Elt F) → (⟨S4096x10x2, .i32⟩ : BufTy).Contents (Elt F) → (⟨S4096x10, .f32⟩ : BufTy).Contents (Elt F) → (⟨S4096x11100, .f32⟩ : BufTy).Contents (Elt F))]

/-- The operations that compute the output with the children of the level 1 prediction copied in, first stretch. -/
abbrev opsSc2a : List (HloOp τ sig (Elt F)) :=
  [ nullary main_c_39 (constantI S_ 32 0#32),
    unary main_c_39 main_v185 (broadcastInDim S4096x1 ![] bcast_S_S4096x1 : (⟨S_, .i32⟩ : BufTy).Contents (Elt F) → (⟨S4096x1, .i32⟩ : BufTy).Contents (Elt F)),
    binary main_v169 main_v185 main_v186 (cmpi .slt : (⟨S4096x1, .i32⟩ : BufTy).Contents (Elt F) → (⟨S4096x1, .i32⟩ : BufTy).Contents (Elt F) → (⟨S4096x1, .i1⟩ : BufTy).Contents (Elt F)),
    nullary main_c_40 (constantI S_ 32 4096#32),
    unary main_c_40 main_v187 (broadcastInDim S4096x1 ![] bcast_S_S4096x1 : (⟨S_, .i32⟩ : BufTy).Contents (Elt F) → (⟨S4096x1, .i32⟩ : BufTy).Contents (Elt F)),
    binary main_v169 main_v187 main_v188 (addi : (⟨S4096x1, .i32⟩ : BufTy).Contents (Elt F) → (⟨S4096x1, .i32⟩ : BufTy).Contents (Elt F) → (⟨S4096x1, .i32⟩ : BufTy).Contents (Elt F)),
    ternary main_v186 main_v188 main_v169 main_v189 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_41 (constantI S_ 32 0#32),
    unary main_c_41 main_v190 (broadcastInDim S4096x10 ![] bcast_S_S4096x10 : (⟨S_, .i32⟩ : BufTy).Contents (Elt F) → (⟨S4096x10, .i32⟩ : BufTy).Contents (Elt F)),
    binary main_v151 main_v190 main_v191 (cmpi .slt : (⟨S4096x10, .i32⟩ : BufTy).Contents (Elt F) → (⟨S4096x10, .i32⟩ : BufTy).Contents (Elt F) → (⟨S4096x10, .i1⟩ : BufTy).Contents (Elt F)),
    nullary main_c_42 (constantI S_ 32 11100#32),
    unary main_c_42 main_v192 (broadcastInDim S4096x10 ![] bcast_S_S4096x10 : (⟨S_, .i32⟩ : BufTy).Contents (Elt F) → (⟨S4096x10, .i32⟩ : BufTy).Contents (Elt F)),
    binary main_v151 main_v192 main_v193 (addi : (⟨S4096x10, .i32⟩ : BufTy).Contents (Elt F) → (⟨S4096x10, .i32⟩ : BufTy).Contents (Elt F) → (⟨S4096x10, .i32⟩ : BufTy).Contents (Elt F)),
    ternary main_v191 main_v193 main_v151 main_v194 (select : (⟨S4096x10, .i1⟩ : BufTy).Contents (Elt F) → (⟨S4096x10, .i32⟩ : BufTy).Contents (Elt F) → (⟨S4096x10, .i32⟩ : BufTy).Contents (Elt F) → (⟨S4096x10, .i32⟩ : BufTy).Contents (Elt F))]

/-- The operations that compute the output with the children of the level 1 prediction copied in, second stretch. -/
abbrev opsSc2b : List (HloOp τ sig (Elt F)) :=
  [ unary main_v189 main_v195 (broadcastInDim S4096x10 ![0, 1] bcast_S4096x1_S4096x10_0_1 : (⟨S4096x1, .i32⟩ : BufTy).Contents (Elt F) → (⟨S4096x10, .i32⟩ : BufTy).Contents (Elt F)),
    unary main_v195 main_v196 (broadcastInDim S4096x10x1 ![0, 1] bcast_S4096x10_S4096x10x1_0_1 : (⟨S4096x10, .i32⟩ : BufTy).Contents (Elt F) → (⟨S4096x10x1, .i32⟩ : BufTy).Contents (Elt F)),
    unary main_v194 main_v197 (broadcastInDim S4096x10x1 ![0, 1] bcast_S4096x10_S4096x10x1_0_1 : (⟨S4096x10, .i32⟩ : BufTy).Contents (Elt F) → (⟨S4096x10x1, .i32⟩ : BufTy).Contents (Elt F)),
    binary main_v196 main_v197 main_v198 (pairUp (F := F)),
    ternary main_v184 main_v198 main_v152 main_v199 ((fun x i u => Host.scatter scatter_S4096x11100_S4096x10x2_S4096x10_n_01_01_2 (fun _ b => b) x i u) : (⟨S4096x11100, .f32⟩ : BufTy).Contents (Elt F) → (⟨S4096x10x2, .i32⟩ : BufTy).Contents (Elt F) → (⟨S4096x10, .f32⟩ : BufTy).Contents (Elt F) → (⟨S4096x11100, .f32⟩ : BufTy).Contents (Elt F))]

/-- The operations that compute the output with the children of the level 1 prediction copied in. -/
abbrev opsSc2 : List (HloOp τ sig (Elt F)) := opsSc2a ++ opsSc2b

set_option maxRecDepth 16384 in
set_option maxHeartbeats 4000000 in
/-- Stretch 1 of `main` is the operations of its steps. -/
theorem main_part0_eq (c : Dev nD) : main_part0 (F := F) c = seq (opsLab ++ (opsCe0 ++ (opsIx1 ++ (opsTk1 ++ (opsCe1a))))) := rfl

set_option maxRecDepth 16384 in
set_option maxHeartbeats 4000000 in
/-- Stretch 2 of `main` is the operations of its steps. -/
theorem main_part1_eq (c : Dev nD) : main_part1 (F := F) c = seq (opsCe1b ++ (opsIx2 ++ (opsTk2 ++ (opsCe2 ++ (opsCe3a))))) := rfl

set_option maxRecDepth 16384 in
set_option maxHeartbeats 4000000 in
/-- Stretch 3 of `main` is the operations of its steps. -/
theorem main_part2_eq (c : Dev nD) : main_part2 (F := F) c = seq (opsCe3b ++ (opsCe4 ++ (opsAm0 ++ (opsIx3 ++ (opsTk3 ++ (opsAm1 ++ (opsPk1 ++ (opsWr1 ++ (opsIx4a))))))))) := rfl

set_option maxRecDepth 16384 in
set_option maxHeartbeats 4000000 in
/-- Stretch 4 of `main` is the operations of its steps. -/
theorem main_part3_eq (c : Dev nD) : main_part3 (F := F) c = seq (opsIx4b ++ (opsTk4 ++ (opsLos ++ (opsSc0 ++ (opsSc1 ++ (opsSc2a)))))) := rfl

set_option maxRecDepth 16384 in
set_option maxHeartbeats 4000000 in
/-- Stretch 5 of `main` is the operations of its steps. -/
theorem main_part4_eq (c : Dev nD) : main_part4 (F := F) c = seq (opsSc2b) := rfl

/-- All operations of the reference, step after step. -/
abbrev ops : List (HloOp τ sig (Elt F)) :=
  opsLab ++ (opsCe0 ++ (opsIx1 ++ (opsTk1 ++ (opsCe1 ++ (opsIx2 ++ (opsTk2 ++ (opsCe2 ++ (opsCe3 ++ (opsCe4 ++ (opsAm0 ++ (opsIx3 ++ (opsTk3 ++ (opsAm1 ++ (opsPk1 ++ (opsWr1 ++ (opsIx4 ++ (opsTk4 ++ (opsLos ++ (opsSc0 ++ (opsSc1 ++ (opsSc2)))))))))))))))))))))

set_option maxRecDepth 16384 in
/-- `main` performs these operations in this order. -/
theorem main_eq (c : Dev nD) : main (F := F) c = seq ops := by
  have h : main (F := F) c = (do main_part0 c; main_part1 c; main_part2 c; main_part3 c; main_part4 c) := rfl
  rw [h]
  simp only [main_part0_eq, main_part1_eq, main_part2_eq, main_part3_eq, main_part4_eq, ← seq_append]
  simp only [ops, List.append_assoc]

/-- These operations touch buffers of the program only. -/
theorem opsLab_sub : (opsLab : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., nullary_bufs_sub ..⟩
/-- These operations leave nothing undetermined. -/
theorem opsLab_fresh : (opsLab : List (HloOp τ sig (Elt F))).Forall fun op => op.fresh = ∅ :=
  ⟨rfl, rfl, rfl, rfl, rfl, rfl, rfl, rfl, rfl, rfl, rfl, rfl, rfl, rfl, rfl, rfl⟩
/-- The buffers these operations write, in order. -/
abbrev opsLab_W : List (Ref sig .tc) := [main_v0, main_v1, main_v2, main_v3, main_v4, main_v5, main_c, main_v6, main_v7, main_v8, main_c_0, main_v9, main_v10, main_v11, main_v12, main_v13]
/-- These operations write those buffers and no other. -/
theorem opsLab_writes : (opsLab : List (HloOp τ sig (Elt F))).Forall fun op => op.writes ⊆ (opsLab_W.map (Proc.devRef (τ := τ) .tc)).toFinset :=
  forall_writes_sub_of_map rfl

/-- These operations touch buffers of the program only. -/
theorem opsCe0_sub : (opsCe0 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub ..⟩
/-- These operations leave nothing undetermined. -/
theorem opsCe0_fresh : (opsCe0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev opsCe0_W : List (Ref sig .tc) := [main_v14, main_cst, main_v15, main_v16, main_cst_1, main_v17, main_v18, main_cst_2, main_v19, main_v20, main_v21, main_v22, main_v23, main_v24, main_cst_3, main_v25, main_v26, main_v27, main_v28, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v29, main_v30, main_v31]
/-- These operations write those buffers and no other. -/
theorem opsCe0_writes : (opsCe0 : List (HloOp τ sig (Elt F))).Forall fun op => op.writes ⊆ (opsCe0_W.map (Proc.devRef (τ := τ) .tc)).toFinset :=
  forall_writes_sub_of_map rfl

/-- These operations touch buffers of the program only. -/
theorem opsIx1_sub : (opsIx1 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩
/-- These operations leave nothing undetermined. -/
theorem opsIx1_fresh : (opsIx1 : List (HloOp τ sig (Elt F))).Forall fun op => op.fresh = ∅ :=
  ⟨rfl, rfl, rfl, rfl, rfl, rfl, rfl, rfl, rfl, rfl, rfl⟩
/-- The buffers these operations write, in order. -/
abbrev opsIx1_W : List (Ref sig .tc) := [main_v32, main_c_4, main_v33, main_v34, main_v35, main_v36, main_v37, main_v38, main_c_5, main_v39, main_v40]
/-- These operations write those buffers and no other. -/
theorem opsIx1_writes : (opsIx1 : List (HloOp τ sig (Elt F))).Forall fun op => op.writes ⊆ (opsIx1_W.map (Proc.devRef (τ := τ) .tc)).toFinset :=
  forall_writes_sub_of_map rfl

/-- These operations touch buffers of the program only. -/
theorem opsTk1_sub : (opsTk1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- These operations leave nothing undetermined. -/
theorem opsTk1_fresh : (opsTk1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers these operations write, in order. -/
abbrev opsTk1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v41]
/-- These operations write those buffers and no other. -/
theorem opsTk1_writes : (opsTk1 : List (HloOp τ sig (Elt F))).Forall fun op => op.writes ⊆ (opsTk1_W.map (Proc.devRef (τ := τ) .tc)).toFinset :=
  forall_writes_sub_of_map rfl

/-- These operations touch buffers of the program only. -/
theorem opsCe1a_sub : (opsCe1a : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., ternary_bufs_sub .., unary_bufs_sub ..⟩
/-- These operations leave nothing undetermined. -/
theorem opsCe1a_fresh : (opsCe1a : List (HloOp τ sig (Elt F))).Forall fun op => op.fresh = ∅ :=
  ⟨rfl, rfl, rfl, rfl, rfl, rfl, rfl, rfl, rfl, rfl⟩
/-- The buffers these operations write, in order. -/
abbrev opsCe1a_W : List (Ref sig .tc) := [main_cst_6, main_v42, main_v43, main_cst_7, main_v44, main_v45, main_cst_8, main_v46, main_v47, main_v48]
/-- These operations write those buffers and no other. -/
theorem opsCe1a_writes : (opsCe1a : List (HloOp τ sig (Elt F))).Forall fun op => op.writes ⊆ (opsCe1a_W.map (Proc.devRef (τ := τ) .tc)).toFinset :=
  forall_writes_sub_of_map rfl

/-- These operations touch buffers of the program only. -/
theorem opsCe1b_sub : (opsCe1b : List (HloOp τ sig (Elt F))).Forall fun op => op.bufs ⊆ tcRefs τ sig :=
  ⟨unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub ..⟩
/-- These operations leave nothing undetermined. -/
theorem opsCe1b_fresh : (opsCe1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev opsCe1b_W : List (Ref sig .tc) := [main_v49, main_v50, main_v51, main_cst_9, main_v52, main_v53, main_v54, main_v55, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v56, main_v57, main_v58]
/-- These operations write those buffers and no other. -/
theorem opsCe1b_writes : (opsCe1b : List (HloOp τ sig (Elt F))).Forall fun op => op.writes ⊆ (opsCe1b_W.map (Proc.devRef (τ := τ) .tc)).toFinset :=
  forall_writes_sub_of_map rfl

theorem opsCe1_sub : (opsCe1 : List (HloOp τ sig (Elt F))).Forall fun op => op.bufs ⊆ tcRefs τ sig :=
  List.forall_append.mpr ⟨opsCe1a_sub, opsCe1b_sub⟩
theorem opsCe1_fresh : (opsCe1 : List (HloOp τ sig (Elt F))).Forall fun op => op.fresh = ∅ :=
  List.forall_append.mpr ⟨opsCe1a_fresh, opsCe1b_fresh⟩
abbrev opsCe1_W : List (Ref sig .tc) := opsCe1a_W ++ opsCe1b_W
theorem opsCe1_writes : (opsCe1 : List (HloOp τ sig (Elt F))).Forall fun op => op.writes ⊆ (opsCe1_W.map (Proc.devRef (τ := τ) .tc)).toFinset :=
  forall_writes_sub_of_map rfl

/-- These operations touch buffers of the program only. -/
theorem opsIx2_sub : (opsIx2 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩
/-- These operations leave nothing undetermined. -/
theorem opsIx2_fresh : (opsIx2 : List (HloOp τ sig (Elt F))).Forall fun op => op.fresh = ∅ :=
  ⟨rfl, rfl, rfl, rfl, rfl, rfl, rfl, rfl, rfl, rfl, rfl⟩
/-- The buffers these operations write, in order. -/
abbrev opsIx2_W : List (Ref sig .tc) := [main_v59, main_c_10, main_v60, main_v61, main_v62, main_v63, main_v64, main_v65, main_c_11, main_v66, main_v67]
/-- These operations write those buffers and no other. -/
theorem opsIx2_writes : (opsIx2 : List (HloOp τ sig (Elt F))).Forall fun op => op.writes ⊆ (opsIx2_W.map (Proc.devRef (τ := τ) .tc)).toFinset :=
  forall_writes_sub_of_map rfl

/-- These operations touch buffers of the program only. -/
theorem opsTk2_sub : (opsTk2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- These operations leave nothing undetermined. -/
theorem opsTk2_fresh : (opsTk2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers these operations write, in order. -/
abbrev opsTk2_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v68]
/-- These operations write those buffers and no other. -/
theorem opsTk2_writes : (opsTk2 : List (HloOp τ sig (Elt F))).Forall fun op => op.writes ⊆ (opsTk2_W.map (Proc.devRef (τ := τ) .tc)).toFinset :=
  forall_writes_sub_of_map rfl

/-- These operations touch buffers of the program only. -/
theorem opsCe2_sub : (opsCe2 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub ..⟩
/-- These operations leave nothing undetermined. -/
theorem opsCe2_fresh : (opsCe2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev opsCe2_W : List (Ref sig .tc) := [main_cst_12, main_v69, main_v70, main_cst_13, main_v71, main_v72, main_cst_14, main_v73, main_v74, main_v75, main_v76, main_v77, main_v78, main_cst_15, main_v79, main_v80, main_v81, main_v82, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v83, main_v84, main_v85]
/-- These operations write those buffers and no other. -/
theorem opsCe2_writes : (opsCe2 : List (HloOp τ sig (Elt F))).Forall fun op => op.writes ⊆ (opsCe2_W.map (Proc.devRef (τ := τ) .tc)).toFinset :=
  forall_writes_sub_of_map rfl

/-- These operations touch buffers of the program only. -/
theorem opsCe3a_sub : (opsCe3a : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub ..⟩
/-- These operations leave nothing undetermined. -/
theorem opsCe3a_fresh : (opsCe3a : List (HloOp τ sig (Elt F))).Forall fun op => op.fresh = ∅ :=
  ⟨rfl, rfl, rfl, rfl, rfl, rfl, rfl, rfl, rfl, rfl, rfl, rfl, rfl, rfl, rfl, rfl⟩
/-- The buffers these operations write, in order. -/
abbrev opsCe3a_W : List (Ref sig .tc) := [main_v86, main_cst_16, main_v87, main_v88, main_cst_17, main_v89, main_v90, main_cst_18, main_v91, main_v92, main_v93, main_v94, main_v95, main_v96, main_cst_19, main_v97]
/-- These operations write those buffers and no other. -/
theorem opsCe3a_writes : (opsCe3a : List (HloOp τ sig (Elt F))).Forall fun op => op.writes ⊆ (opsCe3a_W.map (Proc.devRef (τ := τ) .tc)).toFinset :=
  forall_writes_sub_of_map rfl

/-- These operations touch buffers of the program only. -/
theorem opsCe3b_sub : (opsCe3b : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub ..⟩
/-- These operations leave nothing undetermined. -/
theorem opsCe3b_fresh : (opsCe3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev opsCe3b_W : List (Ref sig .tc) := [main_v98, main_v99, main_v100, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v101, main_v102, main_v103]
/-- These operations write those buffers and no other. -/
theorem opsCe3b_writes : (opsCe3b : List (HloOp τ sig (Elt F))).Forall fun op => op.writes ⊆ (opsCe3b_W.map (Proc.devRef (τ := τ) .tc)).toFinset :=
  forall_writes_sub_of_map rfl

theorem opsCe3_sub : (opsCe3 : List (HloOp τ sig (Elt F))).Forall fun op => op.bufs ⊆ tcRefs τ sig :=
  List.forall_append.mpr ⟨opsCe3a_sub, opsCe3b_sub⟩
theorem opsCe3_fresh : (opsCe3 : List (HloOp τ sig (Elt F))).Forall fun op => op.fresh = ∅ :=
  List.forall_append.mpr ⟨opsCe3a_fresh, opsCe3b_fresh⟩
abbrev opsCe3_W : List (Ref sig .tc) := opsCe3a_W ++ opsCe3b_W
theorem opsCe3_writes : (opsCe3 : List (HloOp τ sig (Elt F))).Forall fun op => op.writes ⊆ (opsCe3_W.map (Proc.devRef (τ := τ) .tc)).toFinset :=
  forall_writes_sub_of_map rfl

/-- These operations touch buffers of the program only. -/
theorem opsCe4_sub : (opsCe4 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub ..⟩
/-- These operations leave nothing undetermined. -/
theorem opsCe4_fresh : (opsCe4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers these operations write, in order. -/
abbrev opsCe4_W : List (Ref sig .tc) := [main_v104, main_cst_20, main_v105, main_v106, main_cst_21, main_v107, main_v108, main_cst_22, main_v109, main_v110, main_v111, main_v112, main_v113, main_v114, main_cst_23, main_v115, main_v116, main_v117, main_v118, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v119, main_v120, main_v121]
/-- These operations write those buffers and no other. -/
theorem opsCe4_writes : (opsCe4 : List (HloOp τ sig (Elt F))).Forall fun op => op.writes ⊆ (opsCe4_W.map (Proc.devRef (τ := τ) .tc)).toFinset :=
  forall_writes_sub_of_map rfl

/-- These operations touch buffers of the program only. -/
theorem opsAm0_sub : (opsAm0 : List (HloOp τ sig (Elt F))).Forall fun op => op.bufs ⊆ tcRefs τ sig :=
  ⟨unary_bufs_sub .., nullary_bufs_sub .., nullary_bufs_sub .., nullary_bufs_sub .., quaternary_bufs_sub .., quaternary_bufs_sub .., binary_bufs_sub ..⟩
/-- These operations leave nothing undetermined. -/
theorem opsAm0_fresh : (opsAm0 : List (HloOp τ sig (Elt F))).Forall fun op => op.fresh = ∅ :=
  ⟨rfl, rfl, rfl, rfl, rfl, rfl, rfl⟩
/-- The buffers these operations write, in order. -/
abbrev opsAm0_W : List (Ref sig .tc) := [main_v122, main_call7_v0, main_call7_cst, main_call7_c, main_call7_v1_0, main_v123, main_v124]
/-- These operations write those buffers and no other. -/
theorem opsAm0_writes : (opsAm0 : List (HloOp τ sig (Elt F))).Forall fun op => op.writes ⊆ (opsAm0_W.map (Proc.devRef (τ := τ) .tc)).toFinset :=
  forall_writes_sub_of_map rfl

/-- These operations touch buffers of the program only. -/
theorem opsIx3_sub : (opsIx3 : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., binary_bufs_sub .., nullary_bufs_sub .., unary_bufs_sub .., binary_bufs_sub ..⟩
/-- These operations leave nothing undetermined. -/
theorem opsIx3_fresh : (opsIx3 : List (HloOp τ sig (Elt F))).Forall fun op => op.fresh = ∅ :=
  ⟨rfl, rfl, rfl, rfl, rfl, rfl, rfl, rfl, rfl, rfl, rfl⟩
/-- The buffers these operations write, in order. -/
abbrev opsIx3_W : List (Ref sig .tc) := [main_v125, main_c_24, main_v126, main_v127, main_v128, main_v129, main_v130, main_v131, main_c_25, main_v132, main_v133]
/-- These operations write those buffers and no other. -/
theorem opsIx3_writes : (opsIx3 : List (HloOp τ sig (Elt F))).Forall fun op => op.writes ⊆ (opsIx3_W.map (Proc.devRef (τ := τ) .tc)).toFinset :=
  forall_writes_sub_of_map rfl

/-- These operations touch buffers of the program only. -/
theorem opsTk3_sub : (opsTk3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- These operations leave nothing undetermined. -/
theorem opsTk3_fresh : (opsTk3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers these operations write, in order. -/
abbrev opsTk3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v134]
/-- These operations write those buffers and no other. -/
theorem opsTk3_writes : (opsTk3 : List (HloOp τ sig (Elt F))).Forall fun op => op.writes ⊆ (opsTk3_W.map (Proc.devRef (τ := τ) .tc)).toFinset :=
  forall_writes_sub_of_map rfl

/-- These operations touch buffers of the program only. -/
theorem opsAm1_sub : (opsAm1 : List (HloOp τ sig (Elt F))).Forall fun op => op.bufs ⊆ tcRefs τ sig :=
  ⟨nullary_bufs_sub .., nullary_bufs_sub .., nullary_bufs_sub .., quaternary_bufs_sub .., quaternary_bufs_sub ..⟩
/-- These operations leave nothing undetermined. -/
theorem opsAm1_fresh : (opsAm1 : List (HloOp τ sig (Elt F))).Forall fun op => op.fresh = ∅ :=
  ⟨rfl, rfl, rfl, rfl, rfl⟩
/-- The buffers these operations write, in order. -/
abbrev opsAm1_W : List (Ref sig .tc) := [main_call9_v0, main_call9_cst, main_call9_c, main_call9_v1_0, main_v135]
/-- These operations write those buffers and no other. -/
theorem opsAm1_writes : (opsAm1 : List (HloOp τ sig (Elt F))).Forall fun op => op.writes ⊆ (opsAm1_W.map (Proc.devRef (τ := τ) .tc)).toFinset :=
  forall_writes_sub_of_map rfl

/-- These operations touch buffers of the program only. -/
theorem opsPk1_sub : (opsPk1 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩
/-- These operations leave nothing undetermined. -/
theorem opsPk1_fresh : (opsPk1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- The buffers these operations write, in order. -/
abbrev opsPk1_W : List (Ref sig .tc) := [main_v136, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_c_4, main_call10_v14, main_v137, main_v138]
/-- These operations write those buffers and no other. -/
theorem opsPk1_writes : (opsPk1 : List (HloOp τ sig (Elt F))).Forall fun op => op.writes ⊆ (opsPk1_W.map (Proc.devRef (τ := τ) .tc)).toFinset :=
  forall_writes_sub_of_map rfl

/-- These operations touch buffers of the program only. -/
theorem opsWr1_sub : (opsWr1 : List (HloOp τ sig (Elt F))).Forall fun op => op.bufs ⊆ tcRefs τ sig :=
  ⟨binary_bufs_sub .., binary_bufs_sub ..⟩
/-- These operations leave nothing undetermined. -/
theorem opsWr1_fresh : (opsWr1 : List (HloOp τ sig (Elt F))).Forall fun op => op.fresh = ∅ :=
  ⟨rfl, rfl⟩
/-- The buffers these operations write, in order. -/
abbrev opsWr1_W : List (Ref sig .tc) := [main_v139, main_v140]
/-- These operations write those buffers and no other. -/
theorem opsWr1_writes : (opsWr1 : List (HloOp τ sig (Elt F))).Forall fun op => op.writes ⊆ (opsWr1_W.map (Proc.devRef (τ := τ) .tc)).toFinset :=
  forall_writes_sub_of_map rfl

/-- These operations touch buffers of the program only. -/
theorem opsIx4a_sub : (opsIx4a : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., unary_bufs_sub .., unary_bufs_sub .., binary_bufs_sub ..⟩
/-- These operations leave nothing undetermined. -/
theorem opsIx4a_fresh : (opsIx4a : List (HloOp τ sig (Elt F))).Forall fun op => op.fresh = ∅ :=
  ⟨rfl, rfl, rfl, rfl, rfl, rfl, rfl, rfl, rfl, rfl, rfl⟩
/-- The buffers these operations write, in order. -/
abbrev opsIx4a_W : List (Ref sig .tc) := [main_c_26, main_v141, main_v142, main_v143, main_c_27, main_v144, main_v145, main_v146, main_v147, main_v148, main_v149]
/-- These operations write those buffers and no other. -/
theorem opsIx4a_writes : (opsIx4a : List (HloOp τ sig (Elt F))).Forall fun op => op.writes ⊆ (opsIx4a_W.map (Proc.devRef (τ := τ) .tc)).toFinset :=
  forall_writes_sub_of_map rfl

/-- These operations touch buffers of the program only. -/
theorem opsIx4b_sub : (opsIx4b : List (HloOp τ sig (Elt F))).Forall fun op => op.bufs ⊆ tcRefs τ sig :=
  ⟨nullary_bufs_sub .., unary_bufs_sub .., binary_bufs_sub ..⟩
/-- These operations leave nothing undetermined. -/
theorem opsIx4b_fresh : (opsIx4b : List (HloOp τ sig (Elt F))).Forall fun op => op.fresh = ∅ :=
  ⟨rfl, rfl, rfl⟩
/-- The buffers these operations write, in order. -/
abbrev opsIx4b_W : List (Ref sig .tc) := [main_c_28, main_v150, main_v151]
/-- These operations write those buffers and no other. -/
theorem opsIx4b_writes : (opsIx4b : List (HloOp τ sig (Elt F))).Forall fun op => op.writes ⊆ (opsIx4b_W.map (Proc.devRef (τ := τ) .tc)).toFinset :=
  forall_writes_sub_of_map rfl

theorem opsIx4_sub : (opsIx4 : List (HloOp τ sig (Elt F))).Forall fun op => op.bufs ⊆ tcRefs τ sig :=
  List.forall_append.mpr ⟨opsIx4a_sub, opsIx4b_sub⟩
theorem opsIx4_fresh : (opsIx4 : List (HloOp τ sig (Elt F))).Forall fun op => op.fresh = ∅ :=
  List.forall_append.mpr ⟨opsIx4a_fresh, opsIx4b_fresh⟩
abbrev opsIx4_W : List (Ref sig .tc) := opsIx4a_W ++ opsIx4b_W
theorem opsIx4_writes : (opsIx4 : List (HloOp τ sig (Elt F))).Forall fun op => op.writes ⊆ (opsIx4_W.map (Proc.devRef (τ := τ) .tc)).toFinset :=
  forall_writes_sub_of_map rfl

/-- These operations touch buffers of the program only. -/
theorem opsTk4_sub : (opsTk4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- These operations leave nothing undetermined. -/
theorem opsTk4_fresh : (opsTk4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers these operations write, in order. -/
abbrev opsTk4_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v152]
/-- These operations write those buffers and no other. -/
theorem opsTk4_writes : (opsTk4 : List (HloOp τ sig (Elt F))).Forall fun op => op.writes ⊆ (opsTk4_W.map (Proc.devRef (τ := τ) .tc)).toFinset :=
  forall_writes_sub_of_map rfl

/-- These operations touch buffers of the program only. -/
theorem opsLos_sub : (opsLos : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., binary_bufs_sub .., ternary_bufs_sub .., nullary_bufs_sub .., unary_bufs_sub .., binary_bufs_sub .., binary_bufs_sub .., nullary_bufs_sub .., binary_bufs_sub ..⟩
/-- These operations leave nothing undetermined. -/
theorem opsLos_fresh : (opsLos : List (HloOp τ sig (Elt F))).Forall fun op => op.fresh = ∅ :=
  ⟨rfl, rfl, rfl, rfl, rfl, rfl, rfl, rfl, rfl, rfl, rfl, rfl, rfl, rfl, rfl⟩
/-- The buffers these operations write, in order. -/
abbrev opsLos_W : List (Ref sig .tc) := [main_cst_29, main_v153, main_v154, main_v155, main_cst_30, main_v156, main_v157, main_v158, main_v159, main_cst_31, main_v160, main_v161, main_v162, main_cst_32, main_v163]
/-- These operations write those buffers and no other. -/
theorem opsLos_writes : (opsLos : List (HloOp τ sig (Elt F))).Forall fun op => op.writes ⊆ (opsLos_W.map (Proc.devRef (τ := τ) .tc)).toFinset :=
  forall_writes_sub_of_map rfl

/-- These operations touch buffers of the program only. -/
theorem opsSc0_sub : (opsSc0 : List (HloOp τ sig (Elt F))).Forall fun op => op.bufs ⊆ tcRefs τ sig :=
  ⟨nullary_bufs_sub .., unary_bufs_sub .., unary_bufs_sub .., nullary_bufs_sub .., unary_bufs_sub .., ternary_bufs_sub ..⟩
/-- These operations leave nothing undetermined. -/
theorem opsSc0_fresh : (opsSc0 : List (HloOp τ sig (Elt F))).Forall fun op => op.fresh = ∅ :=
  ⟨rfl, rfl, rfl, rfl, rfl, rfl⟩
/-- The buffers these operations write, in order. -/
abbrev opsSc0_W : List (Ref sig .tc) := [main_cst_33, main_v164, main_v165, main_c_34, main_v166, main_v167]
/-- These operations write those buffers and no other. -/
theorem opsSc0_writes : (opsSc0 : List (HloOp τ sig (Elt F))).Forall fun op => op.writes ⊆ (opsSc0_W.map (Proc.devRef (τ := τ) .tc)).toFinset :=
  forall_writes_sub_of_map rfl

/-- These operations touch buffers of the program only. -/
theorem opsSc1_sub : (opsSc1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩
/-- These operations leave nothing undetermined. -/
theorem opsSc1_fresh : (opsSc1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- The buffers these operations write, in order. -/
abbrev opsSc1_W : List (Ref sig .tc) := [main_v168, main_v169, main_c_35, main_v170, main_v171, main_c_36, main_v172, main_v173, main_v174, main_c_37, main_v175, main_v176, main_c_38, main_v177, main_v178, main_v179, main_v180, main_v181, main_v182, main_v183, main_v184]
/-- These operations write those buffers and no other. -/
theorem opsSc1_writes : (opsSc1 : List (HloOp τ sig (Elt F))).Forall fun op => op.writes ⊆ (opsSc1_W.map (Proc.devRef (τ := τ) .tc)).toFinset :=
  forall_writes_sub_of_map rfl

/-- These operations touch buffers of the program only. -/
theorem opsSc2a_sub : (opsSc2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
/-- These operations leave nothing undetermined. -/
theorem opsSc2a_fresh : (opsSc2a : List (HloOp τ sig (Elt F))).Forall fun op => op.fresh = ∅ :=
  ⟨rfl, rfl, rfl, rfl, rfl, rfl, rfl, rfl, rfl, rfl, rfl, rfl, rfl, rfl⟩
/-- The buffers these operations write, in order. -/
abbrev opsSc2a_W : List (Ref sig .tc) := [main_c_39, main_v185, main_v186, main_c_40, main_v187, main_v188, main_v189, main_c_41, main_v190, main_v191, main_c_42, main_v192, main_v193, main_v194]
/-- These operations write those buffers and no other. -/
theorem opsSc2a_writes : (opsSc2a : List (HloOp τ sig (Elt F))).Forall fun op => op.writes ⊆ (opsSc2a_W.map (Proc.devRef (τ := τ) .tc)).toFinset :=
  forall_writes_sub_of_map rfl

/-- These operations touch buffers of the program only. -/
theorem opsSc2b_sub : (opsSc2b : List (HloOp τ sig (Elt F))).Forall fun op => op.bufs ⊆ tcRefs τ sig :=
  ⟨unary_bufs_sub .., unary_bufs_sub .., unary_bufs_sub .., binary_bufs_sub .., ternary_bufs_sub ..⟩
/-- These operations leave nothing undetermined. -/
theorem opsSc2b_fresh : (opsSc2b : List (HloOp τ sig (Elt F))).Forall fun op => op.fresh = ∅ :=
  ⟨rfl, rfl, rfl, rfl, rfl⟩
/-- The buffers these operations write, in order. -/
abbrev opsSc2b_W : List (Ref sig .tc) := [main_v195, main_v196, main_v197, main_v198, main_v199]
/-- These operations write those buffers and no other. -/
theorem opsSc2b_writes : (opsSc2b : List (HloOp τ sig (Elt F))).Forall fun op => op.writes ⊆ (opsSc2b_W.map (Proc.devRef (τ := τ) .tc)).toFinset :=
  forall_writes_sub_of_map rfl

theorem opsSc2_sub : (opsSc2 : List (HloOp τ sig (Elt F))).Forall fun op => op.bufs ⊆ tcRefs τ sig :=
  List.forall_append.mpr ⟨opsSc2a_sub, opsSc2b_sub⟩
theorem opsSc2_fresh : (opsSc2 : List (HloOp τ sig (Elt F))).Forall fun op => op.fresh = ∅ :=
  List.forall_append.mpr ⟨opsSc2a_fresh, opsSc2b_fresh⟩
abbrev opsSc2_W : List (Ref sig .tc) := opsSc2a_W ++ opsSc2b_W
theorem opsSc2_writes : (opsSc2 : List (HloOp τ sig (Elt F))).Forall fun op => op.writes ⊆ (opsSc2_W.map (Proc.devRef (τ := τ) .tc)).toFinset :=
  forall_writes_sub_of_map rfl

/-- The operations touch buffers of the program only. -/
theorem ops_sub : (ops : List (HloOp τ sig (Elt F))).Forall fun op => op.bufs ⊆ tcRefs τ sig :=
  List.forall_append.mpr ⟨opsLab_sub, List.forall_append.mpr ⟨opsCe0_sub, List.forall_append.mpr ⟨opsIx1_sub, List.forall_append.mpr ⟨opsTk1_sub, List.forall_append.mpr ⟨opsCe1_sub, List.forall_append.mpr ⟨opsIx2_sub, List.forall_append.mpr ⟨opsTk2_sub, List.forall_append.mpr ⟨opsCe2_sub, List.forall_append.mpr ⟨opsCe3_sub, List.forall_append.mpr ⟨opsCe4_sub, List.forall_append.mpr ⟨opsAm0_sub, List.forall_append.mpr ⟨opsIx3_sub, List.forall_append.mpr ⟨opsTk3_sub, List.forall_append.mpr ⟨opsAm1_sub, List.forall_append.mpr ⟨opsPk1_sub, List.forall_append.mpr ⟨opsWr1_sub, List.forall_append.mpr ⟨opsIx4_sub, List.forall_append.mpr ⟨opsTk4_sub, List.forall_append.mpr ⟨opsLos_sub, List.forall_append.mpr ⟨opsSc0_sub, List.forall_append.mpr ⟨opsSc1_sub, opsSc2_sub⟩⟩⟩⟩⟩⟩⟩⟩⟩⟩⟩⟩⟩⟩⟩⟩⟩⟩⟩⟩⟩
/-- No operation leaves anything undetermined. -/
theorem ops_fresh : (ops : List (HloOp τ sig (Elt F))).Forall fun op => op.fresh = ∅ :=
  List.forall_append.mpr ⟨opsLab_fresh, List.forall_append.mpr ⟨opsCe0_fresh, List.forall_append.mpr ⟨opsIx1_fresh, List.forall_append.mpr ⟨opsTk1_fresh, List.forall_append.mpr ⟨opsCe1_fresh, List.forall_append.mpr ⟨opsIx2_fresh, List.forall_append.mpr ⟨opsTk2_fresh, List.forall_append.mpr ⟨opsCe2_fresh, List.forall_append.mpr ⟨opsCe3_fresh, List.forall_append.mpr ⟨opsCe4_fresh, List.forall_append.mpr ⟨opsAm0_fresh, List.forall_append.mpr ⟨opsIx3_fresh, List.forall_append.mpr ⟨opsTk3_fresh, List.forall_append.mpr ⟨opsAm1_fresh, List.forall_append.mpr ⟨opsPk1_fresh, List.forall_append.mpr ⟨opsWr1_fresh, List.forall_append.mpr ⟨opsIx4_fresh, List.forall_append.mpr ⟨opsTk4_fresh, List.forall_append.mpr ⟨opsLos_fresh, List.forall_append.mpr ⟨opsSc0_fresh, List.forall_append.mpr ⟨opsSc1_fresh, opsSc2_fresh⟩⟩⟩⟩⟩⟩⟩⟩⟩⟩⟩⟩⟩⟩⟩⟩⟩⟩⟩⟩⟩

end Cert.ReferenceIdeal.Ref

end
-- ==== Proof.RefTerms.lean ====
/-
  What the steps of the reference compute, as functions of whole arrays. A cross entropy is the same expression at
  each of its widths 100, 10, 1000 and 10000, and so is a `take_along_axis` at each of its widths: here they are written
  once, for any width.
-/
module

public import proofs.«01_k».proof.Proof.RefOps

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- 4096 rows of `n` entries. -/
abbrev Mat (n : Nat) : Shape := ⟨2, ![4096, n]⟩
/-- 4096 rows of `n` entries, each a list of one. -/
abbrev Mat1 (n : Nat) : Shape := ⟨3, ![4096, n, 1]⟩

/-- The largest entry of each row; zero where that is not a finite number. -/
def rowTop (n : Nat) (hr : (Mat n).ReducesTo [1] S4096) (x : FVec F (Mat n) .f32) : FVec F S4096 .f32 :=
  select
    (cmpf .olt (Host.absf (Host.reduce FloatOps.maximumf x (constant S_ .f32 0xFF800000#32) hr h_S_))
      (broadcastInDim S4096 ![] bcast_S_S4096 (constant S_ .f32 0x7F800000#32)))
    (Host.reduce FloatOps.maximumf x (constant S_ .f32 0xFF800000#32) hr h_S_)
    (broadcastInDim S4096 ![] bcast_S_S4096 (constant S_ .f32 0x00000000#32))

/-- The logarithm of the sum of the exponentials of each row, computed by way of the row's largest entry. -/
def lseT (n : Nat) (hr : (Mat n).ReducesTo [1] S4096) (hb : S4096x1.BroadcastsInDim (Mat n) (![0, 1] : Fin 2 → Fin (Mat n).rank))
    (x : FVec F (Mat n) .f32) : FVec F S4096 .f32 :=
  addf (Host.log (Host.reduceAdd
      (Host.exp (subf x (broadcastInDim (Mat n) ![0, 1] hb (broadcastInDim S4096x1 ![0] bcast_S4096_S4096x1_0 (rowTop n hr x)))))
      (constant S_ .f32 0x00000000#32) hr h_S_))
    (rowTop n hr x)

/-- Columns counted from the end are turned into columns counted from the start. -/
def wrapT (k : Nat) (hb : S_.BroadcastsInDim (Mat k) (![] : Fin 0 → Fin (Mat k).rank)) (N : BitVec 32) (I : IVec (Mat k) 32) : IVec (Mat k) 32 :=
  select (cmpi .slt I (broadcastInDim (Mat k) ![] hb (constantI S_ 32 0#32)))
    (addi I (broadcastInDim (Mat k) ![] hb (constantI S_ 32 N))) I

/-- Whether each column lies between `0` and `M`. -/
def inT (k : Nat) (hb1 : S_.BroadcastsInDim (Mat1 k) (![] : Fin 0 → Fin (Mat1 k).rank))
    (hb3 : S1x1x1.BroadcastsInDim (Mat1 k) (![0, 1, 2] : Fin 3 → Fin (Mat1 k).rank))
    (hr : (Mat1 k).ReducesTo [2] (Mat k)) (M : BitVec 32) (J : IVec (Mat1 k) 32) : IVec (Mat k) 1 :=
  Host.reduce IntOp.andi
    (andi (cmpi .sge J (broadcastInDim (Mat1 k) ![] hb1 (constantI S_ 32 0#32)))
      (cmpi .sle J (broadcastInDim (Mat1 k) ![0, 1, 2] hb3 (broadcastInDim S1x1x1 ![2] bcast_S1_S1x1x1_2 (constantI S1 32 M)))))
    (constantI S_ 1 1#1) hr h_S_

/-- `take_along_axis` along the rows: of each row of `x` the entries at the columns `I`, and `fill` where a column does not exist. -/
def takeT {α : Type} (n k : Nat) (d : GatherDims (Mat n) (Mat1 k) (Mat k)) (hb : S_.BroadcastsInDim (Mat k) (![] : Fin 0 → Fin (Mat k).rank))
    (hc : (Mat k).ShapeCasts (Mat1 k)) (hb1 : S_.BroadcastsInDim (Mat1 k) (![] : Fin 0 → Fin (Mat1 k).rank))
    (hb3 : S1x1x1.BroadcastsInDim (Mat1 k) (![0, 1, 2] : Fin 3 → Fin (Mat1 k).rank))
    (hr : (Mat1 k).ReducesTo [2] (Mat k)) (N M : BitVec 32) (fill : (Mat k).Idx → α) (x : (Mat n).Idx → α) (I : IVec (Mat k) 32) : (Mat k).Idx → α :=
  select (inT k hb1 hb3 hr M (shapeCast (Mat1 k) (wrapT k hb N I) hc))
    (Host.gather d x (shapeCast (Mat1 k) (wrapT k hb N I) hc)) fill

/-- One label per sample as a column. -/
def colT (l : IVec S4096 32) : IVec S4096x1 32 := broadcastInDim S4096x1 ![0] bcast_S4096_S4096x1_0 l

/-- The not-a-number that stands in for an entry that does not exist. -/
def nanT (k : Nat) (hb : S_.BroadcastsInDim (Mat k) (![] : Fin 0 → Fin (Mat k).rank)) : FVec F (Mat k) .f32 :=
  broadcastInDim (Mat k) ![] hb (constant S_ .f32 0x7FC00000#32)

/-- The entry of each row that the label names. -/
def pickT (n : Nat) (d : GatherDims (Mat n) S4096x1x1 S4096x1) (N M : BitVec 32) (x : FVec F (Mat n) .f32) (l : IVec S4096 32) : FVec F S4096 .f32 :=
  shapeCast S4096 (takeT n 1 d bcast_S_S4096x1 shapeCasts_S4096x1_S4096x1x1 bcast_S_S4096x1x1 bcast_S1x1x1_S4096x1x1_0_1_2
    reducesTo_S4096x1x1_S4096x1_d2 N M (nanT 1 bcast_S_S4096x1) x (colT l)) shapeCasts_S4096x1_S4096

/-- The cross entropy of each row at its label. -/
def ceT (n : Nat) (hr : (Mat n).ReducesTo [1] S4096) (hb : S4096x1.BroadcastsInDim (Mat n) (![0, 1] : Fin 2 → Fin (Mat n).rank))
    (d : GatherDims (Mat n) S4096x1x1 S4096x1) (N M : BitVec 32) (x : FVec F (Mat n) .f32) (l : IVec S4096 32) : FVec F S4096 .f32 :=
  subf (lseT n hr hb x) (pickT n d N M x l)

/-- The logits of each row at ten columns. -/
def take10T (x : FVec F S4096x11100 .f32) (I : IVec S4096x10 32) : FVec F S4096x10 .f32 :=
  takeT 11100 10 gather_S4096x11100_S4096x10x1_S4096x10_n_1_0_0_1_2_11 bcast_S_S4096x10 shapeCasts_S4096x10_S4096x10x1 bcast_S_S4096x10x1
    bcast_S1x1x1_S4096x10x1_0_1_2 reducesTo_S4096x10x1_S4096x10_d2 11100#32 11099#32 (nanT 10 bcast_S_S4096x10) x I

/-- Label column `o` of the three. -/
def labT (o : Fin 3) (hs : S4096x3.Slices ![0, o.val] S4096x1) (L : IVec S4096x3 32) : IVec S4096 32 :=
  shapeCast S4096 (extractStridedSlice S4096x1 ![0, o.val] L hs) shapeCasts_S4096x1_S4096

/-- A label minus ten times the label one level up. -/
def relT (a b : IVec S4096 32) : IVec S4096 32 :=
  subi a (muli b (broadcastInDim S4096 ![] bcast_S_S4096 (constantI S_ 32 10#32)))

/-- The ten columns `B + 10 l`, …, `B + 10 l + 9`. -/
def childT (B : BitVec 32) (l : IVec S4096 32) : IVec S4096x10 32 :=
  addi (addi
      (broadcastInDim S4096x10 ![0, 1] bcast_S4096x1_S4096x10_0_1
        (muli (colT l) (broadcastInDim S4096x1 ![] bcast_S_S4096x1 (constantI S_ 32 10#32))))
      (broadcastInDim S4096x10 ![0, 1] bcast_S1x10_S4096x10_0_1 (broadcastInDim S1x10 ![1] bcast_S10_S1x10_1 (iotaInDim S10 32 0))))
    (broadcastInDim S4096x10 ![] bcast_S_S4096x10 (constantI S_ 32 B))

/-- The column of the largest entry of each row. -/
def amT (n : Nat) (hr : (Mat n).ReducesTo [1] S4096) (x : FVec F (Mat n) .f32) : IVec S4096 32 :=
  fun j => (Host.argReduce reducer_argmax_f32_i32 x (iotaInDim (Mat n) 32 1) (constant S_ .f32 0xFF800000#32) (constantI S_ 32 0#32) hr h_S_ j).2

/-- Of ten columns per row the one at the given place. -/
def pickColT (I : IVec S4096x10 32) (l : IVec S4096 32) : IVec S4096 32 :=
  shapeCast S4096 (takeT 10 1 gather_S4096x10_S4096x1x1_S4096x1_n_1_0_0_1_2_11 bcast_S_S4096x1 shapeCasts_S4096x1_S4096x1x1 bcast_S_S4096x1x1
    bcast_S1x1x1_S4096x1x1_0_1_2 reducesTo_S4096x1x1_S4096x1_d2 10#32 9#32
    (broadcastInDim S4096x1 ![] bcast_S_S4096x1 (constantI S_ 32 2147483648#32)) I (colT l)) shapeCasts_S4096x1_S4096

/-- One times `x`. -/
def onceT (x : FVec F S4096 .f32) : FVec F S4096 .f32 :=
  mulf (broadcastInDim S4096 ![] bcast_S_S4096 (constant S_ .f32 0x3F800000#32)) x

/-- The sum over all samples of the three terms, of which the second and the third are chosen by the two bits. -/
def lossT (w0 w1 : IVec S4096 1) (a b b' c c' : FVec F S4096 .f32) : FVec F S_ .f32 :=
  Host.reduceAdd (addf (addf (onceT a) (onceT (select w0 b b'))) (onceT (select w1 c c'))) (constant S_ .f32 0x00000000#32) reducesTo_S4096_S_d0 h_S_

/-- The output with only the logits of level 0 in it. -/
def fill0T (x : FVec F S4096x11100 .f32) : FVec F S4096x11100 .f32 :=
  Host.scatter scatter_S4096x11100_S1_S4096x100_01_n_1_0 (fun _ b => b)
    (broadcastInDim S4096x11100 ![] bcast_S_S4096x11100 (constant S_ .f32 0xCCBEBC20#32))
    (broadcastInDim S1 ![] bcast_S_S1 (constantI S_ 32 0#32))
    (extractStridedSlice S4096x100 ![0, 0] x slices_S4096x11100_S4096x100_0_0)

/-- The row numbers as a column. -/
def rowsT : IVec S4096x1 32 := colT (iotaInDim S4096 32 0)

/-- The pairs (row, column) of ten columns per row. -/
def pairsT (I : IVec S4096x10 32) : IVec S4096x10x2 32 :=
  pairUp (F := F)
    (broadcastInDim S4096x10x1 ![0, 1] bcast_S4096x10_S4096x10x1_0_1
      (broadcastInDim S4096x10 ![0, 1] bcast_S4096x1_S4096x10_0_1 (wrapT 1 bcast_S_S4096x1 4096#32 rowsT)))
    (broadcastInDim S4096x10x1 ![0, 1] bcast_S4096x10_S4096x10x1_0_1 (wrapT 10 bcast_S_S4096x10 11100#32 I))

/-- Ten entries per row written at ten columns per row. -/
def setT (y : FVec F S4096x11100 .f32) (I : IVec S4096x10 32) (g : FVec F S4096x10 .f32) : FVec F S4096x11100 .f32 :=
  Host.scatter scatter_S4096x11100_S4096x10x2_S4096x10_n_01_01_2 (fun _ b => b) y (pairsT (F := F) I) g

end Cert.ReferenceIdeal.Ref

end
-- ==== Proof.RefRead.lean ====
/-
  What each step of the reference leaves in its result buffer, and that no other step touches that buffer: so the
  contents of the buffers at the end of the run satisfy one equation per step.
-/
module

public import proofs.«01_k».proof.Proof.RefTerms
public import Idealize.ShloMosaic.Lib.StableHlo.RunRead

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Two lists of operations in a row write what the one or the other writes. -/
theorem writes_append {A B : List (HloOp τ sig (Elt F))} {WA WB : List (Ref sig .tc)}
    (hA : A.Forall fun op => op.writes ⊆ (WA.map (Proc.devRef (τ := τ) .tc)).toFinset)
    (hB : B.Forall fun op => op.writes ⊆ (WB.map (Proc.devRef (τ := τ) .tc)).toFinset) :
    (A ++ B).Forall fun op => op.writes ⊆ ((WA ++ WB).map (Proc.devRef (τ := τ) .tc)).toFinset := by
  rw [List.map_append, List.toFinset_append]
  exact List.forall_append.mpr ⟨hA.imp fun _ h => h.trans Finset.subset_union_left, hB.imp fun _ h => h.trans Finset.subset_union_right⟩

/-! ## Each step by itself -/

set_option maxRecDepth 16384 in
set_option maxHeartbeats 4000000 in
/-- This step leaves the level 0 labels. -/
theorem stepLab_1 (V : Valuation τ sig (Elt F)) : after opsLab V (no_index (Proc.devRef .tc main_v1)) = (labT 0 slices_S4096x3_S4096x1_0_0 (V (Proc.devRef .tc main_arg2))) := by
  after_results_simp
  rfl

set_option maxRecDepth 16384 in
set_option maxHeartbeats 4000000 in
/-- This step leaves the level 1 labels. -/
theorem stepLab_3 (V : Valuation τ sig (Elt F)) : after opsLab V (no_index (Proc.devRef .tc main_v3)) = (labT 1 slices_S4096x3_S4096x1_0_1 (V (Proc.devRef .tc main_arg2))) := by
  after_results_simp
  rfl

set_option maxRecDepth 16384 in
set_option maxHeartbeats 4000000 in
/-- This step leaves the level 2 labels. -/
theorem stepLab_5 (V : Valuation τ sig (Elt F)) : after opsLab V (no_index (Proc.devRef .tc main_v5)) = (labT 2 slices_S4096x3_S4096x1_0_2 (V (Proc.devRef .tc main_arg2))) := by
  after_results_simp
  rfl

set_option maxRecDepth 16384 in
set_option maxHeartbeats 4000000 in
/-- This step leaves the level 1 label within its parent. -/
theorem stepLab_8 (V : Valuation τ sig (Elt F)) : after opsLab V (no_index (Proc.devRef .tc main_v8)) = (relT (labT 1 slices_S4096x3_S4096x1_0_1 (V (Proc.devRef .tc main_arg2))) (labT 0 slices_S4096x3_S4096x1_0_0 (V (Proc.devRef .tc main_arg2)))) := by
  after_results_simp
  rfl

set_option maxRecDepth 16384 in
set_option maxHeartbeats 4000000 in
/-- This step leaves the level 2 label within its parent. -/
theorem stepLab_11 (V : Valuation τ sig (Elt F)) : after opsLab V (no_index (Proc.devRef .tc main_v11)) = (relT (labT 2 slices_S4096x3_S4096x1_0_2 (V (Proc.devRef .tc main_arg2))) (labT 1 slices_S4096x3_S4096x1_0_1 (V (Proc.devRef .tc main_arg2)))) := by
  after_results_simp
  rfl

set_option maxRecDepth 16384 in
set_option maxHeartbeats 4000000 in
/-- This step leaves a counter. -/
theorem stepLab_12 (V : Valuation τ sig (Elt F)) : after opsLab V (no_index (Proc.devRef .tc main_v12)) = (iotaInDim S10 32 0) := by
  after_results_simp

set_option maxRecDepth 16384 in
set_option maxHeartbeats 4000000 in
/-- This step leaves a counter. -/
theorem stepLab_13 (V : Valuation τ sig (Elt F)) : after opsLab V (no_index (Proc.devRef .tc main_v13)) = (iotaInDim S10 32 0) := by
  after_results_simp

set_option maxRecDepth 16384 in
set_option maxHeartbeats 4000000 in
/-- This step leaves the cross entropy of level 0. -/
theorem stepCe0_31 (V : Valuation τ sig (Elt F)) : after opsCe0 V (no_index (Proc.devRef .tc main_v31)) = (ceT 100 reducesTo_S4096x100_S4096_d1 bcast_S4096x1_S4096x100_0_1 gather_S4096x100_S4096x1x1_S4096x1_n_1_0_0_1_2_11 100#32 99#32 (extractStridedSlice S4096x100 ![0, 0] (V (Proc.devRef .tc main_arg0)) slices_S4096x11100_S4096x100_0_0) (V (Proc.devRef .tc main_v1))) := by
  after_results_simp
  rfl

set_option maxRecDepth 16384 in
set_option maxHeartbeats 4000000 in
/-- This step leaves the ten columns of the children. -/
theorem stepIx1_40 (V : Valuation τ sig (Elt F)) (hi : (V (Proc.devRef .tc main_v12)) = (iotaInDim S10 32 0 : IVec S10 32)) : after opsIx1 V (no_index (Proc.devRef .tc main_v40)) = (childT 100#32 (V (Proc.devRef .tc main_v1))) := by
  after_results_simp
  unfold childT; rw [← hi]; rfl

set_option maxRecDepth 16384 in
set_option maxHeartbeats 4000000 in
/-- This step leaves the logits at those columns. -/
theorem stepTk1_41 (V : Valuation τ sig (Elt F)) : after opsTk1 V (no_index (Proc.devRef .tc main_v41)) = (take10T (V (Proc.devRef .tc main_arg0)) (V (Proc.devRef .tc main_v40))) := by
  after_results_simp
  simp only [TRef.ofBuf_toBuf]
  simp only [TRef.ofBuf, TRef.toBuf, cast_eq]
  rfl

set_option maxRecDepth 16384 in
set_option maxHeartbeats 4000000 in
/-- This step leaves the cross entropy of level 1 within the parent. -/
theorem stepCe1_58 (V : Valuation τ sig (Elt F)) : after opsCe1 V (no_index (Proc.devRef .tc main_v58)) = (ceT 10 reducesTo_S4096x10_S4096_d1 bcast_S4096x1_S4096x10_0_1 gather_S4096x10_S4096x1x1_S4096x1_n_1_0_0_1_2_11 10#32 9#32 (V (Proc.devRef .tc main_v41)) (V (Proc.devRef .tc main_v8))) := by
  simp only [opsCe1, opsCe1a, opsCe1b, List.cons_append, List.nil_append]
  after_results_simp
  rfl

set_option maxRecDepth 16384 in
set_option maxHeartbeats 4000000 in
/-- This step leaves the ten columns of the children. -/
theorem stepIx2_67 (V : Valuation τ sig (Elt F)) (hi : (V (Proc.devRef .tc main_v13)) = (iotaInDim S10 32 0 : IVec S10 32)) : after opsIx2 V (no_index (Proc.devRef .tc main_v67)) = (childT 1100#32 (V (Proc.devRef .tc main_v3))) := by
  after_results_simp
  unfold childT; rw [← hi]; rfl

set_option maxRecDepth 16384 in
set_option maxHeartbeats 4000000 in
/-- This step leaves the logits at those columns. -/
theorem stepTk2_68 (V : Valuation τ sig (Elt F)) : after opsTk2 V (no_index (Proc.devRef .tc main_v68)) = (take10T (V (Proc.devRef .tc main_arg0)) (V (Proc.devRef .tc main_v67))) := by
  after_results_simp
  simp only [TRef.ofBuf_toBuf]
  simp only [TRef.ofBuf, TRef.toBuf, cast_eq]
  rfl

set_option maxRecDepth 16384 in
set_option maxHeartbeats 4000000 in
/-- This step leaves the cross entropy of level 2 within the parent. -/
theorem stepCe2_85 (V : Valuation τ sig (Elt F)) : after opsCe2 V (no_index (Proc.devRef .tc main_v85)) = (ceT 10 reducesTo_S4096x10_S4096_d1 bcast_S4096x1_S4096x10_0_1 gather_S4096x10_S4096x1x1_S4096x1_n_1_0_0_1_2_11 10#32 9#32 (V (Proc.devRef .tc main_v68)) (V (Proc.devRef .tc main_v11))) := by
  after_results_simp
  rfl

set_option maxRecDepth 16384 in
set_option maxHeartbeats 4000000 in
/-- This step leaves the cross entropy of level 1 over the whole level. -/
theorem stepCe3_103 (V : Valuation τ sig (Elt F)) : after opsCe3 V (no_index (Proc.devRef .tc main_v103)) = (ceT 1000 reducesTo_S4096x1000_S4096_d1 bcast_S4096x1_S4096x1000_0_1 gather_S4096x1000_S4096x1x1_S4096x1_n_1_0_0_1_2_11 1000#32 999#32 (extractStridedSlice S4096x1000 ![0, 100] (V (Proc.devRef .tc main_arg0)) slices_S4096x11100_S4096x1000_0_100) (V (Proc.devRef .tc main_v3))) := by
  simp only [opsCe3, opsCe3a, opsCe3b, List.cons_append, List.nil_append]
  after_results_simp
  rfl

set_option maxRecDepth 16384 in
set_option maxHeartbeats 4000000 in
/-- This step leaves the cross entropy of level 2 over the whole level. -/
theorem stepCe4_121 (V : Valuation τ sig (Elt F)) : after opsCe4 V (no_index (Proc.devRef .tc main_v121)) = (ceT 10000 reducesTo_S4096x10000_S4096_d1 bcast_S4096x1_S4096x10000_0_1 gather_S4096x10000_S4096x1x1_S4096x1_n_1_0_0_1_2_11 10000#32 9999#32 (extractStridedSlice S4096x10000 ![0, 1100] (V (Proc.devRef .tc main_arg0)) slices_S4096x11100_S4096x10000_0_1100) (V (Proc.devRef .tc main_v5))) := by
  after_results_simp
  rfl

set_option maxRecDepth 16384 in
set_option maxHeartbeats 4000000 in
/-- This step leaves the prediction of level 0. -/
theorem stepAm0_123 (V : Valuation τ sig (Elt F)) : after opsAm0 V (no_index (Proc.devRef .tc main_v123)) = (amT 100 reducesTo_S4096x100_S4096_d1 (extractStridedSlice S4096x100 ![0, 0] (V (Proc.devRef .tc main_arg0)) slices_S4096x11100_S4096x100_0_0)) := by
  after_results_simp
  rfl

set_option maxRecDepth 16384 in
set_option maxHeartbeats 4000000 in
/-- This step leaves whether it is wrong. -/
theorem stepAm0_124 (V : Valuation τ sig (Elt F)) : after opsAm0 V (no_index (Proc.devRef .tc main_v124)) = (cmpi .ne (amT 100 reducesTo_S4096x100_S4096_d1 (extractStridedSlice S4096x100 ![0, 0] (V (Proc.devRef .tc main_arg0)) slices_S4096x11100_S4096x100_0_0)) (V (Proc.devRef .tc main_v1))) := by
  after_results_simp
  rfl

set_option maxRecDepth 16384 in
set_option maxHeartbeats 4000000 in
/-- This step leaves the ten columns of the children. -/
theorem stepIx3_133 (V : Valuation τ sig (Elt F)) (hi : (V (Proc.devRef .tc main_v12)) = (iotaInDim S10 32 0 : IVec S10 32)) : after opsIx3 V (no_index (Proc.devRef .tc main_v133)) = (childT 100#32 (V (Proc.devRef .tc main_v123))) := by
  after_results_simp
  unfold childT; rw [← hi]; rfl

set_option maxRecDepth 16384 in
set_option maxHeartbeats 4000000 in
/-- This step leaves the logits at those columns. -/
theorem stepTk3_134 (V : Valuation τ sig (Elt F)) : after opsTk3 V (no_index (Proc.devRef .tc main_v134)) = (take10T (V (Proc.devRef .tc main_arg0)) (V (Proc.devRef .tc main_v133))) := by
  after_results_simp
  simp only [TRef.ofBuf_toBuf]
  simp only [TRef.ofBuf, TRef.toBuf, cast_eq]
  rfl

set_option maxRecDepth 16384 in
set_option maxHeartbeats 4000000 in
/-- This step leaves the prediction of level 1 within its parent. -/
theorem stepAm1_135 (V : Valuation τ sig (Elt F)) : after opsAm1 V (no_index (Proc.devRef .tc main_v135)) = (amT 10 reducesTo_S4096x10_S4096_d1 (V (Proc.devRef .tc main_v134))) := by
  after_results_simp
  rfl

set_option maxRecDepth 16384 in
set_option maxHeartbeats 4000000 in
/-- This step leaves its column. -/
theorem stepPk1_138 (V : Valuation τ sig (Elt F)) : after opsPk1 V (no_index (Proc.devRef .tc main_v138)) = (pickColT (V (Proc.devRef .tc main_v133)) (V (Proc.devRef .tc main_v135))) := by
  after_results_simp
  rfl

set_option maxRecDepth 16384 in
set_option maxHeartbeats 4000000 in
/-- This step leaves whether a prediction is wrong. -/
theorem stepWr1_140 (V : Valuation τ sig (Elt F)) : after opsWr1 V (no_index (Proc.devRef .tc main_v140)) = (ori (V (Proc.devRef .tc main_v124)) (cmpi .ne (V (Proc.devRef .tc main_v135)) (V (Proc.devRef .tc main_v8)))) := by
  after_results_simp

set_option maxRecDepth 16384 in
set_option maxHeartbeats 4000000 in
/-- This step leaves the ten columns of the children. -/
theorem stepIx4_151 (V : Valuation τ sig (Elt F)) (hi : (V (Proc.devRef .tc main_v13)) = (iotaInDim S10 32 0 : IVec S10 32)) : after opsIx4 V (no_index (Proc.devRef .tc main_v151)) = (childT 1100#32 (subi (V (Proc.devRef .tc main_v138)) (broadcastInDim S4096 ![] bcast_S_S4096 (constantI S_ 32 100#32)))) := by
  simp only [opsIx4, opsIx4a, opsIx4b, List.cons_append, List.nil_append]
  after_results_simp
  unfold childT; rw [← hi]; rfl

set_option maxRecDepth 16384 in
set_option maxHeartbeats 4000000 in
/-- This step leaves the logits at those columns. -/
theorem stepTk4_152 (V : Valuation τ sig (Elt F)) : after opsTk4 V (no_index (Proc.devRef .tc main_v152)) = (take10T (V (Proc.devRef .tc main_arg0)) (V (Proc.devRef .tc main_v151))) := by
  after_results_simp
  simp only [TRef.ofBuf_toBuf]
  simp only [TRef.ofBuf, TRef.toBuf, cast_eq]
  rfl

set_option maxRecDepth 16384 in
set_option maxHeartbeats 4000000 in
/-- This step leaves the loss. -/
theorem stepLos_163 (V : Valuation τ sig (Elt F)) : after opsLos V (no_index (Proc.devRef .tc main_v163)) = (lossT (V (Proc.devRef .tc main_v124)) (V (Proc.devRef .tc main_v140)) (V (Proc.devRef .tc main_v31)) (V (Proc.devRef .tc main_v103)) (V (Proc.devRef .tc main_v58)) (V (Proc.devRef .tc main_v121)) (V (Proc.devRef .tc main_v85))) := by
  after_results_simp
  rfl

set_option maxRecDepth 16384 in
set_option maxHeartbeats 4000000 in
/-- This step leaves the output with level 0. -/
theorem stepSc0_167 (V : Valuation τ sig (Elt F)) : after opsSc0 V (no_index (Proc.devRef .tc main_v167)) = (fill0T (V (Proc.devRef .tc main_arg0))) := by
  after_results_simp
  rfl

set_option maxRecDepth 16384 in
set_option maxHeartbeats 4000000 in
/-- This step leaves the row numbers. -/
theorem stepSc1_169 (V : Valuation τ sig (Elt F)) : after opsSc1 V (no_index (Proc.devRef .tc main_v169)) = (rowsT) := by
  after_results_simp
  rfl

set_option maxRecDepth 16384 in
set_option maxHeartbeats 4000000 in
/-- This step leaves the output with level 1. -/
theorem stepSc1_184 (V : Valuation τ sig (Elt F)) : after opsSc1 V (no_index (Proc.devRef .tc main_v184)) = (setT (V (Proc.devRef .tc main_v167)) (V (Proc.devRef .tc main_v133)) (V (Proc.devRef .tc main_v134))) := by
  after_results_simp
  rfl

set_option maxRecDepth 16384 in
set_option maxHeartbeats 4000000 in
/-- This step leaves the output with level 2. -/
theorem stepSc2_199 (V : Valuation τ sig (Elt F)) (hi : (V (Proc.devRef .tc main_v169)) = rowsT) : after opsSc2 V (no_index (Proc.devRef .tc main_v199)) = (setT (V (Proc.devRef .tc main_v184)) (V (Proc.devRef .tc main_v151)) (V (Proc.devRef .tc main_v152))) := by
  simp only [opsSc2, opsSc2a, opsSc2b, List.cons_append, List.nil_append]
  after_results_simp
  unfold setT pairsT; rw [← hi]; rfl

/-! ## The steps one after the other -/

/-- The buffers at the end of the run, from the buffers at its start. -/
def fin (V : Valuation τ sig (Elt F)) : Valuation τ sig (Elt F) := after ops V

/-- The buffers before step 1. -/
def midLab (V : Valuation τ sig (Elt F)) : Valuation τ sig (Elt F) := V
/-- The buffers before step 2. -/
def midCe0 (V : Valuation τ sig (Elt F)) : Valuation τ sig (Elt F) := (after opsLab (midLab V))
/-- The buffers before step 3. -/
def midIx1 (V : Valuation τ sig (Elt F)) : Valuation τ sig (Elt F) := (after opsCe0 (midCe0 V))
/-- The buffers before step 4. -/
def midTk1 (V : Valuation τ sig (Elt F)) : Valuation τ sig (Elt F) := (after opsIx1 (midIx1 V))
/-- The buffers before step 5. -/
def midCe1 (V : Valuation τ sig (Elt F)) : Valuation τ sig (Elt F) := (after opsTk1 (midTk1 V))
/-- The buffers before step 6. -/
def midIx2 (V : Valuation τ sig (Elt F)) : Valuation τ sig (Elt F) := (after opsCe1 (midCe1 V))
/-- The buffers before step 7. -/
def midTk2 (V : Valuation τ sig (Elt F)) : Valuation τ sig (Elt F) := (after opsIx2 (midIx2 V))
/-- The buffers before step 8. -/
def midCe2 (V : Valuation τ sig (Elt F)) : Valuation τ sig (Elt F) := (after opsTk2 (midTk2 V))
/-- The buffers before step 9. -/
def midCe3 (V : Valuation τ sig (Elt F)) : Valuation τ sig (Elt F) := (after opsCe2 (midCe2 V))
/-- The buffers before step 10. -/
def midCe4 (V : Valuation τ sig (Elt F)) : Valuation τ sig (Elt F) := (after opsCe3 (midCe3 V))
/-- The buffers before step 11. -/
def midAm0 (V : Valuation τ sig (Elt F)) : Valuation τ sig (Elt F) := (after opsCe4 (midCe4 V))
/-- The buffers before step 12. -/
def midIx3 (V : Valuation τ sig (Elt F)) : Valuation τ sig (Elt F) := (after opsAm0 (midAm0 V))
/-- The buffers before step 13. -/
def midTk3 (V : Valuation τ sig (Elt F)) : Valuation τ sig (Elt F) := (after opsIx3 (midIx3 V))
/-- The buffers before step 14. -/
def midAm1 (V : Valuation τ sig (Elt F)) : Valuation τ sig (Elt F) := (after opsTk3 (midTk3 V))
/-- The buffers before step 15. -/
def midPk1 (V : Valuation τ sig (Elt F)) : Valuation τ sig (Elt F) := (after opsAm1 (midAm1 V))
/-- The buffers before step 16. -/
def midWr1 (V : Valuation τ sig (Elt F)) : Valuation τ sig (Elt F) := (after opsPk1 (midPk1 V))
/-- The buffers before step 17. -/
def midIx4 (V : Valuation τ sig (Elt F)) : Valuation τ sig (Elt F) := (after opsWr1 (midWr1 V))
/-- The buffers before step 18. -/
def midTk4 (V : Valuation τ sig (Elt F)) : Valuation τ sig (Elt F) := (after opsIx4 (midIx4 V))
/-- The buffers before step 19. -/
def midLos (V : Valuation τ sig (Elt F)) : Valuation τ sig (Elt F) := (after opsTk4 (midTk4 V))
/-- The buffers before step 20. -/
def midSc0 (V : Valuation τ sig (Elt F)) : Valuation τ sig (Elt F) := (after opsLos (midLos V))
/-- The buffers before step 21. -/
def midSc1 (V : Valuation τ sig (Elt F)) : Valuation τ sig (Elt F) := (after opsSc0 (midSc0 V))
/-- The buffers before step 22. -/
def midSc2 (V : Valuation τ sig (Elt F)) : Valuation τ sig (Elt F) := (after opsSc1 (midSc1 V))

abbrev fromSc2 : List (HloOp τ sig (Elt F)) := opsSc2
abbrev fromSc2_W : List (Ref sig .tc) := opsSc2_W
theorem fromSc2_writes : (fromSc2 : List (HloOp τ sig (Elt F))).Forall fun op => op.writes ⊆ (fromSc2_W.map (Proc.devRef (τ := τ) .tc)).toFinset := opsSc2_writes
/-- Step 21 and all steps after it. -/
abbrev fromSc1 : List (HloOp τ sig (Elt F)) := opsSc1 ++ fromSc2
/-- The buffers they write. -/
abbrev fromSc1_W : List (Ref sig .tc) := opsSc1_W ++ fromSc2_W
theorem fromSc1_writes : (fromSc1 : List (HloOp τ sig (Elt F))).Forall fun op => op.writes ⊆ (fromSc1_W.map (Proc.devRef (τ := τ) .tc)).toFinset :=
  writes_append opsSc1_writes fromSc2_writes
/-- Step 20 and all steps after it. -/
abbrev fromSc0 : List (HloOp τ sig (Elt F)) := opsSc0 ++ fromSc1
/-- The buffers they write. -/
abbrev fromSc0_W : List (Ref sig .tc) := opsSc0_W ++ fromSc1_W
theorem fromSc0_writes : (fromSc0 : List (HloOp τ sig (Elt F))).Forall fun op => op.writes ⊆ (fromSc0_W.map (Proc.devRef (τ := τ) .tc)).toFinset :=
  writes_append opsSc0_writes fromSc1_writes
/-- Step 19 and all steps after it. -/
abbrev fromLos : List (HloOp τ sig (Elt F)) := opsLos ++ fromSc0
/-- The buffers they write. -/
abbrev fromLos_W : List (Ref sig .tc) := opsLos_W ++ fromSc0_W
theorem fromLos_writes : (fromLos : List (HloOp τ sig (Elt F))).Forall fun op => op.writes ⊆ (fromLos_W.map (Proc.devRef (τ := τ) .tc)).toFinset :=
  writes_append opsLos_writes fromSc0_writes
/-- Step 18 and all steps after it. -/
abbrev fromTk4 : List (HloOp τ sig (Elt F)) := opsTk4 ++ fromLos
/-- The buffers they write. -/
abbrev fromTk4_W : List (Ref sig .tc) := opsTk4_W ++ fromLos_W
theorem fromTk4_writes : (fromTk4 : List (HloOp τ sig (Elt F))).Forall fun op => op.writes ⊆ (fromTk4_W.map (Proc.devRef (τ := τ) .tc)).toFinset :=
  writes_append opsTk4_writes fromLos_writes
/-- Step 17 and all steps after it. -/
abbrev fromIx4 : List (HloOp τ sig (Elt F)) := opsIx4 ++ fromTk4
/-- The buffers they write. -/
abbrev fromIx4_W : List (Ref sig .tc) := opsIx4_W ++ fromTk4_W
theorem fromIx4_writes : (fromIx4 : List (HloOp τ sig (Elt F))).Forall fun op => op.writes ⊆ (fromIx4_W.map (Proc.devRef (τ := τ) .tc)).toFinset :=
  writes_append opsIx4_writes fromTk4_writes
/-- Step 16 and all steps after it. -/
abbrev fromWr1 : List (HloOp τ sig (Elt F)) := opsWr1 ++ fromIx4
/-- The buffers they write. -/
abbrev fromWr1_W : List (Ref sig .tc) := opsWr1_W ++ fromIx4_W
theorem fromWr1_writes : (fromWr1 : List (HloOp τ sig (Elt F))).Forall fun op => op.writes ⊆ (fromWr1_W.map (Proc.devRef (τ := τ) .tc)).toFinset :=
  writes_append opsWr1_writes fromIx4_writes
/-- Step 15 and all steps after it. -/
abbrev fromPk1 : List (HloOp τ sig (Elt F)) := opsPk1 ++ fromWr1
/-- The buffers they write. -/
abbrev fromPk1_W : List (Ref sig .tc) := opsPk1_W ++ fromWr1_W
theorem fromPk1_writes : (fromPk1 : List (HloOp τ sig (Elt F))).Forall fun op => op.writes ⊆ (fromPk1_W.map (Proc.devRef (τ := τ) .tc)).toFinset :=
  writes_append opsPk1_writes fromWr1_writes
/-- Step 14 and all steps after it. -/
abbrev fromAm1 : List (HloOp τ sig (Elt F)) := opsAm1 ++ fromPk1
/-- The buffers they write. -/
abbrev fromAm1_W : List (Ref sig .tc) := opsAm1_W ++ fromPk1_W
theorem fromAm1_writes : (fromAm1 : List (HloOp τ sig (Elt F))).Forall fun op => op.writes ⊆ (fromAm1_W.map (Proc.devRef (τ := τ) .tc)).toFinset :=
  writes_append opsAm1_writes fromPk1_writes
/-- Step 13 and all steps after it. -/
abbrev fromTk3 : List (HloOp τ sig (Elt F)) := opsTk3 ++ fromAm1
/-- The buffers they write. -/
abbrev fromTk3_W : List (Ref sig .tc) := opsTk3_W ++ fromAm1_W
theorem fromTk3_writes : (fromTk3 : List (HloOp τ sig (Elt F))).Forall fun op => op.writes ⊆ (fromTk3_W.map (Proc.devRef (τ := τ) .tc)).toFinset :=
  writes_append opsTk3_writes fromAm1_writes
/-- Step 12 and all steps after it. -/
abbrev fromIx3 : List (HloOp τ sig (Elt F)) := opsIx3 ++ fromTk3
/-- The buffers they write. -/
abbrev fromIx3_W : List (Ref sig .tc) := opsIx3_W ++ fromTk3_W
theorem fromIx3_writes : (fromIx3 : List (HloOp τ sig (Elt F))).Forall fun op => op.writes ⊆ (fromIx3_W.map (Proc.devRef (τ := τ) .tc)).toFinset :=
  writes_append opsIx3_writes fromTk3_writes
/-- Step 11 and all steps after it. -/
abbrev fromAm0 : List (HloOp τ sig (Elt F)) := opsAm0 ++ fromIx3
/-- The buffers they write. -/
abbrev fromAm0_W : List (Ref sig .tc) := opsAm0_W ++ fromIx3_W
theorem fromAm0_writes : (fromAm0 : List (HloOp τ sig (Elt F))).Forall fun op => op.writes ⊆ (fromAm0_W.map (Proc.devRef (τ := τ) .tc)).toFinset :=
  writes_append opsAm0_writes fromIx3_writes
/-- Step 10 and all steps after it. -/
abbrev fromCe4 : List (HloOp τ sig (Elt F)) := opsCe4 ++ fromAm0
/-- The buffers they write. -/
abbrev fromCe4_W : List (Ref sig .tc) := opsCe4_W ++ fromAm0_W
theorem fromCe4_writes : (fromCe4 : List (HloOp τ sig (Elt F))).Forall fun op => op.writes ⊆ (fromCe4_W.map (Proc.devRef (τ := τ) .tc)).toFinset :=
  writes_append opsCe4_writes fromAm0_writes
/-- Step 9 and all steps after it. -/
abbrev fromCe3 : List (HloOp τ sig (Elt F)) := opsCe3 ++ fromCe4
/-- The buffers they write. -/
abbrev fromCe3_W : List (Ref sig .tc) := opsCe3_W ++ fromCe4_W
theorem fromCe3_writes : (fromCe3 : List (HloOp τ sig (Elt F))).Forall fun op => op.writes ⊆ (fromCe3_W.map (Proc.devRef (τ := τ) .tc)).toFinset :=
  writes_append opsCe3_writes fromCe4_writes
/-- Step 8 and all steps after it. -/
abbrev fromCe2 : List (HloOp τ sig (Elt F)) := opsCe2 ++ fromCe3
/-- The buffers they write. -/
abbrev fromCe2_W : List (Ref sig .tc) := opsCe2_W ++ fromCe3_W
theorem fromCe2_writes : (fromCe2 : List (HloOp τ sig (Elt F))).Forall fun op => op.writes ⊆ (fromCe2_W.map (Proc.devRef (τ := τ) .tc)).toFinset :=
  writes_append opsCe2_writes fromCe3_writes
/-- Step 7 and all steps after it. -/
abbrev fromTk2 : List (HloOp τ sig (Elt F)) := opsTk2 ++ fromCe2
/-- The buffers they write. -/
abbrev fromTk2_W : List (Ref sig .tc) := opsTk2_W ++ fromCe2_W
theorem fromTk2_writes : (fromTk2 : List (HloOp τ sig (Elt F))).Forall fun op => op.writes ⊆ (fromTk2_W.map (Proc.devRef (τ := τ) .tc)).toFinset :=
  writes_append opsTk2_writes fromCe2_writes
/-- Step 6 and all steps after it. -/
abbrev fromIx2 : List (HloOp τ sig (Elt F)) := opsIx2 ++ fromTk2
/-- The buffers they write. -/
abbrev fromIx2_W : List (Ref sig .tc) := opsIx2_W ++ fromTk2_W
theorem fromIx2_writes : (fromIx2 : List (HloOp τ sig (Elt F))).Forall fun op => op.writes ⊆ (fromIx2_W.map (Proc.devRef (τ := τ) .tc)).toFinset :=
  writes_append opsIx2_writes fromTk2_writes
/-- Step 5 and all steps after it. -/
abbrev fromCe1 : List (HloOp τ sig (Elt F)) := opsCe1 ++ fromIx2
/-- The buffers they write. -/
abbrev fromCe1_W : List (Ref sig .tc) := opsCe1_W ++ fromIx2_W
theorem fromCe1_writes : (fromCe1 : List (HloOp τ sig (Elt F))).Forall fun op => op.writes ⊆ (fromCe1_W.map (Proc.devRef (τ := τ) .tc)).toFinset :=
  writes_append opsCe1_writes fromIx2_writes
/-- Step 4 and all steps after it. -/
abbrev fromTk1 : List (HloOp τ sig (Elt F)) := opsTk1 ++ fromCe1
/-- The buffers they write. -/
abbrev fromTk1_W : List (Ref sig .tc) := opsTk1_W ++ fromCe1_W
theorem fromTk1_writes : (fromTk1 : List (HloOp τ sig (Elt F))).Forall fun op => op.writes ⊆ (fromTk1_W.map (Proc.devRef (τ := τ) .tc)).toFinset :=
  writes_append opsTk1_writes fromCe1_writes
/-- Step 3 and all steps after it. -/
abbrev fromIx1 : List (HloOp τ sig (Elt F)) := opsIx1 ++ fromTk1
/-- The buffers they write. -/
abbrev fromIx1_W : List (Ref sig .tc) := opsIx1_W ++ fromTk1_W
theorem fromIx1_writes : (fromIx1 : List (HloOp τ sig (Elt F))).Forall fun op => op.writes ⊆ (fromIx1_W.map (Proc.devRef (τ := τ) .tc)).toFinset :=
  writes_append opsIx1_writes fromTk1_writes
/-- Step 2 and all steps after it. -/
abbrev fromCe0 : List (HloOp τ sig (Elt F)) := opsCe0 ++ fromIx1
/-- The buffers they write. -/
abbrev fromCe0_W : List (Ref sig .tc) := opsCe0_W ++ fromIx1_W
theorem fromCe0_writes : (fromCe0 : List (HloOp τ sig (Elt F))).Forall fun op => op.writes ⊆ (fromCe0_W.map (Proc.devRef (τ := τ) .tc)).toFinset :=
  writes_append opsCe0_writes fromIx1_writes
/-- Step 1 and all steps after it. -/
abbrev fromLab : List (HloOp τ sig (Elt F)) := opsLab ++ fromCe0
/-- The buffers they write. -/
abbrev fromLab_W : List (Ref sig .tc) := opsLab_W ++ fromCe0_W
theorem fromLab_writes : (fromLab : List (HloOp τ sig (Elt F))).Forall fun op => op.writes ⊆ (fromLab_W.map (Proc.devRef (τ := τ) .tc)).toFinset :=
  writes_append opsLab_writes fromCe0_writes
/-- The run is these steps from here on. -/
theorem finLab (V : Valuation τ sig (Elt F)) : fin V = after fromLab (midLab V) := rfl
/-- A buffer that no step from here on writes. -/
theorem keepLab (V : Valuation τ sig (Elt F)) (r : Ref sig .tc) (h : r ∉ fromLab_W) : midLab V (Proc.devRef .tc r) = fin V (Proc.devRef .tc r) := by
  rw [finLab]; exact (after_of_writes_sub _ _ fromLab_writes h).symm

/-- The run is these steps from here on. -/
theorem finCe0 (V : Valuation τ sig (Elt F)) : fin V = after fromCe0 (midCe0 V) :=
  (finLab V).trans (after_append opsLab fromCe0 (midLab V))
/-- A buffer that no step from here on writes. -/
theorem keepCe0 (V : Valuation τ sig (Elt F)) (r : Ref sig .tc) (h : r ∉ fromCe0_W) : midCe0 V (Proc.devRef .tc r) = fin V (Proc.devRef .tc r) := by
  rw [finCe0]; exact (after_of_writes_sub _ _ fromCe0_writes h).symm

/-- The run is these steps from here on. -/
theorem finIx1 (V : Valuation τ sig (Elt F)) : fin V = after fromIx1 (midIx1 V) :=
  (finCe0 V).trans (after_append opsCe0 fromIx1 (midCe0 V))
/-- A buffer that no step from here on writes. -/
theorem keepIx1 (V : Valuation τ sig (Elt F)) (r : Ref sig .tc) (h : r ∉ fromIx1_W) : midIx1 V (Proc.devRef .tc r) = fin V (Proc.devRef .tc r) := by
  rw [finIx1]; exact (after_of_writes_sub _ _ fromIx1_writes h).symm

/-- The run is these steps from here on. -/
theorem finTk1 (V : Valuation τ sig (Elt F)) : fin V = after fromTk1 (midTk1 V) :=
  (finIx1 V).trans (after_append opsIx1 fromTk1 (midIx1 V))
/-- A buffer that no step from here on writes. -/
theorem keepTk1 (V : Valuation τ sig (Elt F)) (r : Ref sig .tc) (h : r ∉ fromTk1_W) : midTk1 V (Proc.devRef .tc r) = fin V (Proc.devRef .tc r) := by
  rw [finTk1]; exact (after_of_writes_sub _ _ fromTk1_writes h).symm

/-- The run is these steps from here on. -/
theorem finCe1 (V : Valuation τ sig (Elt F)) : fin V = after fromCe1 (midCe1 V) :=
  (finTk1 V).trans (after_append opsTk1 fromCe1 (midTk1 V))
/-- A buffer that no step from here on writes. -/
theorem keepCe1 (V : Valuation τ sig (Elt F)) (r : Ref sig .tc) (h : r ∉ fromCe1_W) : midCe1 V (Proc.devRef .tc r) = fin V (Proc.devRef .tc r) := by
  rw [finCe1]; exact (after_of_writes_sub _ _ fromCe1_writes h).symm

/-- The run is these steps from here on. -/
theorem finIx2 (V : Valuation τ sig (Elt F)) : fin V = after fromIx2 (midIx2 V) :=
  (finCe1 V).trans (after_append opsCe1 fromIx2 (midCe1 V))
/-- A buffer that no step from here on writes. -/
theorem keepIx2 (V : Valuation τ sig (Elt F)) (r : Ref sig .tc) (h : r ∉ fromIx2_W) : midIx2 V (Proc.devRef .tc r) = fin V (Proc.devRef .tc r) := by
  rw [finIx2]; exact (after_of_writes_sub _ _ fromIx2_writes h).symm

/-- The run is these steps from here on. -/
theorem finTk2 (V : Valuation τ sig (Elt F)) : fin V = after fromTk2 (midTk2 V) :=
  (finIx2 V).trans (after_append opsIx2 fromTk2 (midIx2 V))
/-- A buffer that no step from here on writes. -/
theorem keepTk2 (V : Valuation τ sig (Elt F)) (r : Ref sig .tc) (h : r ∉ fromTk2_W) : midTk2 V (Proc.devRef .tc r) = fin V (Proc.devRef .tc r) := by
  rw [finTk2]; exact (after_of_writes_sub _ _ fromTk2_writes h).symm

/-- The run is these steps from here on. -/
theorem finCe2 (V : Valuation τ sig (Elt F)) : fin V = after fromCe2 (midCe2 V) :=
  (finTk2 V).trans (after_append opsTk2 fromCe2 (midTk2 V))
/-- A buffer that no step from here on writes. -/
theorem keepCe2 (V : Valuation τ sig (Elt F)) (r : Ref sig .tc) (h : r ∉ fromCe2_W) : midCe2 V (Proc.devRef .tc r) = fin V (Proc.devRef .tc r) := by
  rw [finCe2]; exact (after_of_writes_sub _ _ fromCe2_writes h).symm

/-- The run is these steps from here on. -/
theorem finCe3 (V : Valuation τ sig (Elt F)) : fin V = after fromCe3 (midCe3 V) :=
  (finCe2 V).trans (after_append opsCe2 fromCe3 (midCe2 V))
/-- A buffer that no step from here on writes. -/
theorem keepCe3 (V : Valuation τ sig (Elt F)) (r : Ref sig .tc) (h : r ∉ fromCe3_W) : midCe3 V (Proc.devRef .tc r) = fin V (Proc.devRef .tc r) := by
  rw [finCe3]; exact (after_of_writes_sub _ _ fromCe3_writes h).symm

/-- The run is these steps from here on. -/
theorem finCe4 (V : Valuation τ sig (Elt F)) : fin V = after fromCe4 (midCe4 V) :=
  (finCe3 V).trans (after_append opsCe3 fromCe4 (midCe3 V))
/-- A buffer that no step from here on writes. -/
theorem keepCe4 (V : Valuation τ sig (Elt F)) (r : Ref sig .tc) (h : r ∉ fromCe4_W) : midCe4 V (Proc.devRef .tc r) = fin V (Proc.devRef .tc r) := by
  rw [finCe4]; exact (after_of_writes_sub _ _ fromCe4_writes h).symm

/-- The run is these steps from here on. -/
theorem finAm0 (V : Valuation τ sig (Elt F)) : fin V = after fromAm0 (midAm0 V) :=
  (finCe4 V).trans (after_append opsCe4 fromAm0 (midCe4 V))
/-- A buffer that no step from here on writes. -/
theorem keepAm0 (V : Valuation τ sig (Elt F)) (r : Ref sig .tc) (h : r ∉ fromAm0_W) : midAm0 V (Proc.devRef .tc r) = fin V (Proc.devRef .tc r) := by
  rw [finAm0]; exact (after_of_writes_sub _ _ fromAm0_writes h).symm

/-- The run is these steps from here on. -/
theorem finIx3 (V : Valuation τ sig (Elt F)) : fin V = after fromIx3 (midIx3 V) :=
  (finAm0 V).trans (after_append opsAm0 fromIx3 (midAm0 V))
/-- A buffer that no step from here on writes. -/
theorem keepIx3 (V : Valuation τ sig (Elt F)) (r : Ref sig .tc) (h : r ∉ fromIx3_W) : midIx3 V (Proc.devRef .tc r) = fin V (Proc.devRef .tc r) := by
  rw [finIx3]; exact (after_of_writes_sub _ _ fromIx3_writes h).symm

/-- The run is these steps from here on. -/
theorem finTk3 (V : Valuation τ sig (Elt F)) : fin V = after fromTk3 (midTk3 V) :=
  (finIx3 V).trans (after_append opsIx3 fromTk3 (midIx3 V))
/-- A buffer that no step from here on writes. -/
theorem keepTk3 (V : Valuation τ sig (Elt F)) (r : Ref sig .tc) (h : r ∉ fromTk3_W) : midTk3 V (Proc.devRef .tc r) = fin V (Proc.devRef .tc r) := by
  rw [finTk3]; exact (after_of_writes_sub _ _ fromTk3_writes h).symm

/-- The run is these steps from here on. -/
theorem finAm1 (V : Valuation τ sig (Elt F)) : fin V = after fromAm1 (midAm1 V) :=
  (finTk3 V).trans (after_append opsTk3 fromAm1 (midTk3 V))
/-- A buffer that no step from here on writes. -/
theorem keepAm1 (V : Valuation τ sig (Elt F)) (r : Ref sig .tc) (h : r ∉ fromAm1_W) : midAm1 V (Proc.devRef .tc r) = fin V (Proc.devRef .tc r) := by
  rw [finAm1]; exact (after_of_writes_sub _ _ fromAm1_writes h).symm

/-- The run is these steps from here on. -/
theorem finPk1 (V : Valuation τ sig (Elt F)) : fin V = after fromPk1 (midPk1 V) :=
  (finAm1 V).trans (after_append opsAm1 fromPk1 (midAm1 V))
/-- A buffer that no step from here on writes. -/
theorem keepPk1 (V : Valuation τ sig (Elt F)) (r : Ref sig .tc) (h : r ∉ fromPk1_W) : midPk1 V (Proc.devRef .tc r) = fin V (Proc.devRef .tc r) := by
  rw [finPk1]; exact (after_of_writes_sub _ _ fromPk1_writes h).symm

/-- The run is these steps from here on. -/
theorem finWr1 (V : Valuation τ sig (Elt F)) : fin V = after fromWr1 (midWr1 V) :=
  (finPk1 V).trans (after_append opsPk1 fromWr1 (midPk1 V))
/-- A buffer that no step from here on writes. -/
theorem keepWr1 (V : Valuation τ sig (Elt F)) (r : Ref sig .tc) (h : r ∉ fromWr1_W) : midWr1 V (Proc.devRef .tc r) = fin V (Proc.devRef .tc r) := by
  rw [finWr1]; exact (after_of_writes_sub _ _ fromWr1_writes h).symm

/-- The run is these steps from here on. -/
theorem finIx4 (V : Valuation τ sig (Elt F)) : fin V = after fromIx4 (midIx4 V) :=
  (finWr1 V).trans (after_append opsWr1 fromIx4 (midWr1 V))
/-- A buffer that no step from here on writes. -/
theorem keepIx4 (V : Valuation τ sig (Elt F)) (r : Ref sig .tc) (h : r ∉ fromIx4_W) : midIx4 V (Proc.devRef .tc r) = fin V (Proc.devRef .tc r) := by
  rw [finIx4]; exact (after_of_writes_sub _ _ fromIx4_writes h).symm

/-- The run is these steps from here on. -/
theorem finTk4 (V : Valuation τ sig (Elt F)) : fin V = after fromTk4 (midTk4 V) :=
  (finIx4 V).trans (after_append opsIx4 fromTk4 (midIx4 V))
/-- A buffer that no step from here on writes. -/
theorem keepTk4 (V : Valuation τ sig (Elt F)) (r : Ref sig .tc) (h : r ∉ fromTk4_W) : midTk4 V (Proc.devRef .tc r) = fin V (Proc.devRef .tc r) := by
  rw [finTk4]; exact (after_of_writes_sub _ _ fromTk4_writes h).symm

/-- The run is these steps from here on. -/
theorem finLos (V : Valuation τ sig (Elt F)) : fin V = after fromLos (midLos V) :=
  (finTk4 V).trans (after_append opsTk4 fromLos (midTk4 V))
/-- A buffer that no step from here on writes. -/
theorem keepLos (V : Valuation τ sig (Elt F)) (r : Ref sig .tc) (h : r ∉ fromLos_W) : midLos V (Proc.devRef .tc r) = fin V (Proc.devRef .tc r) := by
  rw [finLos]; exact (after_of_writes_sub _ _ fromLos_writes h).symm

/-- The run is these steps from here on. -/
theorem finSc0 (V : Valuation τ sig (Elt F)) : fin V = after fromSc0 (midSc0 V) :=
  (finLos V).trans (after_append opsLos fromSc0 (midLos V))
/-- A buffer that no step from here on writes. -/
theorem keepSc0 (V : Valuation τ sig (Elt F)) (r : Ref sig .tc) (h : r ∉ fromSc0_W) : midSc0 V (Proc.devRef .tc r) = fin V (Proc.devRef .tc r) := by
  rw [finSc0]; exact (after_of_writes_sub _ _ fromSc0_writes h).symm

/-- The run is these steps from here on. -/
theorem finSc1 (V : Valuation τ sig (Elt F)) : fin V = after fromSc1 (midSc1 V) :=
  (finSc0 V).trans (after_append opsSc0 fromSc1 (midSc0 V))
/-- A buffer that no step from here on writes. -/
theorem keepSc1 (V : Valuation τ sig (Elt F)) (r : Ref sig .tc) (h : r ∉ fromSc1_W) : midSc1 V (Proc.devRef .tc r) = fin V (Proc.devRef .tc r) := by
  rw [finSc1]; exact (after_of_writes_sub _ _ fromSc1_writes h).symm

/-- The run is these steps from here on. -/
theorem finSc2 (V : Valuation τ sig (Elt F)) : fin V = after fromSc2 (midSc2 V) :=
  (finSc1 V).trans (after_append opsSc1 fromSc2 (midSc1 V))
/-- A buffer that no step from here on writes. -/
theorem keepSc2 (V : Valuation τ sig (Elt F)) (r : Ref sig .tc) (h : r ∉ fromSc2_W) : midSc2 V (Proc.devRef .tc r) = fin V (Proc.devRef .tc r) := by
  rw [finSc2]; exact (after_of_writes_sub _ _ fromSc2_writes h).symm
/-- A buffer that no step after step 1 writes. -/
theorem lastLab (V : Valuation τ sig (Elt F)) (r : Ref sig .tc) (h : r ∉ fromCe0_W) : fin V (Proc.devRef .tc r) = after opsLab (midLab V) (Proc.devRef .tc r) :=
  (keepCe0 V r h).symm
/-- A buffer that no step after step 2 writes. -/
theorem lastCe0 (V : Valuation τ sig (Elt F)) (r : Ref sig .tc) (h : r ∉ fromIx1_W) : fin V (Proc.devRef .tc r) = after opsCe0 (midCe0 V) (Proc.devRef .tc r) :=
  (keepIx1 V r h).symm
/-- A buffer that no step after step 3 writes. -/
theorem lastIx1 (V : Valuation τ sig (Elt F)) (r : Ref sig .tc) (h : r ∉ fromTk1_W) : fin V (Proc.devRef .tc r) = after opsIx1 (midIx1 V) (Proc.devRef .tc r) :=
  (keepTk1 V r h).symm
/-- A buffer that no step after step 4 writes. -/
theorem lastTk1 (V : Valuation τ sig (Elt F)) (r : Ref sig .tc) (h : r ∉ fromCe1_W) : fin V (Proc.devRef .tc r) = after opsTk1 (midTk1 V) (Proc.devRef .tc r) :=
  (keepCe1 V r h).symm
/-- A buffer that no step after step 5 writes. -/
theorem lastCe1 (V : Valuation τ sig (Elt F)) (r : Ref sig .tc) (h : r ∉ fromIx2_W) : fin V (Proc.devRef .tc r) = after opsCe1 (midCe1 V) (Proc.devRef .tc r) :=
  (keepIx2 V r h).symm
/-- A buffer that no step after step 6 writes. -/
theorem lastIx2 (V : Valuation τ sig (Elt F)) (r : Ref sig .tc) (h : r ∉ fromTk2_W) : fin V (Proc.devRef .tc r) = after opsIx2 (midIx2 V) (Proc.devRef .tc r) :=
  (keepTk2 V r h).symm
/-- A buffer that no step after step 7 writes. -/
theorem lastTk2 (V : Valuation τ sig (Elt F)) (r : Ref sig .tc) (h : r ∉ fromCe2_W) : fin V (Proc.devRef .tc r) = after opsTk2 (midTk2 V) (Proc.devRef .tc r) :=
  (keepCe2 V r h).symm
/-- A buffer that no step after step 8 writes. -/
theorem lastCe2 (V : Valuation τ sig (Elt F)) (r : Ref sig .tc) (h : r ∉ fromCe3_W) : fin V (Proc.devRef .tc r) = after opsCe2 (midCe2 V) (Proc.devRef .tc r) :=
  (keepCe3 V r h).symm
/-- A buffer that no step after step 9 writes. -/
theorem lastCe3 (V : Valuation τ sig (Elt F)) (r : Ref sig .tc) (h : r ∉ fromCe4_W) : fin V (Proc.devRef .tc r) = after opsCe3 (midCe3 V) (Proc.devRef .tc r) :=
  (keepCe4 V r h).symm
/-- A buffer that no step after step 10 writes. -/
theorem lastCe4 (V : Valuation τ sig (Elt F)) (r : Ref sig .tc) (h : r ∉ fromAm0_W) : fin V (Proc.devRef .tc r) = after opsCe4 (midCe4 V) (Proc.devRef .tc r) :=
  (keepAm0 V r h).symm
/-- A buffer that no step after step 11 writes. -/
theorem lastAm0 (V : Valuation τ sig (Elt F)) (r : Ref sig .tc) (h : r ∉ fromIx3_W) : fin V (Proc.devRef .tc r) = after opsAm0 (midAm0 V) (Proc.devRef .tc r) :=
  (keepIx3 V r h).symm
/-- A buffer that no step after step 12 writes. -/
theorem lastIx3 (V : Valuation τ sig (Elt F)) (r : Ref sig .tc) (h : r ∉ fromTk3_W) : fin V (Proc.devRef .tc r) = after opsIx3 (midIx3 V) (Proc.devRef .tc r) :=
  (keepTk3 V r h).symm
/-- A buffer that no step after step 13 writes. -/
theorem lastTk3 (V : Valuation τ sig (Elt F)) (r : Ref sig .tc) (h : r ∉ fromAm1_W) : fin V (Proc.devRef .tc r) = after opsTk3 (midTk3 V) (Proc.devRef .tc r) :=
  (keepAm1 V r h).symm
/-- A buffer that no step after step 14 writes. -/
theorem lastAm1 (V : Valuation τ sig (Elt F)) (r : Ref sig .tc) (h : r ∉ fromPk1_W) : fin V (Proc.devRef .tc r) = after opsAm1 (midAm1 V) (Proc.devRef .tc r) :=
  (keepPk1 V r h).symm
/-- A buffer that no step after step 15 writes. -/
theorem lastPk1 (V : Valuation τ sig (Elt F)) (r : Ref sig .tc) (h : r ∉ fromWr1_W) : fin V (Proc.devRef .tc r) = after opsPk1 (midPk1 V) (Proc.devRef .tc r) :=
  (keepWr1 V r h).symm
/-- A buffer that no step after step 16 writes. -/
theorem lastWr1 (V : Valuation τ sig (Elt F)) (r : Ref sig .tc) (h : r ∉ fromIx4_W) : fin V (Proc.devRef .tc r) = after opsWr1 (midWr1 V) (Proc.devRef .tc r) :=
  (keepIx4 V r h).symm
/-- A buffer that no step after step 17 writes. -/
theorem lastIx4 (V : Valuation τ sig (Elt F)) (r : Ref sig .tc) (h : r ∉ fromTk4_W) : fin V (Proc.devRef .tc r) = after opsIx4 (midIx4 V) (Proc.devRef .tc r) :=
  (keepTk4 V r h).symm
/-- A buffer that no step after step 18 writes. -/
theorem lastTk4 (V : Valuation τ sig (Elt F)) (r : Ref sig .tc) (h : r ∉ fromLos_W) : fin V (Proc.devRef .tc r) = after opsTk4 (midTk4 V) (Proc.devRef .tc r) :=
  (keepLos V r h).symm
/-- A buffer that no step after step 19 writes. -/
theorem lastLos (V : Valuation τ sig (Elt F)) (r : Ref sig .tc) (h : r ∉ fromSc0_W) : fin V (Proc.devRef .tc r) = after opsLos (midLos V) (Proc.devRef .tc r) :=
  (keepSc0 V r h).symm
/-- A buffer that no step after step 20 writes. -/
theorem lastSc0 (V : Valuation τ sig (Elt F)) (r : Ref sig .tc) (h : r ∉ fromSc1_W) : fin V (Proc.devRef .tc r) = after opsSc0 (midSc0 V) (Proc.devRef .tc r) :=
  (keepSc1 V r h).symm
/-- A buffer that no step after step 21 writes. -/
theorem lastSc1 (V : Valuation τ sig (Elt F)) (r : Ref sig .tc) (h : r ∉ fromSc2_W) : fin V (Proc.devRef .tc r) = after opsSc1 (midSc1 V) (Proc.devRef .tc r) :=
  (keepSc2 V r h).symm
theorem lastSc2 (V : Valuation τ sig (Elt F)) (r : Ref sig .tc) (_h : r ∉ ([] : List (Ref sig .tc))) : fin V (Proc.devRef .tc r) = after opsSc2 (midSc2 V) (Proc.devRef .tc r) :=
  congrFun (finSc2 V) _

/-! ## One equation per step, between the buffers at the end -/

set_option maxRecDepth 16384 in
/-- The level 0 labels. -/
theorem eqLab_1 (V : Valuation τ sig (Elt F)) : fin V (Proc.devRef .tc main_v1) = (labT 0 slices_S4096x3_S4096x1_0_0 (fin V (Proc.devRef .tc main_arg2))) := by
  have h := stepLab_1 (midLab V)
  rw [keepLab V main_arg2 (by decide)] at h
  exact (lastLab V main_v1 (by decide)).trans h

set_option maxRecDepth 16384 in
/-- The level 1 labels. -/
theorem eqLab_3 (V : Valuation τ sig (Elt F)) : fin V (Proc.devRef .tc main_v3) = (labT 1 slices_S4096x3_S4096x1_0_1 (fin V (Proc.devRef .tc main_arg2))) := by
  have h := stepLab_3 (midLab V)
  rw [keepLab V main_arg2 (by decide)] at h
  exact (lastLab V main_v3 (by decide)).trans h

set_option maxRecDepth 16384 in
/-- The level 2 labels. -/
theorem eqLab_5 (V : Valuation τ sig (Elt F)) : fin V (Proc.devRef .tc main_v5) = (labT 2 slices_S4096x3_S4096x1_0_2 (fin V (Proc.devRef .tc main_arg2))) := by
  have h := stepLab_5 (midLab V)
  rw [keepLab V main_arg2 (by decide)] at h
  exact (lastLab V main_v5 (by decide)).trans h

set_option maxRecDepth 16384 in
/-- The level 1 label within its parent. -/
theorem eqLab_8 (V : Valuation τ sig (Elt F)) : fin V (Proc.devRef .tc main_v8) = (relT (labT 1 slices_S4096x3_S4096x1_0_1 (fin V (Proc.devRef .tc main_arg2))) (labT 0 slices_S4096x3_S4096x1_0_0 (fin V (Proc.devRef .tc main_arg2)))) := by
  have h := stepLab_8 (midLab V)
  rw [keepLab V main_arg2 (by decide)] at h
  exact (lastLab V main_v8 (by decide)).trans h

set_option maxRecDepth 16384 in
/-- The level 2 label within its parent. -/
theorem eqLab_11 (V : Valuation τ sig (Elt F)) : fin V (Proc.devRef .tc main_v11) = (relT (labT 2 slices_S4096x3_S4096x1_0_2 (fin V (Proc.devRef .tc main_arg2))) (labT 1 slices_S4096x3_S4096x1_0_1 (fin V (Proc.devRef .tc main_arg2)))) := by
  have h := stepLab_11 (midLab V)
  rw [keepLab V main_arg2 (by decide)] at h
  exact (lastLab V main_v11 (by decide)).trans h

set_option maxRecDepth 16384 in
/-- A counter. -/
theorem eqLab_12 (V : Valuation τ sig (Elt F)) : fin V (Proc.devRef .tc main_v12) = (iotaInDim S10 32 0) := by
  have h := stepLab_12 (midLab V)
  exact (lastLab V main_v12 (by decide)).trans h

set_option maxRecDepth 16384 in
/-- A counter. -/
theorem eqLab_13 (V : Valuation τ sig (Elt F)) : fin V (Proc.devRef .tc main_v13) = (iotaInDim S10 32 0) := by
  have h := stepLab_13 (midLab V)
  exact (lastLab V main_v13 (by decide)).trans h

set_option maxRecDepth 16384 in
/-- The cross entropy of level 0. -/
theorem eqCe0_31 (V : Valuation τ sig (Elt F)) : fin V (Proc.devRef .tc main_v31) = (ceT 100 reducesTo_S4096x100_S4096_d1 bcast_S4096x1_S4096x100_0_1 gather_S4096x100_S4096x1x1_S4096x1_n_1_0_0_1_2_11 100#32 99#32 (extractStridedSlice S4096x100 ![0, 0] (fin V (Proc.devRef .tc main_arg0)) slices_S4096x11100_S4096x100_0_0) (fin V (Proc.devRef .tc main_v1))) := by
  have h := stepCe0_31 (midCe0 V)
  rw [keepCe0 V main_arg0 (by decide), keepCe0 V main_v1 (by decide)] at h
  exact (lastCe0 V main_v31 (by decide)).trans h

set_option maxRecDepth 16384 in
/-- The ten columns of the children. -/
theorem eqIx1_40 (V : Valuation τ sig (Elt F)) : fin V (Proc.devRef .tc main_v40) = (childT 100#32 (fin V (Proc.devRef .tc main_v1))) := by
  have h := stepIx1_40 (midIx1 V) ((keepIx1 V main_v12 (by decide)).trans (eqLab_12 V))
  rw [keepIx1 V main_v1 (by decide)] at h
  exact (lastIx1 V main_v40 (by decide)).trans h

set_option maxRecDepth 16384 in
/-- The logits at those columns. -/
theorem eqTk1_41 (V : Valuation τ sig (Elt F)) : fin V (Proc.devRef .tc main_v41) = (take10T (fin V (Proc.devRef .tc main_arg0)) (fin V (Proc.devRef .tc main_v40))) := by
  have h := stepTk1_41 (midTk1 V)
  rw [keepTk1 V main_arg0 (by decide), keepTk1 V main_v40 (by decide)] at h
  exact (lastTk1 V main_v41 (by decide)).trans h

set_option maxRecDepth 16384 in
/-- The cross entropy of level 1 within the parent. -/
theorem eqCe1_58 (V : Valuation τ sig (Elt F)) : fin V (Proc.devRef .tc main_v58) = (ceT 10 reducesTo_S4096x10_S4096_d1 bcast_S4096x1_S4096x10_0_1 gather_S4096x10_S4096x1x1_S4096x1_n_1_0_0_1_2_11 10#32 9#32 (fin V (Proc.devRef .tc main_v41)) (fin V (Proc.devRef .tc main_v8))) := by
  have h := stepCe1_58 (midCe1 V)
  rw [keepCe1 V main_v41 (by decide), keepCe1 V main_v8 (by decide)] at h
  exact (lastCe1 V main_v58 (by decide)).trans h

set_option maxRecDepth 16384 in
/-- The ten columns of the children. -/
theorem eqIx2_67 (V : Valuation τ sig (Elt F)) : fin V (Proc.devRef .tc main_v67) = (childT 1100#32 (fin V (Proc.devRef .tc main_v3))) := by
  have h := stepIx2_67 (midIx2 V) ((keepIx2 V main_v13 (by decide)).trans (eqLab_13 V))
  rw [keepIx2 V main_v3 (by decide)] at h
  exact (lastIx2 V main_v67 (by decide)).trans h

set_option maxRecDepth 16384 in
/-- The logits at those columns. -/
theorem eqTk2_68 (V : Valuation τ sig (Elt F)) : fin V (Proc.devRef .tc main_v68) = (take10T (fin V (Proc.devRef .tc main_arg0)) (fin V (Proc.devRef .tc main_v67))) := by
  have h := stepTk2_68 (midTk2 V)
  rw [keepTk2 V main_arg0 (by decide), keepTk2 V main_v67 (by decide)] at h
  exact (lastTk2 V main_v68 (by decide)).trans h

set_option maxRecDepth 16384 in
/-- The cross entropy of level 2 within the parent. -/
theorem eqCe2_85 (V : Valuation τ sig (Elt F)) : fin V (Proc.devRef .tc main_v85) = (ceT 10 reducesTo_S4096x10_S4096_d1 bcast_S4096x1_S4096x10_0_1 gather_S4096x10_S4096x1x1_S4096x1_n_1_0_0_1_2_11 10#32 9#32 (fin V (Proc.devRef .tc main_v68)) (fin V (Proc.devRef .tc main_v11))) := by
  have h := stepCe2_85 (midCe2 V)
  rw [keepCe2 V main_v11 (by decide), keepCe2 V main_v68 (by decide)] at h
  exact (lastCe2 V main_v85 (by decide)).trans h

set_option maxRecDepth 16384 in
/-- The cross entropy of level 1 over the whole level. -/
theorem eqCe3_103 (V : Valuation τ sig (Elt F)) : fin V (Proc.devRef .tc main_v103) = (ceT 1000 reducesTo_S4096x1000_S4096_d1 bcast_S4096x1_S4096x1000_0_1 gather_S4096x1000_S4096x1x1_S4096x1_n_1_0_0_1_2_11 1000#32 999#32 (extractStridedSlice S4096x1000 ![0, 100] (fin V (Proc.devRef .tc main_arg0)) slices_S4096x11100_S4096x1000_0_100) (fin V (Proc.devRef .tc main_v3))) := by
  have h := stepCe3_103 (midCe3 V)
  rw [keepCe3 V main_arg0 (by decide), keepCe3 V main_v3 (by decide)] at h
  exact (lastCe3 V main_v103 (by decide)).trans h

set_option maxRecDepth 16384 in
/-- The cross entropy of level 2 over the whole level. -/
theorem eqCe4_121 (V : Valuation τ sig (Elt F)) : fin V (Proc.devRef .tc main_v121) = (ceT 10000 reducesTo_S4096x10000_S4096_d1 bcast_S4096x1_S4096x10000_0_1 gather_S4096x10000_S4096x1x1_S4096x1_n_1_0_0_1_2_11 10000#32 9999#32 (extractStridedSlice S4096x10000 ![0, 1100] (fin V (Proc.devRef .tc main_arg0)) slices_S4096x11100_S4096x10000_0_1100) (fin V (Proc.devRef .tc main_v5))) := by
  have h := stepCe4_121 (midCe4 V)
  rw [keepCe4 V main_arg0 (by decide), keepCe4 V main_v5 (by decide)] at h
  exact (lastCe4 V main_v121 (by decide)).trans h

set_option maxRecDepth 16384 in
/-- The prediction of level 0. -/
theorem eqAm0_123 (V : Valuation τ sig (Elt F)) : fin V (Proc.devRef .tc main_v123) = (amT 100 reducesTo_S4096x100_S4096_d1 (extractStridedSlice S4096x100 ![0, 0] (fin V (Proc.devRef .tc main_arg0)) slices_S4096x11100_S4096x100_0_0)) := by
  have h := stepAm0_123 (midAm0 V)
  rw [keepAm0 V main_arg0 (by decide)] at h
  exact (lastAm0 V main_v123 (by decide)).trans h

set_option maxRecDepth 16384 in
/-- Whether it is wrong. -/
theorem eqAm0_124 (V : Valuation τ sig (Elt F)) : fin V (Proc.devRef .tc main_v124) = (cmpi .ne (amT 100 reducesTo_S4096x100_S4096_d1 (extractStridedSlice S4096x100 ![0, 0] (fin V (Proc.devRef .tc main_arg0)) slices_S4096x11100_S4096x100_0_0)) (fin V (Proc.devRef .tc main_v1))) := by
  have h := stepAm0_124 (midAm0 V)
  rw [keepAm0 V main_arg0 (by decide), keepAm0 V main_v1 (by decide)] at h
  exact (lastAm0 V main_v124 (by decide)).trans h

set_option maxRecDepth 16384 in
/-- The ten columns of the children. -/
theorem eqIx3_133 (V : Valuation τ sig (Elt F)) : fin V (Proc.devRef .tc main_v133) = (childT 100#32 (fin V (Proc.devRef .tc main_v123))) := by
  have h := stepIx3_133 (midIx3 V) ((keepIx3 V main_v12 (by decide)).trans (eqLab_12 V))
  rw [keepIx3 V main_v123 (by decide)] at h
  exact (lastIx3 V main_v133 (by decide)).trans h

set_option maxRecDepth 16384 in
/-- The logits at those columns. -/
theorem eqTk3_134 (V : Valuation τ sig (Elt F)) : fin V (Proc.devRef .tc main_v134) = (take10T (fin V (Proc.devRef .tc main_arg0)) (fin V (Proc.devRef .tc main_v133))) := by
  have h := stepTk3_134 (midTk3 V)
  rw [keepTk3 V main_arg0 (by decide), keepTk3 V main_v133 (by decide)] at h
  exact (lastTk3 V main_v134 (by decide)).trans h

set_option maxRecDepth 16384 in
/-- The prediction of level 1 within its parent. -/
theorem eqAm1_135 (V : Valuation τ sig (Elt F)) : fin V (Proc.devRef .tc main_v135) = (amT 10 reducesTo_S4096x10_S4096_d1 (fin V (Proc.devRef .tc main_v134))) := by
  have h := stepAm1_135 (midAm1 V)
  rw [keepAm1 V main_v134 (by decide)] at h
  exact (lastAm1 V main_v135 (by decide)).trans h

set_option maxRecDepth 16384 in
/-- Its column. -/
theorem eqPk1_138 (V : Valuation τ sig (Elt F)) : fin V (Proc.devRef .tc main_v138) = (pickColT (fin V (Proc.devRef .tc main_v133)) (fin V (Proc.devRef .tc main_v135))) := by
  have h := stepPk1_138 (midPk1 V)
  rw [keepPk1 V main_v133 (by decide), keepPk1 V main_v135 (by decide)] at h
  exact (lastPk1 V main_v138 (by decide)).trans h

set_option maxRecDepth 16384 in
/-- Whether a prediction is wrong. -/
theorem eqWr1_140 (V : Valuation τ sig (Elt F)) : fin V (Proc.devRef .tc main_v140) = (ori (fin V (Proc.devRef .tc main_v124)) (cmpi .ne (fin V (Proc.devRef .tc main_v135)) (fin V (Proc.devRef .tc main_v8)))) := by
  have h := stepWr1_140 (midWr1 V)
  rw [keepWr1 V main_v124 (by decide), keepWr1 V main_v135 (by decide), keepWr1 V main_v8 (by decide)] at h
  exact (lastWr1 V main_v140 (by decide)).trans h

set_option maxRecDepth 16384 in
/-- The ten columns of the children. -/
theorem eqIx4_151 (V : Valuation τ sig (Elt F)) : fin V (Proc.devRef .tc main_v151) = (childT 1100#32 (subi (fin V (Proc.devRef .tc main_v138)) (broadcastInDim S4096 ![] bcast_S_S4096 (constantI S_ 32 100#32)))) := by
  have h := stepIx4_151 (midIx4 V) ((keepIx4 V main_v13 (by decide)).trans (eqLab_13 V))
  rw [keepIx4 V main_v138 (by decide)] at h
  exact (lastIx4 V main_v151 (by decide)).trans h

set_option maxRecDepth 16384 in
/-- The logits at those columns. -/
theorem eqTk4_152 (V : Valuation τ sig (Elt F)) : fin V (Proc.devRef .tc main_v152) = (take10T (fin V (Proc.devRef .tc main_arg0)) (fin V (Proc.devRef .tc main_v151))) := by
  have h := stepTk4_152 (midTk4 V)
  rw [keepTk4 V main_arg0 (by decide), keepTk4 V main_v151 (by decide)] at h
  exact (lastTk4 V main_v152 (by decide)).trans h

set_option maxRecDepth 16384 in
/-- The loss. -/
theorem eqLos_163 (V : Valuation τ sig (Elt F)) : fin V (Proc.devRef .tc main_v163) = (lossT (fin V (Proc.devRef .tc main_v124)) (fin V (Proc.devRef .tc main_v140)) (fin V (Proc.devRef .tc main_v31)) (fin V (Proc.devRef .tc main_v103)) (fin V (Proc.devRef .tc main_v58)) (fin V (Proc.devRef .tc main_v121)) (fin V (Proc.devRef .tc main_v85))) := by
  have h := stepLos_163 (midLos V)
  rw [keepLos V main_v103 (by decide), keepLos V main_v121 (by decide), keepLos V main_v124 (by decide), keepLos V main_v140 (by decide), keepLos V main_v31 (by decide), keepLos V main_v58 (by decide), keepLos V main_v85 (by decide)] at h
  exact (lastLos V main_v163 (by decide)).trans h

set_option maxRecDepth 16384 in
/-- The output with level 0. -/
theorem eqSc0_167 (V : Valuation τ sig (Elt F)) : fin V (Proc.devRef .tc main_v167) = (fill0T (fin V (Proc.devRef .tc main_arg0))) := by
  have h := stepSc0_167 (midSc0 V)
  rw [keepSc0 V main_arg0 (by decide)] at h
  exact (lastSc0 V main_v167 (by decide)).trans h

set_option maxRecDepth 16384 in
/-- The row numbers. -/
theorem eqSc1_169 (V : Valuation τ sig (Elt F)) : fin V (Proc.devRef .tc main_v169) = (rowsT) := by
  have h := stepSc1_169 (midSc1 V)
  exact (lastSc1 V main_v169 (by decide)).trans h

set_option maxRecDepth 16384 in
/-- The output with level 1. -/
theorem eqSc1_184 (V : Valuation τ sig (Elt F)) : fin V (Proc.devRef .tc main_v184) = (setT (fin V (Proc.devRef .tc main_v167)) (fin V (Proc.devRef .tc main_v133)) (fin V (Proc.devRef .tc main_v134))) := by
  have h := stepSc1_184 (midSc1 V)
  rw [keepSc1 V main_v133 (by decide), keepSc1 V main_v134 (by decide), keepSc1 V main_v167 (by decide)] at h
  exact (lastSc1 V main_v184 (by decide)).trans h

set_option maxRecDepth 16384 in
/-- The output with level 2. -/
theorem eqSc2_199 (V : Valuation τ sig (Elt F)) : fin V (Proc.devRef .tc main_v199) = (setT (fin V (Proc.devRef .tc main_v184)) (fin V (Proc.devRef .tc main_v151)) (fin V (Proc.devRef .tc main_v152))) := by
  have h := stepSc2_199 (midSc2 V) ((keepSc2 V main_v169 (by decide)).trans (eqSc1_169 V))
  rw [keepSc2 V main_v151 (by decide), keepSc2 V main_v152 (by decide), keepSc2 V main_v184 (by decide)] at h
  exact (lastSc2 V main_v199 (by decide)).trans h

set_option maxRecDepth 16384 in
/-- No step writes argument 0. -/
theorem eqArg_0 (V : Valuation τ sig (Elt F)) : fin V (Proc.devRef .tc main_arg0) = V (Proc.devRef .tc main_arg0) :=
  (keepLab V main_arg0 (by decide)).symm

set_option maxRecDepth 16384 in
/-- No step writes argument 1. -/
theorem eqArg_1 (V : Valuation τ sig (Elt F)) : fin V (Proc.devRef .tc main_arg1) = V (Proc.devRef .tc main_arg1) :=
  (keepLab V main_arg1 (by decide)).symm

set_option maxRecDepth 16384 in
/-- No step writes argument 2. -/
theorem eqArg_2 (V : Valuation τ sig (Elt F)) : fin V (Proc.devRef .tc main_arg2) = V (Proc.devRef .tc main_arg2) :=
  (keepLab V main_arg2 (by decide)).symm

/-- Every weakly fair execution of the reference ends with its buffers as `fin` says. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = fin (launchContents m c) (Proc.devRef .tc b) :=
  run_seq (by decide) (by decide) defs main (fun _ => ops) main_eq (fun _ => ops_sub) m ρ fun _ op hop =>
    List.forall_iff_forall_mem.mp ops_fresh op hop

end Cert.ReferenceIdeal.Ref

end
-- ==== Proof.Frames.lean ====
/-
  That the three programs run and leave their arguments alone, and that the kernel's idealization is the kernel with
  one constant read as the number it stands for.
-/
module

public import proofs.«01_k».proof.Defs
public import proofs.«01_k».proof.Proof.Gen.Kernel.Frame
public import proofs.«01_k».proof.Proof.Gen.KernelIdeal.Frame
public import proofs.«01_k».proof.Proof.RefRead
public import Idealize.ShloMosaic.Lib.Quiescent

@[expose] public section

noncomputable section

open Idealize.ShloMosaic Idealize.ShloMosaic.TcCoe Idealize.SL.Sem

namespace Cert.Proof

/-- The kernel terminates and leaves its arguments alone. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c =>
      ⟨(h c _).trans (Cert.ReferenceIdeal.Ref.eqArg_0 _), (h c _).trans (Cert.ReferenceIdeal.Ref.eqArg_1 _),
        (h c _).trans (Cert.ReferenceIdeal.Ref.eqArg_2 _)⟩,
      Idealize.ShloMosaic.sem_eq_zero_of_no_sems (by decide) r.2⟩)
    (Cert.ReferenceIdeal.Ref.run (F := Ideal) m ρ)

/-- The constant that masks logits out of a maximum stands for minus infinity. -/
theorem preserves : Cert.preserves_Kernel_KernelIdeal :=
  IdealRules.named_const.statement Cert.KernelIdeal.κ "mask" .f32 0xF149F2CA#32 ⊥ rfl

end Cert.Proof

end
-- ==== Proof.KernelBlock.lean ====
/-
  What the kernel's body computes for one sample of its block of 256: each of its values, read at the sample's row, as
  the quantity of the sample's logits it stands for.
-/
module

public import proofs.«01_k».proof.Proof.RowMath
public import proofs.«01_k».proof.Proof.Words
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal.Gen Cert.Hier Cert.Words

/-- The column numbers of the first 1100 columns. -/
abbrev cols : IVec S256x1100 32 := iota .tc S256x1100 32 [1] iota_S256x1100_d1_w32
/-- The column numbers of the columns from 1024 on, counted from there. -/
abbrev cols2 : IVec S256x10076 32 := iota .tc S256x10076 32 [1] iota_S256x10076_d1_w32

/-- The word that stands for minus infinity in the kernel's maxima. -/
theorem mask_bot : (Named.named κ "mask" 0xF149F2CA#32 : Ideal .f32) = ⊥ := IdealRules.named_const.ideal_named_scalar _ _ _ _ rfl

theorem neg_inf : Ideal.ofBits .f32 0xFF800000#32 = ⊥ := by
  simp [Ideal.ofBits, Ideal.ieee]

variable (r : Fin 256) (x : ℕ → EReal)
  (v0 v1 v2 : Vec Ideal S256x1 .i32) (v3 : Vec Ideal S256x1100 .f32) (v83 : Vec Ideal S256x10076 .f32)

/-- A sum of masked entries, masked by the ten columns from `w` on. -/
theorem sum_ten (n : ℕ) (hn : n ≤ 11100) (f : ℕ → EReal) (w : ℕ) (hw : w + 10 ≤ n) :
    ∑ k : Fin n, Scalar.select (IntOp.cmpi .ult (IntOp.subi (BitVec.ofNat 32 k.val) (BitVec.ofNat 32 w)) 10#32) (f k.val) 0
      = ∑ k ∈ Finset.range 10, f (w + k) := by
  rw [← sum_window f w 10 n hw, ← Fin.sum_univ_eq_sum_range (fun j => if w ≤ j ∧ j < w + 10 then f j else 0)]
  exact Finset.sum_congr rfl fun k _ => select_iff (window_iff (by have := k.isLt; omega) (by omega)) _ _

/-- A sum of entries masked by a single column is the entry. -/
theorem sum_one (n : ℕ) (hn : n ≤ 11100) (f : ℕ → EReal) (w : ℕ) (hw : w < n) :
    ∑ k : Fin n, Scalar.select (IntOp.cmpi .eq (BitVec.ofNat 32 k.val) (BitVec.ofNat 32 w)) (f k.val) 0 = f w := by
  rw [Finset.sum_congr rfl fun (k : Fin n) _ => select_iff (eq_iff (a := k.val) (b := w) (by have := k.isLt; omega) (by omega)) (f k.val) 0,
    Fin.sum_univ_eq_sum_range (fun j => if j = w then f j else 0) n, Finset.sum_ite_eq' (Finset.range n) w f, if_pos (Finset.mem_range.mpr hw)]

section first
variable (h3 : ∀ k : Fin 1100, v3 (ix2 r k) = x k.val)
include h3

/-- The sum of the exponentials of level 0. -/
theorem pay4_row : k0_pay4 (F := Ideal) v3 (ix2 r 0) = ∑ k ∈ Finset.range 100, Ideal.exp (x (0 + k)) := by
  refine Eq.trans (b := ∑ k : Fin 1100, Scalar.select (IntOp.cmpi .slt (BitVec.ofNat 32 k.val) 100#32) (Ideal.exp (x k.val)) 0) ?_ ?_
  · pointwise [k0_pay4, k0_pay3, k0_pay2]
    simp only [h3]
  · rw [← sum_window (fun j => Ideal.exp (x j)) 0 100 1100 (by decide),
      ← Fin.sum_univ_eq_sum_range (fun j => if 0 ≤ j ∧ j < 0 + 100 then Ideal.exp (x j) else 0)]
    exact Finset.sum_congr rfl fun k _ => select_iff ((slt_iff (by have := k.isLt; omega) (by decide)).trans (by simp)) _ _

/-- The sum of the exponentials of level 1, by subtraction. -/
theorem pay5_row (hx : ∀ j, x j ≠ ⊤) : k0_pay5 (F := Ideal) v3 (ix2 r 0) = ∑ k ∈ Finset.range 1000, Ideal.exp (x (100 + k)) := by
  have h4 := pay4_row r x v3 h3
  have h := exp_sum_sub x hx 0 100 1000
  rw [← h4, ← Fin.sum_univ_eq_sum_range (fun j => Ideal.exp (x (0 + j)))] at h
  simp only [zero_add] at h
  rw [← h]
  pointwise [k0_pay5, k0_pay3]
  simp only [h3]

/-- The sum of the exponentials of the columns that both reads of the block cover. -/
theorem pay6_row : k0_pay6 (F := Ideal) v3 (ix2 r 0) = ∑ k ∈ Finset.range 76, Ideal.exp (x (1024 + k)) := by
  pointwise [k0_pay6, k0_pay3]
  simp only [h3]
  rw [← sum_window (fun j => Ideal.exp (x j)) 1024 76 1100 (by decide),
    ← Fin.sum_univ_eq_sum_range (fun j => if 1024 ≤ j ∧ j < 1024 + 76 then Ideal.exp (x j) else 0)]
  exact Finset.sum_congr rfl fun k _ => select_iff ((sge_iff (by have := k.isLt; omega) (by decide)).trans (by have := k.isLt; omega)) _ _

/-- The sum of the exponentials of the children of the label of level 0. -/
theorem pay7_row (l0 : ℕ) (hl : l0 < 100) (h0 : v0 (ix2 r 0) = BitVec.ofNat 32 l0) :
    k0_pay7 (F := Ideal) v0 v3 (ix2 r 0) = ∑ k ∈ Finset.range 10, Ideal.exp (x (100 + 10 * l0 + k)) := by
  pointwise [k0_pay7, k0_pay3]
  simp only [h3, h0, addi_muli]
  exact sum_ten 1100 (by decide) (fun j => Ideal.exp (x j)) (100 + 10 * l0) (by omega)

/-- The logit of the label of level 0. -/
theorem pay9_row (l0 : ℕ) (hl : l0 < 100) (h0 : v0 (ix2 r 0) = BitVec.ofNat 32 l0) :
    k0_pay9 (F := Ideal) (k0_pay8 v0 v3) (ix2 r 0) = x l0 := by
  pointwise [k0_pay9, k0_pay8]
  simp only [h3, h0]
  exact sum_one 1100 (by decide) x l0 (by omega)

/-- The logit of the label of level 1. -/
theorem pay10_row (l1 : ℕ) (hl : l1 < 1000) (h1 : v1 (ix2 r 0) = BitVec.ofNat 32 l1) :
    k0_pay10 (F := Ideal) v1 v3 cols (ix2 r 0) = x (100 + l1) := by
  pointwise [k0_pay10, cols]
  simp only [h3, h1, addi_eq]
  exact sum_one 1100 (by decide) x (100 + l1) (by omega)

/-- The predicted class of level 0. -/
theorem pay11_row : k0_pay11 (F := Ideal) v3 cols k0_pay2 (ix2 r 0) = BitVec.ofNat 32 (pred0 x) := by
  have ht := isTop_top x 0 (d := 100) (by decide)
  have hb : ∀ k : Fin 1100, IntOp.cmpi .slt (BitVec.ofNat 32 k.val) (100#32) = 1#1 ↔ (0 ≤ k.val ∧ k.val < 0 + 100) := fun k =>
    (slt_iff (by have := k.isLt; omega) (by decide)).trans (by simp)
  have hm := fold_max_window 1100 x 0 100 _ ht (by decide)
  have hi := fold_minsi_window 1100 x 0 100 _ ht (by decide) (by decide) 100 (by have := ht.1; omega) (by decide)
  pointwise [k0_pay11, k0_pay2, cols]
  simp only [h3, mask_bot, neg_inf]
  rw [show (fun k : Fin 1100 => Scalar.select (IntOp.cmpi .slt (BitVec.ofNat 32 k.val) (100#32)) (x k.val) (⊥ : EReal))
      = fun k => if 0 ≤ k.val ∧ k.val < 0 + 100 then x k.val else ⊥ from funext fun k => select_iff (hb k) _ _]
  rw [hm]
  refine Eq.trans (congrArg (fun f => Finset.fold IntOp.minsi (2147483647#32) f Finset.univ) (funext fun k => ?_)) (hi.trans (by rw [zero_add]; rfl))
  exact select_iff (andi_iff (hb k) ((ofBool_one _).trans (by simp))) _ _

/-- The first column of the children of the predicted class of level 0. -/
theorem pay12_row : k0_pay12 (F := Ideal) v3 cols k0_pay2 (ix2 r 0) = BitVec.ofNat 32 (100 + 10 * pred0 x) := by
  have h := pay11_row r x v3 h3
  pointwise [k0_pay12]
  rw [h, addi_muli]

/-- Whether a column is a child of the predicted class of level 0. -/
theorem pay13_row (k : Fin 1100) : k0_pay13 (F := Ideal) v3 cols k0_pay2 (ix2 r k) = 1#1 ↔ (100 + 10 * pred0 x ≤ k.val ∧ k.val < 100 + 10 * pred0 x + 10) := by
  have h := pay12_row r x v3 h3
  have hp := pred0_lt x
  pointwise [k0_pay13, cols]
  rw [h]
  exact window_iff (by have := k.isLt; omega) (by omega)

/-- The predicted class of level 1. -/
theorem pay14_row : k0_pay14 (F := Ideal) v3 cols k0_pay2 (ix2 r 0) = BitVec.ofNat 32 (pred1 x) := by
  have hp := pred0_lt x
  have ht := isTop_top x (100 + 10 * pred0 x) (d := 10) (by decide)
  have hb := pay13_row r x v3 h3
  have hm := fold_max_window 1100 x (100 + 10 * pred0 x) 10 _ ht (by omega)
  have hi := fold_minsi_window 1100 x (100 + 10 * pred0 x) 10 _ ht (by omega) (by decide) 11100 (by have := ht.1; omega) (by decide)
  pointwise [k0_pay14, cols]
  simp only [h3, mask_bot, neg_inf]
  rw [show (fun k : Fin 1100 => Scalar.select (k0_pay13 (F := Ideal) v3 cols k0_pay2 (ix2 r k)) (x k.val) (⊥ : EReal))
      = fun k => if 100 + 10 * pred0 x ≤ k.val ∧ k.val < 100 + 10 * pred0 x + 10 then x k.val else ⊥ from funext fun k => select_iff (hb k) _ _]
  rw [hm]
  refine Eq.trans (congrArg (fun w => IntOp.subi w (100#32)) (Eq.trans (congrArg (fun f => Finset.fold IntOp.minsi (2147483647#32) f Finset.univ) (funext fun k => ?_)) hi)) ?_
  · exact select_iff (andi_iff (hb k) ((ofBool_one _).trans (by simp))) _ _
  · exact (subi_eq (b := 100) (by omega)).trans (congrArg (BitVec.ofNat 32) (by unfold pred1; omega))

/-- The first 1100 columns of the sample's output, as first written. -/
theorem pay17_row (k : Fin 1100) :
    k0_pay17 (F := Ideal) v3 (k0_pay15 v3 cols k0_pay2) k0_pay16 (ix2 r k) = outRow x k.val := by
  have hb := pay13_row r x v3 h3 k
  have hl : IntOp.cmpi .slt (BitVec.ofNat 32 k.val) (100#32) = 1#1 ↔ k.val < 100 := slt_iff (by have := k.isLt; omega) (by decide)
  pointwise [k0_pay17, k0_pay15, k0_pay16, k0_pay2]
  rw [h3]
  refine (select_iff (ori_iff hl hb) _ _).trans ?_
  exact outRow_of x _ (by unfold Kept; omega)

end first

section second
variable (h83 : ∀ k : Fin 10076, v83 (ix2 r k) = x (1024 + k.val))
include h83

/-- The sum of the exponentials of level 2, by subtraction. -/
theorem pay19_row (hx : ∀ j, x j ≠ ⊤) (v20 : FVec Ideal S256x1 .f32) (h20 : v20 (ix2 r 0) = ∑ k ∈ Finset.range 76, Ideal.exp (x (1024 + k))) :
    k0_pay19 (F := Ideal) v20 v83 (ix2 r 0) = ∑ k ∈ Finset.range 10000, Ideal.exp (x (1100 + k)) := by
  have h := exp_sum_sub x hx 1024 76 10000
  rw [← h20, ← Fin.sum_univ_eq_sum_range (fun j => Ideal.exp (x (1024 + j)))] at h
  rw [← h]
  pointwise [k0_pay19, k0_pay18]
  simp only [h83]

/-- The sum of the exponentials of the children of the label of level 1. -/
theorem pay20_row (l1 : ℕ) (hl : l1 < 1000) (h1 : v1 (ix2 r 0) = BitVec.ofNat 32 l1) :
    k0_pay20 (F := Ideal) v1 v83 (ix2 r 0) = ∑ k ∈ Finset.range 10, Ideal.exp (x (1100 + 10 * l1 + k)) := by
  pointwise [k0_pay20, k0_pay18]
  simp only [h83, h1, addi_muli]
  rw [sum_ten 10076 (by decide) (fun j => Ideal.exp (x (1024 + j))) (76 + 10 * l1) (by omega)]
  exact Finset.sum_congr rfl fun k _ => by rw [show 1024 + (76 + 10 * l1 + k) = 1100 + 10 * l1 + k by omega]

/-- The logit of the label of level 2. -/
theorem pay21_row (l2 : ℕ) (hl : l2 < 10000) (h2 : v2 (ix2 r 0) = BitVec.ofNat 32 l2) :
    k0_pay21 (F := Ideal) v2 v83 (ix2 r 0) = x (1100 + l2) := by
  pointwise [k0_pay21]
  simp only [h83, h2, addi_eq]
  rw [sum_one 10076 (by decide) (fun j => x (1024 + j)) (76 + l2) (by omega)]
  congr 1; omega

/-- The columns 1024 to 1151 of the sample's output. -/
theorem pay25_row (v61 v78 : IVec S256x1 32) (h61 : v61 (ix2 r 0) = BitVec.ofNat 32 (100 + 10 * pred0 x)) (h78 : v78 (ix2 r 0) = BitVec.ofNat 32 (pred1 x))
    (k : Fin 128) : k0_pay25 (F := Ideal) v83 (k0_pay23 v61) (k0_pay24 v78) 10#32 (ix2 r k) = outRow x (1024 + k.val) := by
  have hp := pred0_lt x
  have hq := pred1_lt x
  pointwise [k0_pay25, k0_pay23, k0_pay24, k0_pay22]
  simp only [h83, h61, h78, addi_muli, addi_eq]
  refine (select_iff (ori_iff (window_iff (by have := k.isLt; omega) (by omega)) (window_iff (by have := k.isLt; omega) (by omega))) _ _).trans ?_
  exact outRow_of x _ (by unfold Kept; omega)

/-- The columns from 1152 on of the sample's output. -/
theorem pay26_row (v78 : IVec S256x1 32) (h78 : v78 (ix2 r 0) = BitVec.ofNat 32 (pred1 x)) (k : Fin 9948) :
    k0_pay26 (F := Ideal) v78 v83 cols2 (ix2 r k) = outRow x (1152 + k.val) := by
  have hp := pred0_lt x
  have hq := pred1_lt x
  pointwise [k0_pay26, cols2]
  simp only [h83, h78, addi_muli]
  refine (select_iff (window_iff (by have := k.isLt; omega) (by omega)) _ _).trans ?_
  rw [show 1024 + (128 + k.val) = 1152 + k.val by omega]
  exact outRow_of x _ (by unfold Kept; omega)

end second

/-- What the block adds to the loss: the sum over its samples of what each contributes. -/
theorem pay29_block (X : Fin 256 → ℕ → EReal) (l0 l1 l2 : Fin 256 → ℕ) (b0 : ∀ r, l0 r < 100) (b1 : ∀ r, l1 r < 1000) (b2 : ∀ r, l2 r < 10000)
    (hX : ∀ r j, X r j ≠ ⊤)
    (h0 : ∀ r, v0 (ix2 r 0) = BitVec.ofNat 32 (l0 r)) (h1 : ∀ r, v1 (ix2 r 0) = BitVec.ofNat 32 (l1 r)) (h2 : ∀ r, v2 (ix2 r 0) = BitVec.ofNat 32 (l2 r))
    (h3 : ∀ r, ∀ k : Fin 1100, v3 (ix2 r k) = X r k.val) (h83 : ∀ r, ∀ k : Fin 10076, v83 (ix2 r k) = X r (1024 + k.val)) (i : S1x1x1.Idx) :
    k0_pay29 (F := Ideal) v0 v1 (k0_pay4 v3) (k0_pay5 v3) (k0_pay7 v0 v3) (k0_pay9 (k0_pay8 v0 v3)) (k0_pay10 v1 v3 cols) (k0_pay11 v3 cols k0_pay2)
        (k0_pay14 v3 cols k0_pay2) (k0_pay19 (k0_pay6 v3) v83) (k0_pay20 v1 v83) (k0_pay21 v2 v83) i
      = ∑ r : Fin 256, perRow (X r) (l0 r) (l1 r) (l2 r) := by
  pointwise [k0_pay29]
  refine Finset.sum_congr rfl fun r _ => (Fin.sum_univ_one _).trans ?_
  rw [pay4_row r (X r) v3 (h3 r), pay9_row r (X r) v0 v3 (h3 r) (l0 r) (b0 r) (h0 r), pay11_row r (X r) v3 (h3 r), pay14_row r (X r) v3 (h3 r),
    pay5_row r (X r) v3 (h3 r) (hX r), pay7_row r (X r) v0 v3 (h3 r) (l0 r) (b0 r) (h0 r), pay10_row r (X r) v1 v3 (h3 r) (l1 r) (b1 r) (h1 r),
    pay19_row r (X r) v83 (h83 r) (hX r) _ (pay6_row r (X r) v3 (h3 r)), pay20_row r (X r) v1 v83 (h83 r) (l1 r) (b1 r) (h1 r),
    pay21_row r (X r) v2 v83 (h83 r) (l2 r) (b2 r) (h2 r), h0 r, h1 r]
  have hp := pred0_lt (X r)
  have hq := pred1_lt (X r)
  have c0 := ne_iff (a := pred0 (X r)) (b := l0 r) (by omega) (by have := b0 r; omega)
  have c1 := ne_iff (a := pred1 (X r)) (b := l1 r) (by omega) (by have := b1 r; omega)
  rw [select_iff c0, select_iff (ori_iff c0 c1)]
  rfl

end Cert.KernelIdeal.Block

end
-- ==== Proof.KernelValue.lean ====
/-
  What the kernel's two result arrays hold after the run, from what each block computes.
-/
module

public import proofs.«01_k».proof.Proof.KernelBlock
public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Block Cert.Hier

variable (m : (ℓ : Loc nD τ sig) → Buf (Elt Ideal) ℓ)

/-- Block `t` of a window holds the rows `256 t` to `256 t + 255`, whole. -/
theorem idx : ∀ t : Fin cfg0.N, win0_0.index t = ![t.val, 0] ∧ win0_1.index t = ![t.val, 0] ∧ win0_2.index t = ![t.val, 0] ∧ t.val < 16 :=
  (by decide +kernel : ∀ t : Fin grid0.N, _)

/-- The two column ranges that the body reads of a block of logits. -/
abbrev colsA (x0 : Vec Ideal S256x11100 .f32) : Vec Ideal S256x1100 .f32 := View.ld x0 (Rect.unit ![0, 0] ![256, 1100] inb_S256x11100_S256x1100_0_0)
abbrev colsB (x0 : Vec Ideal S256x11100 .f32) : Vec Ideal S256x10076 .f32 := View.ld x0 (Rect.unit ![0, 1024] ![256, 10076] inb_S256x11100_S256x10076_0_1024)
/-- The three label columns of a block of labels. -/
abbrev labA (x1 : Vec Ideal S256x3 .i32) : Vec Ideal S256x1 .i32 := View.ld x1 (Rect.unit ![0, 0] ![256, 1] inb_S256x3_S256x1_0_0)
abbrev labB (x1 : Vec Ideal S256x3 .i32) : Vec Ideal S256x1 .i32 := View.ld x1 (Rect.unit ![0, 1] ![256, 1] inb_S256x3_S256x1_0_1)
abbrev labC (x1 : Vec Ideal S256x3 .i32) : Vec Ideal S256x1 .i32 := View.ld x1 (Rect.unit ![0, 2] ![256, 1] inb_S256x3_S256x1_0_2)

section block
variable (x0 : Vec Ideal S256x11100 .f32) (X : Fin 256 → ℕ → EReal) (hX : ∀ r, ∀ k : Fin 11100, x0 (ix2 r k) = X r k.val)
include hX

theorem colsA_row (r : Fin 256) (k : Fin 1100) : colsA x0 (ix2 r k) = X r k.val := by
  refine Eq.trans (b := x0 (ix2 r ⟨k.val, by omega⟩)) ?_ (hX r _)
  pointwise [colsA]
  blk_ext []

theorem colsB_row (r : Fin 256) (k : Fin 10076) : colsB x0 (ix2 r k) = X r (1024 + k.val) := by
  refine Eq.trans (b := x0 (ix2 r ⟨1024 + k.val, by omega⟩)) ?_ (hX r _)
  pointwise [colsB]

/-- What the body leaves in the output's block, row by row. -/
theorem block_out (y : S256x11100.Idx) : View.canon
      [⟨Rect.unit ![0, 1152] ![256, 9948] inb_S256x11100_S256x9948_0_1152,
          k0_pay26 (F := Ideal) (k0_pay14 (colsA x0) cols k0_pay2) (colsB x0) cols2⟩,
        ⟨Rect.unit ![0, 1024] ![256, 128] inb_S256x11100_S256x128_0_1024,
          k0_pay25 (F := Ideal) (colsB x0) (k0_pay23 (k0_pay12 (colsA x0) cols k0_pay2)) (k0_pay24 (k0_pay14 (colsA x0) cols k0_pay2)) 10#32⟩,
        ⟨Rect.unit ![0, 0] ![256, 1100] inb_S256x11100_S256x1100_0_0,
          k0_pay17 (F := Ideal) (colsA x0) (k0_pay15 (colsA x0) cols k0_pay2) k0_pay16⟩] y = outRow (X (y 0)) (y 1).val := by
  have hA := colsA_row x0 X hX
  have hB := colsB_row x0 X hX
  canon_tiles x h using View.cover_of_tiledBy _ ![256, 4] (by sl_kernel_rfl) y
  · rw [h1, show y 0 = (x 0 : Fin 256) from Fin.ext h0, eq_ix2 x]
    exact pay26_row (x 0) (X (x 0)) (colsB x0) (hB _) _ (pay14_row (x 0) (X (x 0)) (colsA x0) (hA _)) (x 1)
  · rw [h1, show y 0 = (x 0 : Fin 256) from Fin.ext h0, eq_ix2 x]
    exact pay25_row (x 0) (X (x 0)) (colsB x0) (hB _) _ _ (pay12_row (x 0) (X (x 0)) (colsA x0) (hA _)) (pay14_row (x 0) (X (x 0)) (colsA x0) (hA _)) (x 1)
  · rw [h1, show y 0 = (x 0 : Fin 256) from Fin.ext h0, eq_ix2 x]
    exact pay17_row (x 0) (X (x 0)) (colsA x0) (hA _) (x 1)

end block

/-- The block's contribution to the loss is added to what the loss held. -/
theorem pay1_at (a : Vec Ideal S1x1 .f32) (b : FVec Ideal S1x1x1 .f32) (j : S1x1.Idx) : k0_pay1 (F := Ideal) (k0_pay28 a) b j = a j + b (ix3 0 0 0) := by
  pointwise [k0_pay1, k0_pay28]

/-- The loss starts at zero. -/
theorem pay27_at (j : S1x1.Idx) : k0_pay27 (F := Ideal) j = 0 := by pointwise [k0_pay27]

/-- What the body adds to the loss for a block whose rows are samples. -/
theorem block_loss (x0 : Vec Ideal S256x11100 .f32) (x1 : Vec Ideal S256x3 .i32) (a : Vec Ideal S1x1 .f32) (M : Logits) (L : Hier.Labels) (hg : Good M L)
    (i : Fin 256 → Fin 4096) (hX : ∀ r, ∀ k : Fin 11100, x0 (ix2 r k) = row M (i r) k.val) (hL : ∀ r, ∀ o : Fin 3, x1 (ix2 r o) = L (ix2 (i r) o)) (j : S1x1.Idx) :
    k0_pay1 (F := Ideal) (k0_pay28 a)
      (k0_pay29 (labA x1) (labB x1) (k0_pay4 (colsA x0)) (k0_pay5 (colsA x0)) (k0_pay7 (labA x1) (colsA x0)) (k0_pay9 (k0_pay8 (labA x1) (colsA x0)))
        (k0_pay10 (labB x1) (colsA x0) cols) (k0_pay11 (colsA x0) cols k0_pay2) (k0_pay14 (colsA x0) cols k0_pay2)
        (k0_pay19 (k0_pay6 (colsA x0)) (colsB x0)) (k0_pay20 (labB x1) (colsB x0)) (k0_pay21 (labC x1) (colsB x0))) j
      = a j + ∑ r : Fin 256, perRow (row M (i r)) (lab L (i r) 0) (lab L (i r) 1) (lab L (i r) 2) := by
  rw [pay1_at]
  congr 1
  refine pay29_block (labA x1) (labB x1) (labC x1) (colsA x0) (colsB x0) (fun r => row M (i r)) (fun r => lab L (i r) 0) (fun r => lab L (i r) 1)
    (fun r => lab L (i r) 2) (fun r => hg.lab0 _) (fun r => hg.lab1_lt _) (fun r => hg.lab2_lt _) (fun r => hg.row _) ?_ ?_ ?_
    (colsA_row x0 _ hX) (colsB_row x0 _ hX) _
  all_goals
    intro r
    refine Eq.trans ?_ (lab_word L (i r) _)
    refine Eq.trans ?_ (hL r _)
    pointwise [labA, labB, labC]
    try blk_ext []

/-- The rows of block `t`. -/
def blkRow (t : Fin cfg0.N) (r : Fin 256) : Fin 4096 := ⟨256 * t.val + r.val, by have := (idx t).2.2.2; omega⟩

theorem blk_logits (c : Dev nD) (t : Fin cfg0.N) (r : Fin 256) (k : Fin 11100) :
    (show Vec Ideal S256x11100 .f32 from iblk m c 0 t) (ix2 r k) = row (m ((c : Thread nD τ).loc main_arg0)) (blkRow t r) k.val := by
  rw [row_of]
  unfold blkRow
  blk_ext [iblk, V, idx t]

theorem blk_labels (c : Dev nD) (t : Fin cfg0.N) (r : Fin 256) (o : Fin 3) :
    (show Vec Ideal S256x3 .i32 from iblk m c 1 t) (ix2 r o) = (show Hier.Labels from m ((c : Thread nD τ).loc main_arg2)) (ix2 (blkRow t r) o) := by
  unfold blkRow
  blk_ext [iblk, V, idx t]

theorem emb_out (M : Logits) (t : Fin cfg0.N) (y : S256x11100.Idx) :
    outRow (row M (blkRow t (y 0))) (y 1).val = outs M (((cfg0.win 2).blk t).view.emb y) := by
  have h0 : (((cfg0.win 2).blk t).view.emb y 0).val = 256 * t.val + (y 0).val := by blk_simp [idx t]; omega
  have h1 : (((cfg0.win 2).blk t).view.emb y 1).val = (y 1).val := by blk_simp [idx t]
  show _ = outRow (row M _) _
  rw [h1]
  congr 2
  exact Fin.ext h0.symm

/-- The first result of the kernel. -/
theorem final2 (c : Dev nD) : (dats m 0 c).arrAt 2 (cfgs 0).N = outs (m ((c : Thread nD τ).loc main_arg0)) := by
  refine (dats m 0 c).arrAt_eq_of_covers 2 _ (by decide +kernel) fun t hf y => ?_
  refine Eq.trans ?_ (emb_out (m ((c : Thread nD τ).loc main_arg0)) t y)
  blk_simp
  rw [after0_2]
  by_cases h : t.val % 16 = 0
  · rw [outsAt0_A m c t h]
    frame_out
    exact block_out _ _ (blk_logits m c t) y
  · rw [outsAt0_B m c t h]
    frame_out
    exact block_out _ _ (blk_logits m c t) y

/-- What block `t` adds to the loss. -/
def blkLoss (M : Logits) (L : Hier.Labels) (t : Fin cfg0.N) : EReal :=
  ∑ r : Fin 256, perRow (row M (blkRow t r)) (lab L (blkRow t r) 0) (lab L (blkRow t r) 1) (lab L (blkRow t r) 2)

/-- The loss array after the run. -/
theorem final3 (c : Dev nD) (hg : Good (m ((c : Thread nD τ).loc main_arg0)) (m ((c : Thread nD τ).loc main_arg2))) :
    (dats m 0 c).arrAt 3 (cfgs 0).N = fun _ => total (m ((c : Thread nD τ).loc main_arg0)) (m ((c : Thread nD τ).loc main_arg2)) := by
  refine (dats m 0 c).arrAt_eq_of_after_last 3 t0_15 (by decide +kernel) _ fun j => ?_
  blk_simp
  rw [after0_3]
  rw [Pipeline.eq_sum_fin_of_reset_step_apply_last (fun n h => (outsAt0 m c n h).2) 16 (fun _ => 0)
    (fun t _ => blkLoss (m ((c : Thread nD τ).loc main_arg0)) (m ((c : Thread nD τ).loc main_arg2)) t)
    (fun t h j => by
      rw [outsAt0_A m c t h]; frame_out
      refine (block_loss _ _ _ _ _ hg (blkRow t) (blk_logits m c t) (blk_labels m c t) j).trans ?_
      rw [pay27_at]; rfl)
    (fun t h j => by
      rw [outsAt0_B m c t h]; frame_out
      exact block_loss _ _ _ _ _ hg (blkRow t) (blk_logits m c t) (blk_labels m c t) j)
    (le_of_eq N_0) t0_15 rfl j, zero_add]
  unfold total blkLoss
  refine Fin.sum_mul_add_congr (S := cfg0.N) (n := 256) (L := 4096) (fun s k hl => ?_) (by show 4096 = grid0.N * 256; rw [N_0])
  have e : blkRow s k = ⟨s.val * 256 + k.val, hl⟩ := Fin.ext (by show 256 * s.val + k.val = s.val * 256 + k.val; omega)
  rw [e]

end Cert.KernelIdeal.Value
end
-- ==== Proof.KernelRun.lean ====
/-
  The kernel's run on good arguments: what its two results hold when it ends.
-/
module

public import proofs.«01_k».proof.Proof.KernelValue

@[expose] public section

noncomputable section

namespace Cert.KernelIdeal.Value

open Idealize.ShloMosaic Idealize.ShloMosaic.TcCoe Idealize.SL.Sem
open Cert.KernelIdeal Cert.KernelIdeal.Gen Cert.Hier

variable (m : (ℓ : Loc nD τ sig) → Buf (Elt Ideal) ℓ) (ρ : Dev nD → PrngReg)

/-- After the run the loss is the single number of the loss array. -/
theorem tail_loss (c : Dev nD) (hg : Good (m ((c : Thread nD τ).loc main_arg0)) (m ((c : Thread nD τ).loc main_arg2))) :
    Pipeline.afterTail₀ cfgs (dats m) 0 (V0 m) [hostOps1] c main_v1
      = fun _ => total (m ((c : Thread nD τ).loc main_arg0)) (m ((c : Thread nD τ).loc main_arg2)) := by
  have e : Pipeline.withArrays spec0 c (V0 m c) (fun w => (dats m 0 c).arrAt w (cfgs 0).N) (Proc.devRef .tc main_v0_1)
      = (dats m 0 c).arrAt 3 (cfgs 0).N := Pipeline.withArrays_arr spec0 (by decide) c _ _ 3
  rw [final3 m c hg] at e
  unfold Pipeline.afterTail₀
  rw [show ([hostOps1] : List (List (HloOp τ sig (Elt Ideal)))).flatten = [StableHlo.reshape main_v0_1 main_v1 (rfl : (.f32 : EltTy) = .f32) shapeCasts_S1x1_S_] from rfl]
  rw [StableHlo.after_cons, StableHlo.after_nil]
  refine (StableHlo.reshape_result' _ _ _ _ _).trans ?_
  rw [e]
  rfl

/-- The kernel ends with the two results in place and its arguments as they were. -/
theorem run (hg : ∀ c : Dev nD, Good (m ((c : Thread nD τ).loc main_arg0)) (m ((c : Thread nD τ).loc main_arg2))) :
    θ_run defs (onTc (τ := τ) (main (F := Ideal))) ⟨m, fun _ => 0, ρ⟩ (fun r => ∀ c : Dev nD,
      r.2.mem ((c.tc : Thread nD τ).loc main_v0_0) = outs (m ((c : Thread nD τ).loc main_arg0))
      ∧ r.2.mem ((c.tc : Thread nD τ).loc main_v1) = (fun _ => total (m ((c : Thread nD τ).loc main_arg0)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 2).trans (final2 m c),
      ((h.1 c).2 main_v1 (Pipeline.mem_restRefs_of main_v1 (by decide) (by decide))).trans (tail_loss m c (hg c)), h.2 c⟩)
    (θ_run_and (run_main m ρ) (unchanged m ρ))

end Cert.KernelIdeal.Value

end
-- ==== Proof.RefGather.lean ====
/-
  `take_along_axis` along the rows, read at one row: where the column exists, the row's entry there.
-/
module

public import proofs.«01_k».proof.Proof.RefTerms
public import proofs.«01_k».proof.Proof.Words
public import proofs.«01_k».proof.Proof.Spec

@[expose] public section

set_option maxRecDepth 16384

noncomputable section

namespace Cert.ReferenceIdeal.Ref

open Cert.ReferenceIdeal Cert.ReferenceIdeal.Gen Idealize.ShloMosaic Idealize.ShloMosaic.TcCoe Cert.Words

/-- Of each of 4096 rows of `n` entries, `k` entries at columns given by row. -/
abbrev colsDims (n k : Nat) (wf : GatherDims.WF (Mat n) (Mat1 k) (Mat k) [] [1] [0] [1] [0] 2 ![1, 1]) : GatherDims (Mat n) (Mat1 k) (Mat k) where
  offsetDims := []
  collapsedSliceDims := [1]
  operandBatchingDims := [0]
  startIndicesBatchingDims := [0]
  startIndexMap := [1]
  indexVectorDim := 2
  sliceSizes := ![1, 1]
  wf := wf

/-- A gather along the rows reads its own row, at the column its index word names, when that column exists. -/
theorem gather_cols {α : Type} {n k : Nat} (wf : GatherDims.WF (Mat n) (Mat1 k) (Mat k) [] [1] [0] [1] [0] 2 ![1, 1])
    (x : (Mat n).Idx → α) (J : IVec (Mat1 k) 32) (i : Fin 4096) (c : Fin k) (j : Fin n) (hn : n < 2 ^ 31)
    (hJ : J (ix3 i c 0) = BitVec.ofNat 32 j.val) :
    Host.gather (colsDims n k wf) x J (ix2 i c) = x (ix2 i j) := by
  unfold Host.gather
  congr 1
  funext a
  refine Fin.ext ?_
  have hj := j.isLt
  have hs : (colsDims n k wf).siIdx (ix2 i c) ⟨List.idxOf (1 : Fin 2) (colsDims n k wf).startIndexMap,
      List.idxOf_lt_length_iff.2 (List.mem_singleton.mpr rfl)⟩ = ix3 i c 0 := by
    funext b
    match b with
    | ⟨0, _⟩ => rfl
    | ⟨1, _⟩ => rfl
    | ⟨2, _⟩ => rfl
  match a with
  | ⟨0, _⟩ =>
    show (colsDims n k wf).start (ix2 i c) J 0 + (colsDims n k wf).batchCoord (ix2 i c) 0 + (colsDims n k wf).offCoord (ix2 i c) 0 = i.val
    have h1 : (colsDims n k wf).start (ix2 i c) J 0 = 0 := GatherDims.start_batching _ _ _ _ (List.mem_singleton.mpr rfl)
    have h2 : (colsDims n k wf).offCoord (ix2 i c) 0 = 0 :=
      GatherDims.offCoord_eq_zero _ _ _ (fun h => ((GatherDims.mem_sKept _ _).mp h).2 (List.mem_singleton.mpr rfl))
    have h3 : (colsDims n k wf).batchCoord (ix2 i c) 0 = i.val := by
      unfold GatherDims.batchCoord
      rw [dif_pos (List.mem_singleton.mpr rfl)]
      rfl
    omega
  | ⟨1, _⟩ =>
    show (colsDims n k wf).start (ix2 i c) J 1 + (colsDims n k wf).batchCoord (ix2 i c) 1 + (colsDims n k wf).offCoord (ix2 i c) 1 = j.val
    have h1 : (colsDims n k wf).batchCoord (ix2 i c) 1 = 0 := GatherDims.batchCoord_eq_zero _ _ _ (fun h => by simp at h)
    have h2 : (colsDims n k wf).offCoord (ix2 i c) 1 = 0 :=
      GatherDims.offCoord_eq_zero _ _ _ (fun h => ((GatherDims.mem_sKept _ _).mp h).1 (List.mem_singleton.mpr rfl))
    have h3 : (colsDims n k wf).start (ix2 i c) J 1 = j.val := by
      unfold GatherDims.start
      rw [dif_pos (show (1 : Fin 2) ∈ (colsDims n k wf).startIndexMap from List.mem_singleton.mpr rfl), hs, hJ, toInt_small (by omega)]
      show min ((j.val : ℤ).toNat) (n - 1) = j.val
      omega
    omega

/-- A table of one-entry lists made from a table. -/
theorem cast1 {α : Type} (W : S4096x1.Idx → α) (i : Fin 4096) (c : Fin 1) :
    shapeCast S4096x1x1 W shapeCasts_S4096x1_S4096x1x1 (ix3 i c 0) = W (ix2 i c) := by
  obtain rfl : c = 0 := Subsingleton.elim _ _
  pointwise

theorem cast10 {α : Type} (W : S4096x10.Idx → α) (i : Fin 4096) (c : Fin 10) :
    shapeCast S4096x10x1 W shapeCasts_S4096x10_S4096x10x1 (ix3 i c 0) = W (ix2 i c) := by
  pointwise

theorem andi_one_one (a : BitVec 1) : IntOp.andi a 1#1 = a := by
  show a &&& 1#1 = a
  revert a; decide

/-- A conjunction over a list of one bit is that bit. -/
theorem fold_one (f : Fin 1 → BitVec 1) : (Finset.univ : Finset (Fin 1)).fold IntOp.andi 1#1 f = f 0 := by
  rw [Finset.univ_unique, Finset.fold_singleton]
  exact andi_one_one _

/-- The bit that says that a column exists is set when its word is small. -/
theorem in1 (M : ℕ) (J : IVec S4096x1x1 32) (i : Fin 4096) (c : Fin 1) (j : ℕ) (hj : j ≤ M) (hM : M < 2 ^ 31) (hJ : J (ix3 i c 0) = BitVec.ofNat 32 j) :
    inT 1 bcast_S_S4096x1x1 bcast_S1x1x1_S4096x1x1_0_1_2 reducesTo_S4096x1x1_S4096x1_d2 (BitVec.ofNat 32 M) J (ix2 i c) = 1#1 := by
  unfold inT
  obtain rfl : c = 0 := Subsingleton.elim _ _
  rw [Host.reduce_eq_fold]
  refine Eq.trans (b := IntOp.andi (IntOp.cmpi .sge (J (ix3 i 0 0)) 0#32) (IntOp.cmpi .sle (J (ix3 i 0 0)) (BitVec.ofNat 32 M))) ?_ ?_
  · pointwise
    exact fold_one _
  · rw [hJ]
    exact (andi_iff (sge_iff (b := 0) (by omega) (by omega)) (sle_iff (by omega) hM)).mpr ⟨Nat.zero_le _, hj⟩

theorem in10 (M : ℕ) (J : IVec S4096x10x1 32) (i : Fin 4096) (c : Fin 10) (j : ℕ) (hj : j ≤ M) (hM : M < 2 ^ 31) (hJ : J (ix3 i c 0) = BitVec.ofNat 32 j) :
    inT 10 bcast_S_S4096x10x1 bcast_S1x1x1_S4096x10x1_0_1_2 reducesTo_S4096x10x1_S4096x10_d2 (BitVec.ofNat 32 M) J (ix2 i c) = 1#1 := by
  unfold inT
  rw [Host.reduce_eq_fold]
  refine Eq.trans (b := IntOp.andi (IntOp.cmpi .sge (J (ix3 i c 0)) 0#32) (IntOp.cmpi .sle (J (ix3 i c 0)) (BitVec.ofNat 32 M))) ?_ ?_
  · pointwise
    exact fold_one _
  · rw [hJ]
    exact (andi_iff (sge_iff (b := 0) (by omega) (by omega)) (sle_iff (by omega) hM)).mpr ⟨Nat.zero_le _, hj⟩

/-- A column that is counted from the start stays as it is. -/
theorem wrap_at {k : Nat} (hb : S_.BroadcastsInDim (Mat k) (![] : Fin 0 → Fin (Mat k).rank)) (N : BitVec 32) (I : IVec (Mat k) 32) (i : Fin 4096) (c : Fin k)
    (j : ℕ) (hj : j < 2 ^ 31) (hI : I (ix2 i c) = BitVec.ofNat 32 j) : wrapT k hb N I (ix2 i c) = BitVec.ofNat 32 j := by
  show Scalar.select (IntOp.cmpi .slt (I (ix2 i c)) 0#32) (IntOp.addi (I (ix2 i c)) N) (I (ix2 i c)) = _
  rw [hI, select_iff (slt_iff (b := 0) hj (by omega)), if_neg (by omega)]

theorem select_at {s : Shape} {α : Type} (p : IVec s 1) (a b : s.Idx → α) (i : s.Idx) : select p a b i = Scalar.select (p i) (a i) (b i) := rfl

/-- `take_along_axis` of one entry per row. -/
theorem take1_at {α : Type} {n : Nat} (hn : n < 2 ^ 31) (wf : GatherDims.WF (Mat n) (Mat1 1) (Mat 1) [] [1] [0] [1] [0] 2 ![1, 1])
    (N : BitVec 32) (M : ℕ) (hM : M = n - 1) (fill : (Mat 1).Idx → α) (x : (Mat n).Idx → α) (I : IVec (Mat 1) 32) (i : Fin 4096) (j : Fin n)
    (hI : I (ix2 i 0) = BitVec.ofNat 32 j.val) :
    takeT n 1 (colsDims n 1 wf) bcast_S_S4096x1 shapeCasts_S4096x1_S4096x1x1 bcast_S_S4096x1x1 bcast_S1x1x1_S4096x1x1_0_1_2
      reducesTo_S4096x1x1_S4096x1_d2 N (BitVec.ofNat 32 M) fill x I (ix2 i 0) = x (ix2 i j) := by
  have hj := j.isLt
  have hw := (cast1 (wrapT 1 bcast_S_S4096x1 N I) i 0).trans (wrap_at bcast_S_S4096x1 N I i 0 j.val (by omega) hI)
  unfold takeT
  rw [select_at]
  rw [in1 M _ i 0 j.val (by omega) (by omega) hw, gather_cols wf x _ i 0 j hn hw]
  rfl

/-- `take_along_axis` of ten entries per row. -/
theorem take10_at {α : Type} {n : Nat} (hn : n < 2 ^ 31) (wf : GatherDims.WF (Mat n) (Mat1 10) (Mat 10) [] [1] [0] [1] [0] 2 ![1, 1])
    (N : BitVec 32) (M : ℕ) (hM : M = n - 1) (fill : (Mat 10).Idx → α) (x : (Mat n).Idx → α) (I : IVec (Mat 10) 32) (i : Fin 4096) (c : Fin 10) (j : Fin n)
    (hI : I (ix2 i c) = BitVec.ofNat 32 j.val) :
    takeT n 10 (colsDims n 10 wf) bcast_S_S4096x10 shapeCasts_S4096x10_S4096x10x1 bcast_S_S4096x10x1 bcast_S1x1x1_S4096x10x1_0_1_2
      reducesTo_S4096x10x1_S4096x10_d2 N (BitVec.ofNat 32 M) fill x I (ix2 i c) = x (ix2 i j) := by
  have hj := j.isLt
  have hw := (cast10 (wrapT 10 bcast_S_S4096x10 N I) i c).trans (wrap_at bcast_S_S4096x10 N I i c j.val (by omega) hI)
  unfold takeT
  rw [select_at]
  rw [in10 M _ i c j.val (by omega) (by omega) hw, gather_cols wf x _ i c j hn hw]
  rfl

variable {F : FTy → Type} [FloatOps F]

/-- One number per row, read as a column. -/
theorem col_at (l : IVec S4096 32) (i : Fin 4096) : colT l (ix2 i 0) = l (ix1 i) := by
  unfold colT
  pointwise

theorem flat_at {α : Type} (W : S4096x1.Idx → α) (i : Fin 4096) : shapeCast S4096 W shapeCasts_S4096x1_S4096 (ix1 i) = W (ix2 i 0) := by
  pointwise

/-- The entry that a label names. -/
theorem pick_at {n : Nat} (hn : n < 2 ^ 31) (wf : GatherDims.WF (Mat n) (Mat1 1) (Mat 1) [] [1] [0] [1] [0] 2 ![1, 1]) (N : BitVec 32) (M : ℕ)
    (hM : M = n - 1) (x : FVec F (Mat n) .f32) (l : IVec S4096 32) (i : Fin 4096) (j : Fin n) (hl : l (ix1 i) = BitVec.ofNat 32 j.val) :
    pickT n (colsDims n 1 wf) N (BitVec.ofNat 32 M) x l (ix1 i) = x (ix2 i j) :=
  (flat_at _ i).trans (take1_at hn wf N M hM _ x _ i j ((col_at l i).trans hl))

/-- Ten logits of a row, each at its own column. -/
theorem take10T_at (x : FVec F S4096x11100 .f32) (I : IVec S4096x10 32) (i : Fin 4096) (c : Fin 10) (j : Fin 11100) (hI : I (ix2 i c) = BitVec.ofNat 32 j.val) :
    take10T x I (ix2 i c) = x (ix2 i j) :=
  take10_at (n := 11100) (by decide) gather_S4096x11100_S4096x10x1_S4096x10_n_1_0_0_1_2_11_wf 11100#32 11099 rfl _ x I i c j hI

/-- Of ten columns the one at place `p`. -/
theorem pickColT_at (I : IVec S4096x10 32) (l : IVec S4096 32) (i : Fin 4096) (p : Fin 10) (hl : l (ix1 i) = BitVec.ofNat 32 p.val) :
    pickColT I l (ix1 i) = I (ix2 i p) :=
  (flat_at _ i).trans (take1_at (n := 10) (by decide) gather_S4096x10_S4096x1x1_S4096x1_n_1_0_0_1_2_11_wf 10#32 9 rfl _ I _ i p ((col_at l i).trans hl))

/-- The ten columns, counted up from `B + 10 l`. -/
theorem child_at (B a : ℕ) (l : IVec S4096 32) (i : Fin 4096) (c : Fin 10) (hl : l (ix1 i) = BitVec.ofNat 32 a) :
    childT (BitVec.ofNat 32 B) l (ix2 i c) = BitVec.ofNat 32 (B + 10 * a + c.val) := by
  refine Eq.trans (b := IntOp.addi (IntOp.addi (IntOp.muli (colT l (ix2 i 0)) 10#32) (BitVec.ofNat 32 c.val)) (BitVec.ofNat 32 B)) ?_ ?_
  · unfold childT
    pointwise
  · rw [col_at, hl, show (10#32 : BitVec 32) = BitVec.ofNat 32 10 from rfl, muli_eq, addi_eq, addi_eq]
    exact congrArg (BitVec.ofNat 32) (by omega)

/-- A label's rank among its siblings. -/
theorem rel_at (a b : IVec S4096 32) (i : Fin 4096) (p q : ℕ) (ha : a (ix1 i) = BitVec.ofNat 32 p) (hb : b (ix1 i) = BitVec.ofNat 32 q) (h : 10 * q ≤ p) :
    relT a b (ix1 i) = BitVec.ofNat 32 (p - 10 * q) := by
  show IntOp.subi (a (ix1 i)) (IntOp.muli (b (ix1 i)) 10#32) = _
  rw [ha, hb, show (10#32 : BitVec 32) = BitVec.ofNat 32 10 from rfl, muli_eq, subi_eq (by omega), mul_comm]

/-- A label column. -/
theorem lab_at (o : Fin 3) (hs : S4096x3.Slices ![0, o.val] S4096x1) (L : IVec S4096x3 32) (i : Fin 4096) :
    labT o hs L (ix1 i) = BitVec.ofNat 32 (Hier.lab L i o) := by
  rw [← Hier.lab_word]
  unfold labT
  pointwise

end Cert.ReferenceIdeal.Ref

end
-- ==== Proof.RefRows.lean ====
/-
  The reference's row maxima, read at one row: the logarithm of the sum of exponentials, and the column of the largest
  entry.
-/
module

public import proofs.«01_k».proof.Proof.RefTerms
public import proofs.«01_k».proof.Proof.Words
public import proofs.«01_k».proof.Proof.RowMath
public import Idealize.ShloMosaic.Lib.Pointwise
public import Idealize.ShloMosaic.PureOps.Ideal.Laws

@[expose] public section

set_option maxRecDepth 16384

noncomputable section

namespace Cert.ReferenceIdeal.Ref

open Cert.ReferenceIdeal Cert.ReferenceIdeal.Gen Idealize.ShloMosaic Idealize.ShloMosaic.TcCoe Cert.Words Cert.Hier

theorem negInf : Ideal.ofBits .f32 0xFF800000#32 = ⊥ := by simp [Ideal.ofBits, Ideal.ieee]
theorem posInf : Ideal.ofBits .f32 0x7F800000#32 = ⊤ := by simp [Ideal.ofBits, Ideal.ieee]

/-- The largest of `n` numbers, started from minus infinity. -/
theorem fold_max (n : ℕ) (hn : 0 < n) (f : ℕ → EReal) :
    ∃ k < n, f k = (Finset.univ : Finset (Fin n)).fold max ⊥ (fun j : Fin n => f j.val)
      ∧ ∀ j < n, f j ≤ (Finset.univ : Finset (Fin n)).fold max ⊥ (fun j : Fin n => f j.val) := by
  obtain ⟨k, hk, hle, -⟩ := exists_isTop f 0 hn
  simp only [Nat.zero_add] at hle
  have e : (Finset.univ : Finset (Fin n)).fold max ⊥ (fun j : Fin n => f j.val) = f k :=
    le_antisymm ((Finset.fold_max_le _).mpr ⟨bot_le, fun j _ => hle j.val j.isLt⟩)
      ((Finset.le_fold_max _).mpr (Or.inr ⟨⟨k, hk⟩, Finset.mem_univ _, le_rfl⟩))
  rw [e]
  exact ⟨k, hk, rfl, hle⟩

/-- A row's largest entry, or zero when that is minus infinity. -/
theorem rowTop_at {n : ℕ} (hn : 0 < n) (hr : (Mat n).ReducesTo [1] S4096) (x : FVec Ideal (Mat n) .f32) (i : Fin 4096) (f : ℕ → EReal)
    (hx : ∀ j : Fin n, x (ix2 i j) = f j.val) (hf : ∀ j < n, f j ≠ ⊤) :
    ∃ m : EReal, (∃ k < n, f k = m ∧ ∀ j < n, f j ≤ m) ∧ rowTop n hr x (ix1 i) = if m = ⊥ then 0 else m := by
  have e : (Finset.univ : Finset (Fin n)).fold max (Ideal.ofBits .f32 0xFF800000#32) (fun j => x (ix2 i j))
      = (Finset.univ : Finset (Fin n)).fold max ⊥ (fun j : Fin n => f j.val) := by
    rw [negInf]
    exact congrArg (fun g => (Finset.univ : Finset (Fin n)).fold max ⊥ g) (funext hx)
  have h := fold_max n hn f
  rw [← e] at h
  generalize hm : (Finset.univ : Finset (Fin n)).fold max (Ideal.ofBits .f32 0xFF800000#32) (fun j => x (ix2 i j)) = m at h
  refine ⟨m, h, ?_⟩
  obtain ⟨k, hk, hkm, -⟩ := h
  have hT : m ≠ ⊤ := hkm ▸ hf k hk
  refine Eq.trans (b := Scalar.select (Ideal.cmp .olt (max m (-m)) ⊤) m 0) ?_ ?_
  · unfold rowTop
    pointwise
    simp only [hm, posInf]
    rfl
  · rw [select_iff (P := m ≠ ⊥)]
    · by_cases hb : m = ⊥
      · rw [if_neg (not_not.mpr hb), if_pos hb]
      · rw [if_pos hb, if_neg hb]
    · show BitVec.ofBool _ = 1#1 ↔ _
      rw [ofBool_one, decide_eq_true_iff]
      induction m using EReal.rec with
      | bot => simp
      | top => exact absurd rfl hT
      | coe r =>
        simp [← EReal.coe_neg, EReal.coe_lt_top]

/-- The logarithm of the sum of a row's exponentials. -/
theorem lse_at {n : ℕ} (hn : 0 < n) (hr : (Mat n).ReducesTo [1] S4096) (hb : S4096x1.BroadcastsInDim (Mat n) (![0, 1] : Fin 2 → Fin (Mat n).rank))
    (x : FVec Ideal (Mat n) .f32) (i : Fin 4096) (f : ℕ → EReal) (w : ℕ) (hx : ∀ j : Fin n, x (ix2 i j) = f (w + j.val)) (hf : ∀ j, f j ≠ ⊤) :
    lseT n hr hb x (ix1 i) = lse f w n := by
  obtain ⟨m, hm, ht⟩ := rowTop_at hn hr x i (fun j => f (w + j)) hx (fun j _ => hf _)
  refine Eq.trans (b := Ideal.log (∑ j : Fin n, Ideal.exp (x (ix2 i j) - rowTop n hr x (ix1 i))) + rowTop n hr x (ix1 i)) ?_ ?_
  · unfold lseT
    pointwise
  · unfold lse
    rw [← log_sum_shift_top n (fun j => f (w + j)) (fun j _ => hf _) hn m hm _ ht, Finset.sum_range]
    simp only [hx]

/-- One comparison of the search for the largest entry: the larger value wins, and of equal ones the smaller column. -/
theorem step_at (a b : EReal) (p q : ℕ) (hp : p < 2 ^ 31) (hq : q < 2 ^ 31) :
    reducer_argmax_f32_i32 (F := Ideal) (a, BitVec.ofNat 32 p) (b, BitVec.ofNat 32 q)
      = if b < a ∨ (a = b ∧ p < q) then (a, BitVec.ofNat 32 p) else (b, BitVec.ofNat 32 q) := by
  have h2 : (FloatOps.cmpf (F := Ideal) (φ := .f32) .ogt a b = 1#1) ↔ b < a := by
    show BitVec.ofBool _ = 1#1 ↔ _
    rw [ofBool_one, decide_eq_true_iff]
  have h3 : (FloatOps.cmpf (F := Ideal) (φ := .f32) .une a a = 1#1) ↔ False := by
    show BitVec.ofBool _ = 1#1 ↔ _
    rw [ofBool_one, decide_eq_true_iff]; simp
  have h5 : (FloatOps.cmpf (F := Ideal) (φ := .f32) .oeq a b = 1#1) ↔ a = b := by
    show BitVec.ofBool _ = 1#1 ↔ _
    rw [ofBool_one, decide_eq_true_iff]
  have h4 := ori_iff h2 h3
  have h8 := ori_iff h4 (andi_iff h5 (slt_iff hp hq))
  unfold reducer_argmax_f32_i32
  simp only [select_iff h4, select_iff h8, or_false]
  by_cases h : b < a
  · rw [if_pos h, if_pos (Or.inl h), if_pos (Or.inl h)]
  · rw [if_neg h]
    by_cases h' : a = b ∧ p < q
    · rw [if_pos (Or.inr h'), if_pos (Or.inr h'), h'.1]
    · rw [if_neg (by tauto), if_neg (by tauto)]

/-- The search over any list finds an entry that no other beats. -/
theorem search (l : List (EReal × ℕ)) (hl : ∀ p ∈ l, p.2 < 2 ^ 31) (b : EReal × ℕ) (hb : b.2 < 2 ^ 31) :
    ∃ r ∈ b :: l, (l.map fun p => (p.1, BitVec.ofNat 32 p.2)).foldl (reducer_argmax_f32_i32 (F := Ideal)) (b.1, BitVec.ofNat 32 b.2) = (r.1, BitVec.ofNat 32 r.2)
      ∧ ∀ p ∈ b :: l, p.1 < r.1 ∨ (p.1 = r.1 ∧ r.2 ≤ p.2) := by
  induction l generalizing b with
  | nil => exact ⟨b, List.mem_singleton.mpr rfl, rfl, fun p hp => by rw [List.mem_singleton.mp hp]; exact Or.inr ⟨rfl, le_rfl⟩⟩
  | cons q l ih =>
    have hq := hl q (List.mem_cons_self ..)
    rw [List.map_cons, List.foldl_cons, step_at b.1 q.1 b.2 q.2 hb hq]
    by_cases h : q.1 < b.1 ∨ (b.1 = q.1 ∧ b.2 < q.2)
    · rw [if_pos h]
      obtain ⟨r, hr, he, hp⟩ := ih (fun p hp => hl p (List.mem_cons_of_mem _ hp)) b hb
      refine ⟨r, ?_, he, fun p hm => ?_⟩
      · rcases List.mem_cons.mp hr with h | h
        · exact h ▸ List.mem_cons_self ..
        · exact List.mem_cons_of_mem _ (List.mem_cons_of_mem _ h)
      · rcases List.mem_cons.mp hm with rfl | hm
        · exact hp _ (List.mem_cons_self ..)
        · rcases List.mem_cons.mp hm with rfl | hm
          · have hb' := hp b (List.mem_cons_self ..)
            rcases h with h | ⟨h, h'⟩ <;> rcases hb' with g | ⟨g, g'⟩
            · exact Or.inl (h.trans g)
            · exact Or.inl (g ▸ h)
            · exact Or.inl (h ▸ g)
            · exact Or.inr ⟨h.symm.trans g, by omega⟩
          · exact hp _ (List.mem_cons_of_mem _ hm)
    · rw [if_neg h]
      obtain ⟨r, hr, he, hp⟩ := ih (fun p hp => hl p (List.mem_cons_of_mem _ hp)) q hq
      refine ⟨r, List.mem_cons_of_mem _ hr, he, fun p hm => ?_⟩
      rcases List.mem_cons.mp hm with rfl | hm
      · have hb' := hp q (List.mem_cons_self ..)
        push Not at h
        rcases lt_or_eq_of_le h.1 with g | g
        · rcases hb' with u | ⟨u, u'⟩
          · exact Or.inl (g.trans u)
          · exact Or.inl (u ▸ g)
        · have := h.2 g
          rcases hb' with u | ⟨u, u'⟩
          · exact Or.inl (g ▸ u)
          · exact Or.inr ⟨g.trans u, by omega⟩
      · exact hp _ hm

/-- The column of the largest entry of a row. -/
theorem am_at {n : ℕ} (hn : 0 < n) (hN : n < 2 ^ 31) (hr : (Mat n).ReducesTo [1] S4096) (x : FVec Ideal (Mat n) .f32) (i : Fin 4096) (f : ℕ → EReal) (w : ℕ)
    (hx : ∀ j : Fin n, x (ix2 i j) = f (w + j.val)) : amT n hr x (ix1 i) = BitVec.ofNat 32 (top f w n) := by
  unfold amT
  rw [Ideal.argReduce_eq_reduce2, Host.reduce2_eq_foldl_fiber]
  unfold Host.argReduceFiber
  have hmem : ∀ y : (Mat n).Idx, hr.drop y = ix1 i ↔ ∃ k : Fin n, ix2 i k = y := fun y => hr.fiber_r2_a1 (ix1 i) y
  generalize hL : (List.filter (fun k => decide (hr.drop ((Mat n).rowMajor.symm k) = ix1 i)) (List.finRange (Mat n).numel)) = L
  have hin : ∀ k, k ∈ L ↔ ∃ c : Fin n, ix2 i c = (Mat n).rowMajor.symm k := fun k => by
    rw [← hL, List.mem_filter, decide_eq_true_iff, hmem]
    exact ⟨fun h => h.2, fun h => ⟨List.mem_finRange _, h⟩⟩
  have hmap : L.map (fun k => (x ((Mat n).rowMajor.symm k), iotaInDim (Mat n) 32 1 ((Mat n).rowMajor.symm k)))
      = (L.map (fun k => (x ((Mat n).rowMajor.symm k), ((Mat n).rowMajor.symm k 1).val))).map fun p => (p.1, BitVec.ofNat 32 p.2) := by
    rw [List.map_map]; rfl
  have hpair : ∀ p : EReal × ℕ, p ∈ L.map (fun k => (x ((Mat n).rowMajor.symm k), ((Mat n).rowMajor.symm k 1).val)) ↔ ∃ c : Fin n, p = (f (w + c.val), c.val) := by
    intro p
    rw [List.mem_map]
    constructor
    · rintro ⟨k, hk, rfl⟩
      obtain ⟨c, hc⟩ := (hin k).mp hk
      exact ⟨c, by rw [← hc, hx]; rfl⟩
    · rintro ⟨c, rfl⟩
      refine ⟨(Mat n).rowMajor (ix2 i c), (hin _).mpr ⟨c, by rw [Equiv.symm_apply_apply]⟩, ?_⟩
      rw [Equiv.symm_apply_apply, hx]; rfl
  rw [hmap]
  obtain ⟨r, hr', he, hp⟩ := search (L.map (fun k => (x ((Mat n).rowMajor.symm k), ((Mat n).rowMajor.symm k 1).val)))
    (fun p hp => by obtain ⟨c, rfl⟩ := (hpair p).mp hp; have := c.isLt; show c.val < _; omega) (⊥, 0) (by decide)
  have h0 : (constant (F := Ideal) S_ .f32 0xFF800000#32 (Shape.Idx.first h_S_), constantI S_ 32 0#32 (Shape.Idx.first h_S_)) = ((⊥ : EReal), BitVec.ofNat 32 0) :=
    Prod.ext negInf rfl
  rw [h0]
  refine (congrArg Prod.snd he).trans ?_
  have hle : ∀ c < n, f (w + c) < r.1 ∨ (f (w + c) = r.1 ∧ r.2 ≤ c) := fun c hc =>
    hp (f (w + c), c) (List.mem_cons_of_mem _ ((hpair _).mpr ⟨⟨c, hc⟩, rfl⟩))
  have hr2 : r.2 < n ∧ f (w + r.2) = r.1 := by
    rcases List.mem_cons.mp hr' with rfl | h
    · refine ⟨hn, ?_⟩
      rcases hle 0 hn with h | h
      · exact absurd h not_lt_bot
      · exact h.1
    · obtain ⟨c, rfl⟩ := (hpair r).mp h
      exact ⟨c.isLt, rfl⟩
  have ht : IsTop f w n r.2 := by
    refine ⟨hr2.1, fun j hj => ?_, fun j hj => ?_⟩
    · rw [hr2.2]; rcases hle j hj with h | h
      · exact h.le
      · exact h.1.le
    · rw [hr2.2]; rcases hle j (hj.trans hr2.1) with h | h
      · exact h
      · exact absurd h.2 (not_le.mpr hj)
  exact congrArg (BitVec.ofNat 32) ht.eq_top

end Cert.ReferenceIdeal.Ref

end
-- ==== Proof.RefScatter.lean ====
/-
  The reference's three writes into its output, read at one entry.
-/
module

public import proofs.«01_k».proof.Proof.RefGather
public import Idealize.ShloMosaic.Lib.Routing.OpsPair

@[expose] public section

set_option maxRecDepth 16384

noncomputable section

namespace Cert.ReferenceIdeal.Ref

open Cert.ReferenceIdeal Cert.ReferenceIdeal.Gen Idealize.ShloMosaic Idealize.ShloMosaic.TcCoe Cert.Words

/-- Writing the same value over and over, whenever `P` holds. -/
theorem foldl_write {ι α : Type} (L : List ι) (P : ι → Prop) [DecidablePred P] (v : ι → α) (z a : α) (hv : ∀ n ∈ L, P n → v n = z) {Q : Prop} [Decidable Q]
    (hQ : Q ↔ ∃ n ∈ L, P n) : L.foldl (fun b n => if P n then v n else b) a = if Q then z else a := by
  induction L generalizing a Q with
  | nil => rw [List.foldl_nil, if_neg (fun h => by obtain ⟨n, hn, _⟩ := hQ.mp h; exact absurd hn List.not_mem_nil)]
  | cons m L ih =>
    rw [List.foldl_cons, ih _ (fun n hn => hv n (List.mem_cons_of_mem _ hn)) (Q := ∃ n ∈ L, P n) Iff.rfl]
    by_cases h : ∃ n ∈ L, P n
    · obtain ⟨n, hn, hp⟩ := h
      rw [if_pos ⟨n, hn, hp⟩, if_pos (hQ.mpr ⟨n, List.mem_cons_of_mem _ hn, hp⟩)]
    · rw [if_neg h]
      by_cases hm : P m
      · rw [if_pos hm, if_pos (hQ.mpr ⟨m, List.mem_cons_self .., hm⟩), hv m (List.mem_cons_self ..) hm]
      · rw [if_neg hm, if_neg]
        intro q
        obtain ⟨n, hn, hp⟩ := hQ.mp q
        rcases List.mem_cons.mp hn with rfl | hn
        · exact hm hp
        · exact h ⟨n, hn, hp⟩

/-- A write into an array, read at one place: what lands there, if anything does. -/
theorem scatter_write {α : Type} {s si u : Shape} {w : Nat} (d : ScatterDims s si u) (x : s.Idx → α) (J : IVec si w) (g : u.Idx → α) (p : s.Idx) (z : α)
    (hz : ∀ k, d.resultIdx? k J = some p → g k = z) {Q : Prop} [Decidable Q] (hQ : Q ↔ ∃ k, d.resultIdx? k J = some p) :
    Host.scatter d (fun _ b => b) x J g p = if Q then z else x p := by
  classical
  rw [Routing.scatter_at]
  refine (foldl_write _ (fun n => d.resultIdx? (u.rowMajor.symm n) J = some p) (fun n => g (u.rowMajor.symm n)) z _ (fun n _ h => hz _ h) (Q := Q) ?_).trans ?_
  · rw [hQ]
    exact ⟨fun ⟨k, hk⟩ => ⟨u.rowMajor k, List.mem_finRange _, by rw [Equiv.symm_apply_apply]; exact hk⟩, fun ⟨n, _, hn⟩ => ⟨_, hn⟩⟩
  · rfl

variable {F : FTy → Type} [FloatOps F]

/-- The pairs of a row number and a column. -/
theorem pairs_row (I : IVec S4096x10 32) (i : Fin 4096) (c : Fin 10) : pairsT (F := F) I (ix3 i c 0) = BitVec.ofNat 32 i.val := by
  refine Eq.trans (b := wrapT 1 bcast_S_S4096x1 4096#32 rowsT (ix2 i 0)) ?_ (wrap_at _ _ _ i 0 i.val (by have := i.isLt; omega) ?_)
  · unfold pairsT pairUp
    pointwise
  · unfold rowsT
    rw [col_at]
    rfl

theorem pairs_col (I : IVec S4096x10 32) (i : Fin 4096) (c : Fin 10) : pairsT (F := F) I (ix3 i c 1) = wrapT 10 bcast_S_S4096x10 11100#32 I (ix2 i c) := by
  unfold pairsT pairUp
  pointwise

/-- Ten entries per row written at ten columns in a row. -/
theorem set_at (y : FVec F S4096x11100 .f32) (I : IVec S4096x10 32) (g : FVec F S4096x10 .f32) (i : Fin 4096) (j : Fin 11100) (w : ℕ) (hw : w + 10 ≤ 11100)
    (hI : ∀ c : Fin 10, I (ix2 i c) = BitVec.ofNat 32 (w + c.val)) (f : ℕ → F .f32) (hg : ∀ c : Fin 10, g (ix2 i c) = f (w + c.val)) :
    setT y I g (ix2 i j) = if w ≤ j.val ∧ j.val < w + 10 then f j.val else y (ix2 i j) := by
  have land : ∀ (a : Fin 4096) (c : Fin 10), scatter_S4096x11100_S4096x10x2_S4096x10_n_01_01_2.resultIdx? (ix2 a c) (pairsT (F := F) I) = some (ix2 i j)
      ↔ a = i ∧ w + c.val = j.val := by
    intro a c
    have hc := c.isLt
    have e2 : ∀ (m : Fin 4096) (n : Fin 10), (ValueIdx.ix2 m n : S4096x10.Idx) = ix2 m n := fun m n => (eq_ix2 (ValueIdx.ix2 m n)).trans rfl
    have e2' : ∀ (m : Fin 4096) (n : Fin 11100), (ValueIdx.ix2 m n : S4096x11100.Idx) = ix2 m n := fun m n => (eq_ix2 (ValueIdx.ix2 m n)).trans rfl
    have e := Routing.scatter_lands2 scatter_S4096x11100_S4096x10x2_S4096x10_n_01_01_2 rfl rfl rfl (pairsT (F := F) I) a c i j
    rw [← e2, ← e2', e]
    have p0 : pairsT (F := F) I (ValueIdx.ix3 a c 0) = BitVec.ofNat 32 a.val := (congrArg _ (eq_ix3 (ValueIdx.ix3 a c 0))).trans (pairs_row I a c)
    have p1 : pairsT (F := F) I (ValueIdx.ix3 a c 1) = wrapT 10 bcast_S_S4096x10 11100#32 I (ix2 a c) := (congrArg _ (eq_ix3 (ValueIdx.ix3 a c 1))).trans (pairs_col I a c)
    rw [p0, p1, toInt_small (by have := a.isLt; omega)]
    constructor
    · rintro ⟨h1, h2⟩
      obtain rfl : a = i := Fin.ext (by exact_mod_cast h1)
      rw [wrap_at _ _ _ a c (w + c.val) (by omega) (hI c), toInt_small (by omega)] at h2
      exact ⟨rfl, by exact_mod_cast h2⟩
    · rintro ⟨rfl, h2⟩
      rw [wrap_at _ _ _ a c (w + c.val) (by omega) (hI c), toInt_small (by omega)]
      exact ⟨rfl, by exact_mod_cast h2⟩
  unfold setT
  refine scatter_write _ y _ g (ix2 i j) (f j.val) (fun k hk => ?_) ?_
  · rw [eq_ix2 k] at hk ⊢
    obtain ⟨h1, h2⟩ := (land (k 0) (k 1)).mp hk
    rw [h1, ← h2]
    exact hg (k 1)
  · constructor
    · intro h
      exact ⟨ix2 i ⟨j.val - w, by omega⟩, (land _ _).mpr ⟨rfl, by show w + (j.val - w) = j.val; omega⟩⟩
    · rintro ⟨k, hk⟩
      rw [eq_ix2 k] at hk
      have h2 := ((land (k 0) (k 1)).mp hk).2
      have h3 : (k 1).val < 10 := (k 1).isLt
      omega

/-- The logits of level 0, written at the front of each row. -/
theorem fill_at (x : FVec F S4096x11100 .f32) (i : Fin 4096) (j : Fin 11100) :
    fill0T x (ix2 i j) = if j.val < 100 then x (ix2 i j) else FloatOps.ofBits .f32 0xCCBEBC20#32 := by
  have land : ∀ (a : Fin 4096) (c : Fin 100), scatter_S4096x11100_S1_S4096x100_01_n_1_0.resultIdx? (ix2 a c) (broadcastInDim S1 ![] bcast_S_S1 (constantI S_ 32 0#32)) = some (ix2 i j)
      ↔ a = i ∧ c.val = j.val := by
    intro a c
    have w0 : scatter_S4096x11100_S1_S4096x100_01_n_1_0.window (ix2 a c) 0 = a.val := rfl
    have w1 : scatter_S4096x11100_S1_S4096x100_01_n_1_0.window (ix2 a c) 1 = c.val := rfl
    have s0 : scatter_S4096x11100_S1_S4096x100_01_n_1_0.start (ix2 a c) (broadcastInDim S1 ![] bcast_S_S1 (constantI S_ 32 0#32)) 0 = 0 := rfl
    have s1 : scatter_S4096x11100_S1_S4096x100_01_n_1_0.start (ix2 a c) (broadcastInDim S1 ![] bcast_S_S1 (constantI S_ 32 0#32)) 1 = 0 := rfl
    rw [Routing.resultIdx?_eq_some]
    constructor
    · intro h
      have h0 := h 0
      have h1 := h 1
      rw [w0, s0, zero_add] at h0
      rw [w1, s1, zero_add] at h1
      exact ⟨Fin.ext (Int.natCast_inj.mp h0), Int.natCast_inj.mp h1⟩
    · rintro ⟨rfl, h⟩ b
      match b with
      | ⟨0, _⟩ => exact (congrArg₂ (fun (u : ℤ) (v : ℕ) => u + (v : ℤ)) s0 w0).trans (zero_add _)
      | ⟨1, _⟩ => exact (congrArg₂ (fun (u : ℤ) (v : ℕ) => u + (v : ℤ)) s1 w1).trans ((zero_add _).trans (congrArg Nat.cast h))
  unfold fill0T
  refine scatter_write _ _ _ _ (ix2 i j) (x (ix2 i j)) (fun k hk => ?_) ?_
  · rw [eq_ix2 k] at hk ⊢
    obtain ⟨h1, h2⟩ := (land (k 0) (k 1)).mp hk
    rw [← h1]
    have h3 : j = ⟨(k 1).val, by have : (k 1).val < 100 := (k 1).isLt; omega⟩ := Fin.ext h2.symm
    rw [h3]
    pointwise
  · constructor
    · intro h
      exact ⟨ix2 i ⟨j.val, h⟩, (land _ _).mpr ⟨rfl, rfl⟩⟩
    · rintro ⟨k, hk⟩
      rw [eq_ix2 k] at hk
      have h2 := ((land (k 0) (k 1)).mp hk).2
      have h3 : (k 1).val < 100 := (k 1).isLt
      omega

end Cert.ReferenceIdeal.Ref

end
-- ==== Proof.RefValue.lean ====
/-
  The reference's buffers read at one sample, step by step, and its two results.
-/
module

public import proofs.«01_k».proof.Proof.RefRead
public import proofs.«01_k».proof.Proof.RefGather
public import proofs.«01_k».proof.Proof.RefRows
public import proofs.«01_k».proof.Proof.RefScatter

@[expose] public section

set_option maxRecDepth 16384

noncomputable section

namespace Cert.ReferenceIdeal.Ref

open Cert.ReferenceIdeal Cert.ReferenceIdeal.Gen Idealize.ShloMosaic Idealize.ShloMosaic.TcCoe Idealize.SL.Sem Idealize.ShloMosaic.StableHlo Cert.Words
open Cert.Hier (Logits Good row lab lse top pred0 pred1 perRow total outRow outs Kept)

/-- The cross entropy of a row that holds `n` of the sample's logits from column `w` on. -/
theorem ce_at {n : Nat} (hn : 0 < n) (hN : n < 2 ^ 31) (hr : (Mat n).ReducesTo [1] S4096)
    (hb : S4096x1.BroadcastsInDim (Mat n) (![0, 1] : Fin 2 → Fin (Mat n).rank))
    (wf : GatherDims.WF (Mat n) (Mat1 1) (Mat 1) [] [1] [0] [1] [0] 2 ![1, 1]) (N : BitVec 32) (M : ℕ) (hM : M = n - 1)
    (x : FVec Ideal (Mat n) .f32) (l : IVec S4096 32) (i : Fin 4096) (f : ℕ → EReal) (w p : ℕ) (hp : p < n)
    (hx : ∀ j : Fin n, x (ix2 i j) = f (w + j.val)) (hf : ∀ j, f j ≠ ⊤) (hl : l (ix1 i) = BitVec.ofNat 32 p) :
    ceT n hr hb (colsDims n 1 wf) N (BitVec.ofNat 32 M) x l (ix1 i) = lse f w n - f (w + p) :=
  congrArg₂ (fun u v : EReal => u - v) (lse_at hn hr hb x i f w hx hf) ((pick_at hN wf N M hM x l i ⟨p, hp⟩ hl).trans (hx ⟨p, hp⟩))

variable (V : Valuation τ sig (Elt Ideal)) (i : Fin 4096)

/-- The logits. -/
abbrev X : Logits := fin V (Proc.devRef .tc main_arg0)
/-- The labels. -/
abbrev L : Hier.Labels := fin V (Proc.devRef .tc main_arg2)

/-- A number per sample, read at a sample. -/
abbrev word (b : IVec S4096 32) : BitVec 32 := b (ix1 i)

theorem slice0 (x : Logits) (j : Fin 100) : (extractStridedSlice S4096x100 ![0, 0] x slices_S4096x11100_S4096x100_0_0 : S4096x100.Idx → EReal) (ix2 i j) = row x i (0 + j.val) := by
  have hj := j.isLt
  rw [Nat.zero_add]
  exact Eq.trans (b := x (ix2 i ⟨j.val, by omega⟩)) (by pointwise) (Hier.row_of x i ⟨j.val, by omega⟩).symm

theorem slice1 (x : Logits) (j : Fin 1000) : (extractStridedSlice S4096x1000 ![0, 100] x slices_S4096x11100_S4096x1000_0_100 : S4096x1000.Idx → EReal) (ix2 i j) = row x i (100 + j.val) := by
  have hj := j.isLt
  exact Eq.trans (b := x (ix2 i ⟨100 + j.val, by omega⟩)) (by pointwise) (Hier.row_of x i ⟨100 + j.val, by omega⟩).symm

theorem slice2 (x : Logits) (j : Fin 10000) : (extractStridedSlice S4096x10000 ![0, 1100] x slices_S4096x11100_S4096x10000_0_1100 : S4096x10000.Idx → EReal) (ix2 i j) = row x i (1100 + j.val) := by
  have hj := j.isLt
  exact Eq.trans (b := x (ix2 i ⟨1100 + j.val, by omega⟩)) (by pointwise) (Hier.row_of x i ⟨1100 + j.val, by omega⟩).symm

/-- Ten logits of a sample from column `w` on. -/
theorem ten_at (x : Logits) (I : IVec S4096x10 32) (w : ℕ) (hw : w + 10 ≤ 11100) (hI : ∀ c : Fin 10, I (ix2 i c) = BitVec.ofNat 32 (w + c.val)) (c : Fin 10) :
    (take10T (F := Ideal) x I : S4096x10.Idx → EReal) (ix2 i c) = row x i (w + c.val) :=
  (take10T_at (F := Ideal) x I i c ⟨w + c.val, by have := c.isLt; omega⟩ (hI c)).trans (Hier.row_of x i ⟨w + c.val, by have := c.isLt; omega⟩).symm

theorem v1_at : word i (fin V (Proc.devRef .tc main_v1)) = BitVec.ofNat 32 (lab (L V) i 0) := (congrFun (eqLab_1 V) _).trans (lab_at 0 _ _ i)
theorem v3_at : word i (fin V (Proc.devRef .tc main_v3)) = BitVec.ofNat 32 (lab (L V) i 1) := (congrFun (eqLab_3 V) _).trans (lab_at 1 _ _ i)
theorem v5_at : word i (fin V (Proc.devRef .tc main_v5)) = BitVec.ofNat 32 (lab (L V) i 2) := (congrFun (eqLab_5 V) _).trans (lab_at 2 _ _ i)

section labels
variable (hg : Good (X V) (L V))
include hg

theorem v8_at : word i (fin V (Proc.devRef .tc main_v8)) = BitVec.ofNat 32 (lab (L V) i 1 - 10 * lab (L V) i 0) :=
  (congrFun (eqLab_8 V) _).trans (rel_at _ _ i _ _ (lab_at 1 _ _ i) (lab_at 0 _ _ i) (hg.lab1 i).1)
theorem v11_at : word i (fin V (Proc.devRef .tc main_v11)) = BitVec.ofNat 32 (lab (L V) i 2 - 10 * lab (L V) i 1) :=
  (congrFun (eqLab_11 V) _).trans (rel_at _ _ i _ _ (lab_at 2 _ _ i) (lab_at 1 _ _ i) (hg.lab2 i).1)

/-- The cross entropy of level 0. -/
theorem v31_at : (fin V (Proc.devRef .tc main_v31) : FVec Ideal S4096 .f32) (ix1 i) = lse (row (X V) i) 0 100 - row (X V) i (lab (L V) i 0) := by
  refine (congrFun (eqCe0_31 V) _).trans ((ce_at (by decide) (by decide) _ _ gather_S4096x100_S4096x1x1_S4096x1_n_1_0_0_1_2_11_wf _ 99 rfl _ _ i
    (row (X V) i) 0 (lab (L V) i 0) (hg.lab0 i) (slice0 i (X V)) (hg.row i) (v1_at V i)).trans ?_)
  rw [Nat.zero_add]

/-- The cross entropies over all of a level. -/
theorem v103_at : (fin V (Proc.devRef .tc main_v103) : FVec Ideal S4096 .f32) (ix1 i) = lse (row (X V) i) 100 1000 - row (X V) i (100 + lab (L V) i 1) :=
  (congrFun (eqCe3_103 V) _).trans (ce_at (by decide) (by decide) _ _ gather_S4096x1000_S4096x1x1_S4096x1_n_1_0_0_1_2_11_wf _ 999 rfl _ _ i
    (row (X V) i) 100 (lab (L V) i 1) (hg.lab1_lt i) (slice1 i (X V)) (hg.row i) (v3_at V i))
theorem v121_at : (fin V (Proc.devRef .tc main_v121) : FVec Ideal S4096 .f32) (ix1 i) = lse (row (X V) i) 1100 10000 - row (X V) i (1100 + lab (L V) i 2) :=
  (congrFun (eqCe4_121 V) _).trans (ce_at (by decide) (by decide) _ _ gather_S4096x10000_S4096x1x1_S4096x1_n_1_0_0_1_2_11_wf _ 9999 rfl _ _ i
    (row (X V) i) 1100 (lab (L V) i 2) (hg.lab2_lt i) (slice2 i (X V)) (hg.row i) (v5_at V i))

/-- The logits of the children of the level 0 label, and of the level 1 label. -/
theorem v41_at (c : Fin 10) : (fin V (Proc.devRef .tc main_v41) : FVec Ideal S4096x10 .f32) (ix2 i c) = row (X V) i (100 + 10 * lab (L V) i 0 + c.val) := by
  have h := hg.lab0 i
  refine (congrFun (eqTk1_41 V) _).trans (ten_at i (X V) _ _ (by omega) (fun c => ?_) c)
  exact (congrFun (eqIx1_40 V) _).trans (child_at 100 _ _ i c (v1_at V i))
theorem v68_at (c : Fin 10) : (fin V (Proc.devRef .tc main_v68) : FVec Ideal S4096x10 .f32) (ix2 i c) = row (X V) i (1100 + 10 * lab (L V) i 1 + c.val) := by
  have h := hg.lab1_lt i
  refine (congrFun (eqTk2_68 V) _).trans (ten_at i (X V) _ _ (by omega) (fun c => ?_) c)
  exact (congrFun (eqIx2_67 V) _).trans (child_at 1100 _ _ i c (v3_at V i))

/-- The cross entropies among siblings. -/
theorem v58_at : (fin V (Proc.devRef .tc main_v58) : FVec Ideal S4096 .f32) (ix1 i)
    = lse (row (X V) i) (100 + 10 * lab (L V) i 0) 10 - row (X V) i (100 + lab (L V) i 1) := by
  have h := hg.lab1 i
  refine (congrFun (eqCe1_58 V) _).trans ((ce_at (by decide) (by decide) _ _ gather_S4096x10_S4096x1x1_S4096x1_n_1_0_0_1_2_11_wf _ 9 rfl _ _ i
    (row (X V) i) (100 + 10 * lab (L V) i 0) (lab (L V) i 1 - 10 * lab (L V) i 0) (by omega) (v41_at V i hg) (hg.row i) (v8_at V i hg)).trans ?_)
  rw [show 100 + 10 * lab (L V) i 0 + (lab (L V) i 1 - 10 * lab (L V) i 0) = 100 + lab (L V) i 1 by omega]
theorem v85_at : (fin V (Proc.devRef .tc main_v85) : FVec Ideal S4096 .f32) (ix1 i)
    = lse (row (X V) i) (1100 + 10 * lab (L V) i 1) 10 - row (X V) i (1100 + lab (L V) i 2) := by
  have h := hg.lab2 i
  refine (congrFun (eqCe2_85 V) _).trans ((ce_at (by decide) (by decide) _ _ gather_S4096x10_S4096x1x1_S4096x1_n_1_0_0_1_2_11_wf _ 9 rfl _ _ i
    (row (X V) i) (1100 + 10 * lab (L V) i 1) (lab (L V) i 2 - 10 * lab (L V) i 1) (by omega) (v68_at V i hg) (hg.row i) (v11_at V i hg)).trans ?_)
  rw [show 1100 + 10 * lab (L V) i 1 + (lab (L V) i 2 - 10 * lab (L V) i 1) = 1100 + lab (L V) i 2 by omega]

end labels

/-- The predicted class of level 0. -/
theorem v123_at : word i (fin V (Proc.devRef .tc main_v123)) = BitVec.ofNat 32 (pred0 (row (X V) i)) :=
  (congrFun (eqAm0_123 V) _).trans (am_at (by decide) (by decide) _ _ i (row (X V) i) 0 (slice0 i (X V)))

/-- The columns of its children. -/
theorem v133_at (c : Fin 10) : (fin V (Proc.devRef .tc main_v133) : IVec S4096x10 32) (ix2 i c) = BitVec.ofNat 32 (100 + 10 * pred0 (row (X V) i) + c.val) :=
  (congrFun (eqIx3_133 V) _).trans (child_at 100 _ _ i c (v123_at V i))

/-- Their logits. -/
theorem v134_at (c : Fin 10) : (fin V (Proc.devRef .tc main_v134) : FVec Ideal S4096x10 .f32) (ix2 i c) = row (X V) i (100 + 10 * pred0 (row (X V) i) + c.val) := by
  have h := Hier.pred0_lt (row (X V) i)
  exact (congrFun (eqTk3_134 V) _).trans (ten_at i (X V) _ _ (by omega) (v133_at V i) c)

/-- The best child. -/
theorem v135_at : word i (fin V (Proc.devRef .tc main_v135)) = BitVec.ofNat 32 (top (row (X V) i) (100 + 10 * pred0 (row (X V) i)) 10) :=
  (congrFun (eqAm1_135 V) _).trans (am_at (by decide) (by decide) _ _ i (row (X V) i) _ (v134_at V i))

/-- Its column. -/
theorem v138_at : word i (fin V (Proc.devRef .tc main_v138)) = BitVec.ofNat 32 (100 + pred1 (row (X V) i)) := by
  refine (congrFun (eqPk1_138 V) _).trans ((pickColT_at _ _ i ⟨_, Hier.top_lt (row (X V) i) (100 + 10 * pred0 (row (X V) i)) (d := 10) (by decide)⟩ (v135_at V i)).trans
    ((v133_at V i _).trans (congrArg (BitVec.ofNat 32) ?_)))
  show 100 + 10 * pred0 (row (X V) i) + top (row (X V) i) (100 + 10 * pred0 (row (X V) i)) 10 = _
  unfold pred1
  omega

/-- The columns of the children of the predicted class of level 1. -/
theorem v151_at (c : Fin 10) : (fin V (Proc.devRef .tc main_v151) : IVec S4096x10 32) (ix2 i c) = BitVec.ofNat 32 (1100 + 10 * pred1 (row (X V) i) + c.val) := by
  refine (congrFun (eqIx4_151 V) _).trans (child_at 1100 _ _ i c ?_)
  show IntOp.subi (word i (fin V (Proc.devRef .tc main_v138))) (BitVec.ofNat 32 100) = _
  rw [v138_at, subi_eq (by omega), Nat.add_sub_cancel_left]

/-- Their logits. -/
theorem v152_at (c : Fin 10) : (fin V (Proc.devRef .tc main_v152) : FVec Ideal S4096x10 .f32) (ix2 i c) = row (X V) i (1100 + 10 * pred1 (row (X V) i) + c.val) := by
  have h := Hier.pred1_lt (row (X V) i)
  exact (congrFun (eqTk4_152 V) _).trans (ten_at i (X V) _ _ (by omega) (v151_at V i) c)

/-- Whether level 0 is predicted wrongly. -/
theorem v124_at (hg : Good (X V) (L V)) : (fin V (Proc.devRef .tc main_v124) : IVec S4096 1) (ix1 i) = 1#1 ↔ pred0 (row (X V) i) ≠ lab (L V) i 0 := by
  have e : (fin V (Proc.devRef .tc main_v124) : IVec S4096 1) (ix1 i) = IntOp.cmpi .ne (BitVec.ofNat 32 (pred0 (row (X V) i))) (BitVec.ofNat 32 (lab (L V) i 0)) :=
    (congrFun (eqAm0_124 V) _).trans (congrArg₂ (IntOp.cmpi .ne) (am_at (by decide) (by decide) _ _ i (row (X V) i) 0 (slice0 i (X V))) (v1_at V i))
  have h0 := Hier.pred0_lt (row (X V) i)
  have h1 := hg.lab0 i
  rw [e]
  exact ne_iff (by omega) (by omega)

/-- Whether level 0 or level 1 is predicted wrongly. -/
theorem v140_at (hg : Good (X V) (L V)) : (fin V (Proc.devRef .tc main_v140) : IVec S4096 1) (ix1 i) = 1#1
    ↔ pred0 (row (X V) i) ≠ lab (L V) i 0 ∨ pred1 (row (X V) i) ≠ lab (L V) i 1 := by
  have e : (fin V (Proc.devRef .tc main_v140) : IVec S4096 1) (ix1 i) = IntOp.ori ((fin V (Proc.devRef .tc main_v124) : IVec S4096 1) (ix1 i))
      (IntOp.cmpi .ne (BitVec.ofNat 32 (top (row (X V) i) (100 + 10 * pred0 (row (X V) i)) 10)) (BitVec.ofNat 32 (lab (L V) i 1 - 10 * lab (L V) i 0))) :=
    (congrFun (eqWr1_140 V) _).trans (congrArg (IntOp.ori _) (congrArg₂ (IntOp.cmpi .ne) (v135_at V i) (v8_at V i hg)))
  have h0 := Hier.top_lt (row (X V) i) (100 + 10 * pred0 (row (X V) i)) (d := 10) (by decide)
  have h1 := hg.lab1 i
  have h2 := hg.lab0 i
  rw [e, ori_iff (v124_at V i hg) (ne_iff (by omega) (by omega))]
  unfold pred1
  omega

/-- The first result at an entry. -/
theorem v199_at (j : Fin 11100) : (fin V (Proc.devRef .tc main_v199) : Logits) (ix2 i j) = outRow (row (X V) i) j.val := by
  have h0 := Hier.pred0_lt (row (X V) i)
  have h1 := Hier.pred1_lt (row (X V) i)
  have f := fill_at (F := Ideal) (X V) i j
  have s1 := set_at (F := Ideal) (fin V (Proc.devRef .tc main_v167)) _ _ i j _ (by omega) (v133_at V i) (row (X V) i) (v134_at V i)
  have s2 := set_at (F := Ideal) (fin V (Proc.devRef .tc main_v184)) _ _ i j _ (by omega) (v151_at V i) (row (X V) i) (v152_at V i)
  have e1 := (congrFun (eqSc1_184 V) (ix2 i j)).trans s1
  have e0 := (congrFun (eqSc0_167 V) (ix2 i j)).trans f
  refine (congrFun (eqSc2_199 V) (ix2 i j)).trans (s2.trans ?_)
  have e2 : X V (ix2 i j) = row (X V) i j.val := (Hier.row_of (X V) i j).symm
  rw [e1, e0, e2]
  have hK : (1100 + 10 * pred1 (row (X V) i) ≤ j.val ∧ j.val < 1100 + 10 * pred1 (row (X V) i) + 10)
      ∨ ((100 + 10 * pred0 (row (X V) i) ≤ j.val ∧ j.val < 100 + 10 * pred0 (row (X V) i) + 10) ∨ j.val < 100) ↔ Kept (row (X V) i) j.val := by
    unfold Kept; omega
  rw [← Hier.outRow_of (row (X V) i) j.val hK]
  split_ifs <;> first | rfl | omega

/-- The first result. -/
theorem v199_eq : (fin V (Proc.devRef .tc main_v199) : Logits) = outs (X V) := by
  funext p
  have e : p = ix2 (p 0) (p 1) := eq_ix2 p
  exact (congrArg (fin V (Proc.devRef .tc main_v199) : Logits) e).trans (v199_at V (p 0) (p 1))

theorem one_bits : Ideal.ofBits .f32 0x3F800000#32 = 1 := by
  simp [Ideal.ofBits, Ideal.ieee]
  rw [← EReal.coe_mul]
  norm_num

/-- The second result. -/
theorem v163_eq (hg : Good (X V) (L V)) : fin V (Proc.devRef .tc main_v163) = fun _ => total (X V) (L V) := by
  rw [eqLos_163]
  funext p
  have once : ∀ (a : FVec Ideal S4096 .f32) (k : Fin 4096), onceT a (ix1 k) = a (ix1 k) := fun a k => by
    refine Eq.trans (b := Ideal.ofBits .f32 0x3F800000#32 * a (ix1 k)) ?_ ?_
    · unfold onceT
      pointwise
    · rw [one_bits, one_mul]
  have key : ∀ (w0 w1 : IVec S4096 1) (a b b' c c' : FVec Ideal S4096 .f32), lossT w0 w1 a b b' c c' p
      = ∑ k : Fin 4096, (onceT a (ix1 k) + onceT (select w0 b b') (ix1 k) + onceT (select w1 c c') (ix1 k)) := fun w0 w1 a b b' c c' => by
    unfold lossT
    pointwise
  refine (key _ _ _ _ _ _ _).trans (Finset.sum_congr rfl fun k _ => ?_)
  rw [once, once, once, select_at, select_at, select_iff (v124_at V k hg), select_iff (v140_at V k hg), v31_at V k hg, v103_at V k hg, v58_at V k hg,
    v121_at V k hg, v85_at V k hg]
  unfold perRow
  congr 1
  · congr 1
    split_ifs <;> rfl
  · split_ifs <;> rfl

end Cert.ReferenceIdeal.Ref

end
-- ==== Proof.Equal.lean ====
/-
  The idealized kernel and the reference leave equal results.
-/
module

public import proofs.«01_k».proof.Proof.Domain
public import proofs.«01_k».proof.Proof.Frames
public import proofs.«01_k».proof.Proof.KernelRun
public import proofs.«01_k».proof.Proof.RefValue

@[expose] public section

noncomputable section

namespace Cert.Proof

open Idealize.ShloMosaic Idealize.ShloMosaic.TcCoe Idealize.SL.Sem

attribute [local instance] Cert.KernelIdeal.Gen.facts Cert.ReferenceIdeal.Gen.facts Cert.Domain.facts

/-- What the reference's run leaves, from arguments that are good. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (hg : ∀ c : Dev Cert.ReferenceIdeal.nD, Cert.Hier.Good (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD,
        r.2.mem ((c.tc : Thread Cert.ReferenceIdeal.nD Cert.ReferenceIdeal.τ).loc Cert.ReferenceIdeal.main_v199)
            = Cert.Hier.outs (m ((c.tc : Thread Cert.ReferenceIdeal.nD Cert.ReferenceIdeal.τ).loc Cert.ReferenceIdeal.main_arg0))
          ∧ r.2.mem ((c.tc : Thread Cert.ReferenceIdeal.nD Cert.ReferenceIdeal.τ).loc Cert.ReferenceIdeal.main_v163)
            = (fun _ => Cert.Hier.total (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg2)))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) := by
  refine (θ_run Cert.ReferenceIdeal.defs _ _).mono (fun r h c => ?_) (Cert.ReferenceIdeal.Ref.run m ρ)
  have a0 := Cert.ReferenceIdeal.Ref.eqArg_0 (StableHlo.launchContents m c)
  have a1 := Cert.ReferenceIdeal.Ref.eqArg_1 (StableHlo.launchContents m c)
  have a2 := Cert.ReferenceIdeal.Ref.eqArg_2 (StableHlo.launchContents m c)
  have g : Cert.Hier.Good (Cert.ReferenceIdeal.Ref.X (StableHlo.launchContents m c)) (Cert.ReferenceIdeal.Ref.L (StableHlo.launchContents m c)) := by
    rw [Cert.ReferenceIdeal.Ref.X, Cert.ReferenceIdeal.Ref.L, a0, a2]
    exact hg c
  refine ⟨(h c _).trans ((Cert.ReferenceIdeal.Ref.v199_eq _).trans ?_), (h c _).trans ((Cert.ReferenceIdeal.Ref.v163_eq _ g).trans ?_),
    (h c _).trans a0, (h c _).trans a1, (h c _).trans a2⟩
  · rw [Cert.ReferenceIdeal.Ref.X, a0]
  · rw [Cert.ReferenceIdeal.Ref.X, Cert.ReferenceIdeal.Ref.L, a0, a2]

/-- On the domain the idealized kernel and the reference end with equal results, both of them, as extended reals. -/
theorem algebraic : Cert.algebraic_KernelIdeal_ReferenceIdeal_pre_in_domain := by
  intro m g m' g' hp ha
  have hk : ∀ c : Dev Cert.KernelIdeal.nD, Cert.Hier.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) := fun c => Cert.Domain.good _ _ _ (hp c)
  have hr : ∀ c : Dev Cert.ReferenceIdeal.nD, Cert.Hier.Good (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2)) := fun c => by
    rw [(ha c).1, (ha c).2.2]
    exact hk c
  refine ⟨_, _, Cert.KernelIdeal.Value.run m g hk, (θ_run Cert.ReferenceIdeal.defs _ _).mono (fun r h c => ?_) (reference_run m' g' hr)⟩
  obtain ⟨h0, h1, h2⟩ := h c
  refine ⟨h0.trans ?_, h1.trans ?_, h2⟩
  · exact congrArg Cert.Hier.outs (ha c).1
  · exact congrArg₂ (fun x l => fun _ => Cert.Hier.total x l) (ha c).1 (ha c).2.2

end Cert.Proof

end
-- ==== Proof.lean ====
/-
  The certificate: the kernel, its idealization and the reference run and leave their arguments unchanged, the idealization only names
  the mask, and on the domain the idealized kernel and the reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Domain
public import proofs.«01_k».proof.Proof.Frames
public import proofs.«01_k».proof.Proof.Equal

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Domain.facts,
    frame_p, frame_pi, fun m g _ => frame_pi m g trivial, frame_ri, fun m g _ => frame_ri m g trivial, preserves, algebraic⟩

end Cert.Proof

end
